-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "gelu_cubic" .f32 0xBDD2D3E8#32 ((-((2 * ((6693141 / 8388608) * (12003091 / 268435456))) * (Real.log 2)⁻¹) : ℝ) : EReal)
  ∧ IdealRules.named_const.Statement Cert.Kernel2Ideal.κ "gelu_linear" .f32 0xC0135761#32 ((-((2 * (6693141 / 8388608)) * (Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  IdealRules.named_const.Statement Cert.Kernel6Ideal.κ "gelu_cubic" .f32 0xBDD2D3E8#32 ((-((2 * ((6693141 / 8388608) * (12003091 / 268435456))) * (Real.log 2)⁻¹) : ℝ) : EReal)
  ∧ IdealRules.named_const.Statement Cert.Kernel6Ideal.κ "gelu_linear" .f32 0xC0135761#32 ((-((2 * (6693141 / 8388608)) * (Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S32768x1024 : Shape := ⟨2, ![32768, 1024]⟩
abbrev S1024 : Shape := ⟨1, ![1024]⟩
abbrev S1024x1024 : Shape := ⟨2, ![1024, 1024]⟩
abbrev S1x1024 : Shape := ⟨2, ![1, 1024]⟩
abbrev S3x1024x1024 : Shape := ⟨3, ![3, 1024, 1024]⟩
abbrev S3 : Shape := ⟨1, ![3]⟩
abbrev S2x1024x1024 : Shape := ⟨3, ![2, 1024, 1024]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x256 : Shape := ⟨2, ![1024, 256]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S3x1024x1024, .f32⟩
  | .local _ .vmem, ⟨1, _⟩ => ⟨S3x1024x1024, .bf16⟩
  | .local _ .vmem, ⟨2, _⟩ => ⟨S3x1024x1024, .bf16⟩
  | .local _ .vmem, ⟨3, _⟩ => ⟨S3x1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S2x1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped9 : Ref sig .tc := ⟨.vmem, 5, rfl⟩
abbrev cc0_scoped10 : Ref sig .tc := ⟨.vmem, 6, rfl⟩
abbrev cc0_scoped11 : Ref sig .tc := ⟨.vmem, 7, rfl⟩

abbrev nD : Nat := 1
abbrev τ : Topo := Topo.v7x

variable {F : FTy → Type} [FloatOps F]

abbrev grid0 : Pipeline.Grid := .none

def k0_off1 : Fin 1 → Nat :=
  let c0_i32_23_r0 : BitVec 32 := 0#32
  let c3_i32_r0 : BitVec 32 := 3#32
  let v23_r0 : BitVec 32 := Scalar.remui c0_i32_23_r0 c3_i32_r0
  ![v23_r0.toNat]
def k0_off2 : Fin 3 → Nat :=
  let c0_i32_23_r0 : BitVec 32 := 0#32
  let c3_i32_r0 : BitVec 32 := 3#32
  let v23_r0 : BitVec 32 := Scalar.remui c0_i32_23_r0 c3_i32_r0
  let c0_i32_24_r0 : BitVec 32 := 0#32
  let c0_i32_25_r0 : BitVec 32 := 0#32
  ![v23_r0.toNat, 0, 0]
def k0_cond1 : BitVec 1 :=
  let true_55_r0 : BitVec 1 := 1#1
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let c0_i32_54_r0 : BitVec 32 := 0#32
  let v51_r0 : BitVec 1 := Scalar.cmpi .ne v12_r0 c0_i32_54_r0
  let v52_r0 : BitVec 1 := Scalar.andi true_55_r0 v51_r0
  let true_56_r0 : BitVec 1 := 1#1
  let v53_r0 : BitVec 1 := Scalar.andi v52_r0 true_56_r0
  let v54_r0 : BitVec 32 := Scalar.extui v53_r0
  let c0_i32_57_r0 : BitVec 32 := 0#32
  let v55_r0 : BitVec 1 := Scalar.cmpi .ne v54_r0 c0_i32_57_r0
  v55_r0

def k0_off3 : Fin 1 → Nat :=
  let c0_i32_28_r0 : BitVec 32 := 0#32
  let c1_i32_29_r0 : BitVec 32 := 1#32
  let v29_r0 : BitVec 32 := Scalar.addi c0_i32_28_r0 c1_i32_29_r0
  let c3_i32_119_r0 : BitVec 32 := 3#32
  let v113_r0 : BitVec 32 := Scalar.remui v29_r0 c3_i32_119_r0
  ![v113_r0.toNat]
def k0_off4 : Fin 3 → Nat :=
  let c0_i32_28_r0 : BitVec 32 := 0#32
  let c1_i32_29_r0 : BitVec 32 := 1#32
  let v29_r0 : BitVec 32 := Scalar.addi c0_i32_28_r0 c1_i32_29_r0
  let c3_i32_119_r0 : BitVec 32 := 3#32
  let v113_r0 : BitVec 32 := Scalar.remui v29_r0 c3_i32_119_r0
  let c0_i32_121_r0 : BitVec 32 := 0#32
  let c0_i32_122_r0 : BitVec 32 := 0#32
  ![v113_r0.toNat, 0, 0]
def k0_off5 : Fin 2 → Nat :=
  let c1024_i32_120_r0 : BitVec 32 := 1024#32
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let v114_r0 : BitVec 32 := Scalar.muli c1024_i32_120_r0 v12_r0
  let c0_i32_123_r0 : BitVec 32 := 0#32
  ![v114_r0.toNat, 0]
def k0_cond2 : BitVec 1 :=
  let true_60_r0 : BitVec 1 := 1#1
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let c0_i32_59_r0 : BitVec 32 := 0#32
  let v58_r0 : BitVec 1 := Scalar.cmpi .ne v12_r0 c0_i32_59_r0
  let v59_r0 : BitVec 1 := Scalar.andi true_60_r0 v58_r0
  let true_61_r0 : BitVec 1 := 1#1
  let v60_r0 : BitVec 1 := Scalar.andi v59_r0 true_61_r0
  let v61_r0 : BitVec 32 := Scalar.extui v60_r0
  let c0_i32_62_r0 : BitVec 32 := 0#32
  let v62_r0 : BitVec 1 := Scalar.cmpi .ne v61_r0 c0_i32_62_r0
  v62_r0

def k0_off6 : Fin 1 → Nat :=
  let c0_i32_36_r0 : BitVec 32 := 0#32
  let c1_i32_37_r0 : BitVec 32 := 1#32
  let v36_r0 : BitVec 32 := Scalar.addi c0_i32_36_r0 c1_i32_37_r0
  let c3_i32_119_r0 : BitVec 32 := 3#32
  let v113_r0 : BitVec 32 := Scalar.remui v36_r0 c3_i32_119_r0
  ![v113_r0.toNat]
def k0_off7 : Fin 3 → Nat :=
  let c0_i32_36_r0 : BitVec 32 := 0#32
  let c1_i32_37_r0 : BitVec 32 := 1#32
  let v36_r0 : BitVec 32 := Scalar.addi c0_i32_36_r0 c1_i32_37_r0
  let c3_i32_119_r0 : BitVec 32 := 3#32
  let v113_r0 : BitVec 32 := Scalar.remui v36_r0 c3_i32_119_r0
  let c0_i32_121_r0 : BitVec 32 := 0#32
  let c0_i32_122_r0 : BitVec 32 := 0#32
  ![v113_r0.toNat, 0, 0]
def k0_off8 : Fin 2 → Nat :=
  let c1024_i32_120_r0 : BitVec 32 := 1024#32
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let v114_r0 : BitVec 32 := Scalar.muli c1024_i32_120_r0 v12_r0
  let c0_i32_123_r0 : BitVec 32 := 0#32
  ![v114_r0.toNat, 0]
def k0_cond3 : BitVec 1 :=
  let true_65_r0 : BitVec 1 := 1#1
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let c0_i32_64_r0 : BitVec 32 := 0#32
  let v65_r0 : BitVec 1 := Scalar.cmpi .ne v12_r0 c0_i32_64_r0
  let v66_r0 : BitVec 1 := Scalar.andi true_65_r0 v65_r0
  let true_66_r0 : BitVec 1 := 1#1
  let v67_r0 : BitVec 1 := Scalar.andi v66_r0 true_66_r0
  let v68_r0 : BitVec 32 := Scalar.extui v67_r0
  let c0_i32_67_r0 : BitVec 32 := 0#32
  let v69_r0 : BitVec 1 := Scalar.cmpi .ne v68_r0 c0_i32_67_r0
  v69_r0

def k0_off9 : Fin 1 → Nat :=
  let c0_i32_44_r0 : BitVec 32 := 0#32
  let c1_i32_45_r0 : BitVec 32 := 1#32
  let v43_r0 : BitVec 32 := Scalar.addi c0_i32_44_r0 c1_i32_45_r0
  let c3_i32_119_r0 : BitVec 32 := 3#32
  let v113_r0 : BitVec 32 := Scalar.remui v43_r0 c3_i32_119_r0
  ![v113_r0.toNat]
def k0_off10 : Fin 3 → Nat :=
  let c0_i32_44_r0 : BitVec 32 := 0#32
  let c1_i32_45_r0 : BitVec 32 := 1#32
  let v43_r0 : BitVec 32 := Scalar.addi c0_i32_44_r0 c1_i32_45_r0
  let c3_i32_119_r0 : BitVec 32 := 3#32
  let v113_r0 : BitVec 32 := Scalar.remui v43_r0 c3_i32_119_r0
  let c0_i32_121_r0 : BitVec 32 := 0#32
  let c0_i32_122_r0 : BitVec 32 := 0#32
  ![v113_r0.toNat, 0, 0]
def k0_off11 : Fin 2 → Nat :=
  let c1024_i32_120_r0 : BitVec 32 := 1024#32
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let v114_r0 : BitVec 32 := Scalar.muli c1024_i32_120_r0 v12_r0
  let c0_i32_123_r0 : BitVec 32 := 0#32
  ![v114_r0.toNat, 0]
def k0_cond4 : BitVec 1 :=
  let true_70_r0 : BitVec 1 := 1#1
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let c0_i32_69_r0 : BitVec 32 := 0#32
  let v72_r0 : BitVec 1 := Scalar.cmpi .ne v12_r0 c0_i32_69_r0
  let v73_r0 : BitVec 1 := Scalar.andi true_70_r0 v72_r0
  let true_71_r0 : BitVec 1 := 1#1
  let v74_r0 : BitVec 1 := Scalar.andi v73_r0 true_71_r0
  let v75_r0 : BitVec 32 := Scalar.extui v74_r0
  let c0_i32_72_r0 : BitVec 32 := 0#32
  let v76_r0 : BitVec 1 := Scalar.cmpi .ne v75_r0 c0_i32_72_r0
  v76_r0

def k0_off12 : Fin 1 → Nat :=
  let c0_i32_52_r0 : BitVec 32 := 0#32
  let c1_i32_53_r0 : BitVec 32 := 1#32
  let v50_r0 : BitVec 32 := Scalar.addi c0_i32_52_r0 c1_i32_53_r0
  let c3_i32_119_r0 : BitVec 32 := 3#32
  let v113_r0 : BitVec 32 := Scalar.remui v50_r0 c3_i32_119_r0
  ![v113_r0.toNat]
def k0_off13 : Fin 3 → Nat :=
  let c0_i32_52_r0 : BitVec 32 := 0#32
  let c1_i32_53_r0 : BitVec 32 := 1#32
  let v50_r0 : BitVec 32 := Scalar.addi c0_i32_52_r0 c1_i32_53_r0
  let c3_i32_119_r0 : BitVec 32 := 3#32
  let v113_r0 : BitVec 32 := Scalar.remui v50_r0 c3_i32_119_r0
  let c0_i32_121_r0 : BitVec 32 := 0#32
  let c0_i32_122_r0 : BitVec 32 := 0#32
  ![v113_r0.toNat, 0, 0]
def k0_off14 : Fin 2 → Nat :=
  let c1024_i32_120_r0 : BitVec 32 := 1024#32
  let true_9_r0 : BitVec 1 := 1#1
  let c1_i32_r0 : BitVec 32 := 1#32
  let c0_i32_10_r0 : BitVec 32 := 0#32
  let v9_r0 : BitVec 32 := Scalar.select true_9_r0 c1_i32_r0 c0_i32_10_r0
  let c32_i32_r0 : BitVec 32 := 32#32
  let v10_r0 : BitVec 1 := Scalar.cmpi .eq v9_r0 c32_i32_r0
  let c0_i32_11_r0 : BitVec 32 := 0#32
  let v11_r0 : BitVec 32 := Scalar.select v10_r0 c0_i32_11_r0 v9_r0
  let c0_i32_12_r0 : BitVec 32 := 0#32
  let v12_r0 : BitVec 32 := Scalar.addi v11_r0 c0_i32_12_r0
  let v114_r0 : BitVec 32 := Scalar.muli c1024_i32_120_r0 v12_r0
  let c0_i32_123_r0 : BitVec 32 := 0#32
  ![v114_r0.toNat, 0]
@[reducible] def k0_t1_loop : Scf.Loop 32 :=
  let c0_i32_87_r0 : BitVec 32 := 0#32
  let c32_i32_88_r0 : BitVec 32 := 32#32
  let v79_r0 : BitVec 32 := Scalar.addi c0_i32_87_r0 c32_i32_88_r0
  let c1_i32_89_r0 : BitVec 32 := 1#32
  ⟨c0_i32_87_r0, v79_r0, c1_i32_89_r0⟩
def k0_off15 (arg9_r0 : BitVec 32) : Fin 1 → Nat :=
  let c3_i32_255_r0 : BitVec 32 := 3#32
  let v400_r0 : BitVec 32 := Scalar.remui arg9_r0 c3_i32_255_r0
  ![v400_r0.toNat]
def k0_cond5 (k0_t1 : Fin k0_t1_loop.trips) (arg22_r0 : BitVec 32) : BitVec 1 :=
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c0_i32_131_r0 : BitVec 32 := 0#32
  let v125_r0 : BitVec 32 := Scalar.addi v124_r0 c0_i32_131_r0
  let true_133_r0 : BitVec 1 := 1#1
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v136_r0 : BitVec 1 := Scalar.cmpi .ne v125_r0 v130_r0
  let c0_i32_87_r0 : BitVec 32 := 0#32
  let c1_i32_89_r0 : BitVec 32 := 1#32
  let arg8_r0 : BitVec 32 := Scf.iv c0_i32_87_r0 c1_i32_89_r0 k0_t1
  let c30_i32_r0 : BitVec 32 := 30#32
  let v137_r0 : BitVec 1 := Scalar.cmpi .sge arg8_r0 c30_i32_r0
  let true_142_r0 : BitVec 1 := 1#1
  let v138_r0 : BitVec 1 := Scalar.xori v137_r0 true_142_r0
  let v139_r0 : BitVec 1 := Scalar.andi v136_r0 v138_r0
  let true_143_r0 : BitVec 1 := 1#1
  let v140_r0 : BitVec 1 := Scalar.andi v139_r0 true_143_r0
  let v141_r0 : BitVec 32 := Scalar.extui v140_r0
  let c0_i32_144_r0 : BitVec 32 := 0#32
  let v142_r0 : BitVec 1 := Scalar.cmpi .ne v141_r0 c0_i32_144_r0
  v142_r0

def k0_off16 (arg9_r0 : BitVec 32) : Fin 3 → Nat :=
  let c3_i32_255_r0 : BitVec 32 := 3#32
  let v400_r0 : BitVec 32 := Scalar.remui arg9_r0 c3_i32_255_r0
  let c0_i32_257_r0 : BitVec 32 := 0#32
  let c0_i32_258_r0 : BitVec 32 := 0#32
  ![v400_r0.toNat, 0, 0]
def k0_off17 (arg22_r0 : BitVec 32) : Fin 2 → Nat :=
  let c1024_i32_256_r0 : BitVec 32 := 1024#32
  let true_133_r0 : BitVec 1 := 1#1
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v401_r0 : BitVec 32 := Scalar.muli c1024_i32_256_r0 v130_r0
  let c0_i32_259_r0 : BitVec 32 := 0#32
  ![v401_r0.toNat, 0]
def k0_off18 (arg11_r0 : BitVec 32) : Fin 1 → Nat :=
  let c3_i32_255_r0 : BitVec 32 := 3#32
  let v400_r0 : BitVec 32 := Scalar.remui arg11_r0 c3_i32_255_r0
  ![v400_r0.toNat]
def k0_cond6 (k0_t1 : Fin k0_t1_loop.trips) (arg22_r0 : BitVec 32) : BitVec 1 :=
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c0_i32_131_r0 : BitVec 32 := 0#32
  let v125_r0 : BitVec 32 := Scalar.addi v124_r0 c0_i32_131_r0
  let true_133_r0 : BitVec 1 := 1#1
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v146_r0 : BitVec 1 := Scalar.cmpi .ne v125_r0 v130_r0
  let c0_i32_87_r0 : BitVec 32 := 0#32
  let c1_i32_89_r0 : BitVec 32 := 1#32
  let arg8_r0 : BitVec 32 := Scf.iv c0_i32_87_r0 c1_i32_89_r0 k0_t1
  let c30_i32_147_r0 : BitVec 32 := 30#32
  let v147_r0 : BitVec 1 := Scalar.cmpi .sge arg8_r0 c30_i32_147_r0
  let true_148_r0 : BitVec 1 := 1#1
  let v148_r0 : BitVec 1 := Scalar.xori v147_r0 true_148_r0
  let v149_r0 : BitVec 1 := Scalar.andi v146_r0 v148_r0
  let true_149_r0 : BitVec 1 := 1#1
  let v150_r0 : BitVec 1 := Scalar.andi v149_r0 true_149_r0
  let v151_r0 : BitVec 32 := Scalar.extui v150_r0
  let c0_i32_150_r0 : BitVec 32 := 0#32
  let v152_r0 : BitVec 1 := Scalar.cmpi .ne v151_r0 c0_i32_150_r0
  v152_r0

def k0_off19 (arg11_r0 : BitVec 32) : Fin 3 → Nat :=
  let c3_i32_255_r0 : BitVec 32 := 3#32
  let v400_r0 : BitVec 32 := Scalar.remui arg11_r0 c3_i32_255_r0
  let c0_i32_257_r0 : BitVec 32 := 0#32
  let c0_i32_258_r0 : BitVec 32 := 0#32
  ![v400_r0.toNat, 0, 0]
def k0_off20 (arg22_r0 : BitVec 32) : Fin 2 → Nat :=
  let c1024_i32_256_r0 : BitVec 32 := 1024#32
  let true_133_r0 : BitVec 1 := 1#1
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v401_r0 : BitVec 32 := Scalar.muli c1024_i32_256_r0 v130_r0
  let c0_i32_259_r0 : BitVec 32 := 0#32
  ![v401_r0.toNat, 0]
def k0_off21 (arg13_r0 : BitVec 32) : Fin 1 → Nat :=
  let c3_i32_255_r0 : BitVec 32 := 3#32
  let v400_r0 : BitVec 32 := Scalar.remui arg13_r0 c3_i32_255_r0
  ![v400_r0.toNat]
def k0_cond7 (k0_t1 : Fin k0_t1_loop.trips) (arg22_r0 : BitVec 32) : BitVec 1 :=
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c0_i32_131_r0 : BitVec 32 := 0#32
  let v125_r0 : BitVec 32 := Scalar.addi v124_r0 c0_i32_131_r0
  let true_133_r0 : BitVec 1 := 1#1
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v156_r0 : BitVec 1 := Scalar.cmpi .ne v125_r0 v130_r0
  let c0_i32_87_r0 : BitVec 32 := 0#32
  let c1_i32_89_r0 : BitVec 32 := 1#32
  let arg8_r0 : BitVec 32 := Scf.iv c0_i32_87_r0 c1_i32_89_r0 k0_t1
  let c30_i32_153_r0 : BitVec 32 := 30#32
  let v157_r0 : BitVec 1 := Scalar.cmpi .sge arg8_r0 c30_i32_153_r0
  let true_154_r0 : BitVec 1 := 1#1
  let v158_r0 : BitVec 1 := Scalar.xori v157_r0 true_154_r0
  let v159_r0 : BitVec 1 := Scalar.andi v156_r0 v158_r0
  let true_155_r0 : BitVec 1 := 1#1
  let v160_r0 : BitVec 1 := Scalar.andi v159_r0 true_155_r0
  let v161_r0 : BitVec 32 := Scalar.extui v160_r0
  let c0_i32_156_r0 : BitVec 32 := 0#32
  let v162_r0 : BitVec 1 := Scalar.cmpi .ne v161_r0 c0_i32_156_r0
  v162_r0

def k0_off22 (arg13_r0 : BitVec 32) : Fin 3 → Nat :=
  let c3_i32_255_r0 : BitVec 32 := 3#32
  let v400_r0 : BitVec 32 := Scalar.remui arg13_r0 c3_i32_255_r0
  let c0_i32_257_r0 : BitVec 32 := 0#32
  let c0_i32_258_r0 : BitVec 32 := 0#32
  ![v400_r0.toNat, 0, 0]
def k0_off23 (arg22_r0 : BitVec 32) : Fin 2 → Nat :=
  let c1024_i32_256_r0 : BitVec 32 := 1024#32
  let true_133_r0 : BitVec 1 := 1#1
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v401_r0 : BitVec 32 := Scalar.muli c1024_i32_256_r0 v130_r0
  let c0_i32_259_r0 : BitVec 32 := 0#32
  ![v401_r0.toNat, 0]
def k0_off24 (arg15_r0 : BitVec 32) : Fin 1 → Nat :=
  let c3_i32_255_r0 : BitVec 32 := 3#32
  let v400_r0 : BitVec 32 := Scalar.remui arg15_r0 c3_i32_255_r0
  ![v400_r0.toNat]
def k0_cond8 (k0_t1 : Fin k0_t1_loop.trips) (arg22_r0 : BitVec 32) : BitVec 1 :=
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c0_i32_131_r0 : BitVec 32 := 0#32
  let v125_r0 : BitVec 32 := Scalar.addi v124_r0 c0_i32_131_r0
  let true_133_r0 : BitVec 1 := 1#1
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v166_r0 : BitVec 1 := Scalar.cmpi .ne v125_r0 v130_r0
  let c0_i32_87_r0 : BitVec 32 := 0#32
  let c1_i32_89_r0 : BitVec 32 := 1#32
  let arg8_r0 : BitVec 32 := Scf.iv c0_i32_87_r0 c1_i32_89_r0 k0_t1
  let c30_i32_159_r0 : BitVec 32 := 30#32
  let v167_r0 : BitVec 1 := Scalar.cmpi .sge arg8_r0 c30_i32_159_r0
  let true_160_r0 : BitVec 1 := 1#1
  let v168_r0 : BitVec 1 := Scalar.xori v167_r0 true_160_r0
  let v169_r0 : BitVec 1 := Scalar.andi v166_r0 v168_r0
  let true_161_r0 : BitVec 1 := 1#1
  let v170_r0 : BitVec 1 := Scalar.andi v169_r0 true_161_r0
  let v171_r0 : BitVec 32 := Scalar.extui v170_r0
  let c0_i32_162_r0 : BitVec 32 := 0#32
  let v172_r0 : BitVec 1 := Scalar.cmpi .ne v171_r0 c0_i32_162_r0
  v172_r0

def k0_off25 (arg15_r0 : BitVec 32) : Fin 3 → Nat :=
  let c3_i32_255_r0 : BitVec 32 := 3#32
  let v400_r0 : BitVec 32 := Scalar.remui arg15_r0 c3_i32_255_r0
  let c0_i32_257_r0 : BitVec 32 := 0#32
  let c0_i32_258_r0 : BitVec 32 := 0#32
  ![v400_r0.toNat, 0, 0]
def k0_off26 (arg22_r0 : BitVec 32) : Fin 2 → Nat :=
  let c1024_i32_256_r0 : BitVec 32 := 1024#32
  let true_133_r0 : BitVec 1 := 1#1
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c1_i32_132_r0 : BitVec 32 := 1#32
  let v126_r0 : BitVec 32 := Scalar.addi v124_r0 c1_i32_132_r0
  let v127_r0 : BitVec 32 := Scalar.select true_133_r0 v126_r0 v124_r0
  let c32_i32_134_r0 : BitVec 32 := 32#32
  let v128_r0 : BitVec 1 := Scalar.cmpi .eq v127_r0 c32_i32_134_r0
  let c0_i32_135_r0 : BitVec 32 := 0#32
  let v129_r0 : BitVec 32 := Scalar.select v128_r0 c0_i32_135_r0 v127_r0
  let c0_i32_136_r0 : BitVec 32 := 0#32
  let v130_r0 : BitVec 32 := Scalar.addi v129_r0 c0_i32_136_r0
  let v401_r0 : BitVec 32 := Scalar.muli c1024_i32_256_r0 v130_r0
  let c0_i32_259_r0 : BitVec 32 := 0#32
  ![v401_r0.toNat, 0]
def k0_off27 (arg10_r0 : BitVec 32) : Fin 1 → Nat :=
  let c3_i32_256_r0 : BitVec 32 := 3#32
  let v401_r0 : BitVec 32 := Scalar.remui arg10_r0 c3_i32_256_r0
  ![v401_r0.toNat]
def k0_cond9 (k0_t1 : Fin k0_t1_loop.trips) (arg22_r0 : BitVec 32) : BitVec 1 :=
  let c0_i32_121_r0 : BitVec 32 := 0#32
  let v115_r0 : BitVec 32 := Scalar.addi arg22_r0 c0_i32_121_r0
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v180_r0 : BitVec 1 := Scalar.cmpi .ne v115_r0 v120_r0
  let c0_i32_87_r0 : BitVec 32 := 0#32
  let c1_i32_89_r0 : BitVec 32 := 1#32
  let arg8_r0 : BitVec 32 := Scf.iv c0_i32_87_r0 c1_i32_89_r0 k0_t1
  let c0_i32_119_r0 : BitVec 32 := 0#32
  let v113_r0 : BitVec 1 := Scalar.cmpi .eq arg8_r0 c0_i32_119_r0
  let v181_r0 : BitVec 1 := Scalar.ori v180_r0 v113_r0
  let c0_i32_167_r0 : BitVec 32 := 0#32
  let v182_r0 : BitVec 1 := Scalar.cmpi .sge arg8_r0 c0_i32_167_r0
  let v183_r0 : BitVec 1 := Scalar.andi v181_r0 v182_r0
  let v184_r0 : BitVec 32 := Scalar.extui v183_r0
  let c0_i32_168_r0 : BitVec 32 := 0#32
  let v185_r0 : BitVec 1 := Scalar.cmpi .ne v184_r0 c0_i32_168_r0
  v185_r0

def k0_off28 (arg10_r0 : BitVec 32) : Fin 3 → Nat :=
  let c3_i32_256_r0 : BitVec 32 := 3#32
  let v401_r0 : BitVec 32 := Scalar.remui arg10_r0 c3_i32_256_r0
  let c0_i32_257_r0 : BitVec 32 := 0#32
  let c0_i32_258_r0 : BitVec 32 := 0#32
  ![v401_r0.toNat, 0, 0]
def k0_off29 (arg22_r0 : BitVec 32) : Fin 2 → Nat :=
  let c1024_i32_255_r0 : BitVec 32 := 1024#32
  let c0_i32_121_r0 : BitVec 32 := 0#32
  let v115_r0 : BitVec 32 := Scalar.addi arg22_r0 c0_i32_121_r0
  let v400_r0 : BitVec 32 := Scalar.muli c1024_i32_255_r0 v115_r0
  let c0_i32_259_r0 : BitVec 32 := 0#32
  ![v400_r0.toNat, 0]
def k0_off30 (arg12_r0 : BitVec 32) : Fin 1 → Nat :=
  let c3_i32_256_r0 : BitVec 32 := 3#32
  let v401_r0 : BitVec 32 := Scalar.remui arg12_r0 c3_i32_256_r0
  ![v401_r0.toNat]
def k0_cond10 (k0_t1 : Fin k0_t1_loop.trips) (arg22_r0 : BitVec 32) : BitVec 1 :=
  let c0_i32_121_r0 : BitVec 32 := 0#32
  let v115_r0 : BitVec 32 := Scalar.addi arg22_r0 c0_i32_121_r0
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v186_r0 : BitVec 1 := Scalar.cmpi .ne v115_r0 v120_r0
  let c0_i32_87_r0 : BitVec 32 := 0#32
  let c1_i32_89_r0 : BitVec 32 := 1#32
  let arg8_r0 : BitVec 32 := Scf.iv c0_i32_87_r0 c1_i32_89_r0 k0_t1
  let c0_i32_119_r0 : BitVec 32 := 0#32
  let v113_r0 : BitVec 1 := Scalar.cmpi .eq arg8_r0 c0_i32_119_r0
  let v187_r0 : BitVec 1 := Scalar.ori v186_r0 v113_r0
  let c0_i32_169_r0 : BitVec 32 := 0#32
  let v188_r0 : BitVec 1 := Scalar.cmpi .sge arg8_r0 c0_i32_169_r0
  let v189_r0 : BitVec 1 := Scalar.andi v187_r0 v188_r0
  let v190_r0 : BitVec 32 := Scalar.extui v189_r0
  let c0_i32_170_r0 : BitVec 32 := 0#32
  let v191_r0 : BitVec 1 := Scalar.cmpi .ne v190_r0 c0_i32_170_r0
  v191_r0

def k0_off31 (arg12_r0 : BitVec 32) : Fin 3 → Nat :=
  let c3_i32_256_r0 : BitVec 32 := 3#32
  let v401_r0 : BitVec 32 := Scalar.remui arg12_r0 c3_i32_256_r0
  let c0_i32_257_r0 : BitVec 32 := 0#32
  let c0_i32_258_r0 : BitVec 32 := 0#32
  ![v401_r0.toNat, 0, 0]
def k0_off32 (arg22_r0 : BitVec 32) : Fin 2 → Nat :=
  let c1024_i32_255_r0 : BitVec 32 := 1024#32
  let c0_i32_121_r0 : BitVec 32 := 0#32
  let v115_r0 : BitVec 32 := Scalar.addi arg22_r0 c0_i32_121_r0
  let v400_r0 : BitVec 32 := Scalar.muli c1024_i32_255_r0 v115_r0
  let c0_i32_259_r0 : BitVec 32 := 0#32
  ![v400_r0.toNat, 0]
def k0_off33 (arg14_r0 : BitVec 32) : Fin 1 → Nat :=
  let c3_i32_256_r0 : BitVec 32 := 3#32
  let v401_r0 : BitVec 32 := Scalar.remui arg14_r0 c3_i32_256_r0
  ![v401_r0.toNat]
def k0_cond11 (k0_t1 : Fin k0_t1_loop.trips) (arg22_r0 : BitVec 32) : BitVec 1 :=
  let c0_i32_121_r0 : BitVec 32 := 0#32
  let v115_r0 : BitVec 32 := Scalar.addi arg22_r0 c0_i32_121_r0
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v192_r0 : BitVec 1 := Scalar.cmpi .ne v115_r0 v120_r0
  let c0_i32_87_r0 : BitVec 32 := 0#32
  let c1_i32_89_r0 : BitVec 32 := 1#32
  let arg8_r0 : BitVec 32 := Scf.iv c0_i32_87_r0 c1_i32_89_r0 k0_t1
  let c0_i32_119_r0 : BitVec 32 := 0#32
  let v113_r0 : BitVec 1 := Scalar.cmpi .eq arg8_r0 c0_i32_119_r0
  let v193_r0 : BitVec 1 := Scalar.ori v192_r0 v113_r0
  let c0_i32_171_r0 : BitVec 32 := 0#32
  let v194_r0 : BitVec 1 := Scalar.cmpi .sge arg8_r0 c0_i32_171_r0
  let v195_r0 : BitVec 1 := Scalar.andi v193_r0 v194_r0
  let v196_r0 : BitVec 32 := Scalar.extui v195_r0
  let c0_i32_172_r0 : BitVec 32 := 0#32
  let v197_r0 : BitVec 1 := Scalar.cmpi .ne v196_r0 c0_i32_172_r0
  v197_r0

def k0_off34 (arg14_r0 : BitVec 32) : Fin 3 → Nat :=
  let c3_i32_256_r0 : BitVec 32 := 3#32
  let v401_r0 : BitVec 32 := Scalar.remui arg14_r0 c3_i32_256_r0
  let c0_i32_257_r0 : BitVec 32 := 0#32
  let c0_i32_258_r0 : BitVec 32 := 0#32
  ![v401_r0.toNat, 0, 0]
def k0_off35 (arg22_r0 : BitVec 32) : Fin 2 → Nat :=
  let c1024_i32_255_r0 : BitVec 32 := 1024#32
  let c0_i32_121_r0 : BitVec 32 := 0#32
  let v115_r0 : BitVec 32 := Scalar.addi arg22_r0 c0_i32_121_r0
  let v400_r0 : BitVec 32 := Scalar.muli c1024_i32_255_r0 v115_r0
  let c0_i32_259_r0 : BitVec 32 := 0#32
  ![v400_r0.toNat, 0]
def k0_off36 (arg16_r0 : BitVec 32) : Fin 1 → Nat :=
  let c3_i32_256_r0 : BitVec 32 := 3#32
  let v401_r0 : BitVec 32 := Scalar.remui arg16_r0 c3_i32_256_r0
  ![v401_r0.toNat]
def k0_cond12 (k0_t1 : Fin k0_t1_loop.trips) (arg22_r0 : BitVec 32) : BitVec 1 :=
  let c0_i32_121_r0 : BitVec 32 := 0#32
  let v115_r0 : BitVec 32 := Scalar.addi arg22_r0 c0_i32_121_r0
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v198_r0 : BitVec 1 := Scalar.cmpi .ne v115_r0 v120_r0
  let c0_i32_87_r0 : BitVec 32 := 0#32
  let c1_i32_89_r0 : BitVec 32 := 1#32
  let arg8_r0 : BitVec 32 := Scf.iv c0_i32_87_r0 c1_i32_89_r0 k0_t1
  let c0_i32_119_r0 : BitVec 32 := 0#32
  let v113_r0 : BitVec 1 := Scalar.cmpi .eq arg8_r0 c0_i32_119_r0
  let v199_r0 : BitVec 1 := Scalar.ori v198_r0 v113_r0
  let c0_i32_173_r0 : BitVec 32 := 0#32
  let v200_r0 : BitVec 1 := Scalar.cmpi .sge arg8_r0 c0_i32_173_r0
  let v201_r0 : BitVec 1 := Scalar.andi v199_r0 v200_r0
  let v202_r0 : BitVec 32 := Scalar.extui v201_r0
  let c0_i32_174_r0 : BitVec 32 := 0#32
  let v203_r0 : BitVec 1 := Scalar.cmpi .ne v202_r0 c0_i32_174_r0
  v203_r0

def k0_off37 (arg16_r0 : BitVec 32) : Fin 3 → Nat :=
  let c3_i32_256_r0 : BitVec 32 := 3#32
  let v401_r0 : BitVec 32 := Scalar.remui arg16_r0 c3_i32_256_r0
  let c0_i32_257_r0 : BitVec 32 := 0#32
  let c0_i32_258_r0 : BitVec 32 := 0#32
  ![v401_r0.toNat, 0, 0]
def k0_off38 (arg22_r0 : BitVec 32) : Fin 2 → Nat :=
  let c1024_i32_255_r0 : BitVec 32 := 1024#32
  let c0_i32_121_r0 : BitVec 32 := 0#32
  let v115_r0 : BitVec 32 := Scalar.addi arg22_r0 c0_i32_121_r0
  let v400_r0 : BitVec 32 := Scalar.muli c1024_i32_255_r0 v115_r0
  let c0_i32_259_r0 : BitVec 32 := 0#32
  ![v400_r0.toNat, 0]
def k0_off39 (arg12_r0 : BitVec 32) : Fin 3 → Nat :=
  let c3_i32_178_r0 : BitVec 32 := 3#32
  let v211_r0 : BitVec 32 := Scalar.remui arg12_r0 c3_i32_178_r0
  let v215_r0 : Index := Scalar.indexCast v211_r0
  let c0_r0 : Index := 0#32
  let c0_182_r0 : Index := 0#32
  ![v215_r0.toNat, 0, 0]

def k0_chk2 (arg12_r0 : BitVec 32) : Prop :=
  (∀ a, (k0_off39 arg12_r0) a + S1x1024x1024.size a ≤ S3x1024x1024.size a)
theorem k0_off39_inb : ∀ (arg12_r0 : BitVec 32) (k0_hw2 : k0_chk2 arg12_r0), ∀ a, (k0_off39 arg12_r0) a + S1x1024x1024.size a ≤ S3x1024x1024.size a := fun arg12_r0 k0_hw2 => k0_hw2

def k0_off40 (arg14_r0 : BitVec 32) : Fin 3 → Nat :=
  let c3_i32_179_r0 : BitVec 32 := 3#32
  let v212_r0 : BitVec 32 := Scalar.remui arg14_r0 c3_i32_179_r0
  let v219_r0 : Index := Scalar.indexCast v212_r0
  let c0_183_r0 : Index := 0#32
  let c0_184_r0 : Index := 0#32
  ![v219_r0.toNat, 0, 0]

def k0_chk3 (arg14_r0 : BitVec 32) : Prop :=
  (∀ a, (k0_off40 arg14_r0) a + S1x1024x1024.size a ≤ S3x1024x1024.size a)
theorem k0_off40_inb : ∀ (arg14_r0 : BitVec 32) (k0_hw3 : k0_chk3 arg14_r0), ∀ a, (k0_off40 arg14_r0) a + S1x1024x1024.size a ≤ S3x1024x1024.size a := fun arg14_r0 k0_hw3 => k0_hw3

def k0_off41 (arg16_r0 : BitVec 32) : Fin 3 → Nat :=
  let c3_i32_180_r0 : BitVec 32 := 3#32
  let v213_r0 : BitVec 32 := Scalar.remui arg16_r0 c3_i32_180_r0
  let v269_r0 : Index := Scalar.indexCast v213_r0
  let c0_196_r0 : Index := 0#32
  let c0_197_r0 : Index := 0#32
  ![v269_r0.toNat, 0, 0]

def k0_chk4 (arg16_r0 : BitVec 32) : Prop :=
  (∀ a, (k0_off41 arg16_r0) a + S1x1024x1024.size a ≤ S3x1024x1024.size a)
theorem k0_off41_inb : ∀ (arg16_r0 : BitVec 32) (k0_hw4 : k0_chk4 arg16_r0), ∀ a, (k0_off41 arg16_r0) a + S1x1024x1024.size a ≤ S3x1024x1024.size a := fun arg16_r0 k0_hw4 => k0_hw4

def k0_off42 (arg10_r0 : BitVec 32) : Fin 3 → Nat :=
  let c3_i32_177_r0 : BitVec 32 := 3#32
  let v210_r0 : BitVec 32 := Scalar.remui arg10_r0 c3_i32_177_r0
  let v290_r0 : Index := Scalar.indexCast v210_r0
  let c0_206_r0 : Index := 0#32
  let c0_207_r0 : Index := 0#32
  ![v290_r0.toNat, 0, 0]

def k0_chk5 (arg10_r0 : BitVec 32) : Prop :=
  (∀ a, (k0_off42 arg10_r0) a + S1x1024x1024.size a ≤ S3x1024x1024.size a)
theorem k0_off42_inb : ∀ (arg10_r0 : BitVec 32) (k0_hw5 : k0_chk5 arg10_r0), ∀ a, (k0_off42 arg10_r0) a + S1x1024x1024.size a ≤ S3x1024x1024.size a := fun arg10_r0 k0_hw5 => k0_hw5

def k0_off43 (arg20_r0 : BitVec 32) : Fin 3 → Nat :=
  let c2_i32_181_r0 : BitVec 32 := 2#32
  let v214_r0 : BitVec 32 := Scalar.remui arg20_r0 c2_i32_181_r0
  let v308_r0 : Index := Scalar.indexCast v214_r0
  let c0_213_r0 : Index := 0#32
  let c0_214_r0 : Index := 0#32
  ![v308_r0.toNat, 0, 0]

def k0_chk6 (arg20_r0 : BitVec 32) : Prop :=
  (∀ a, (k0_off43 arg20_r0) a + S1x1024x1024.size a ≤ S2x1024x1024.size a)
theorem k0_off43_inb : ∀ (arg20_r0 : BitVec 32) (k0_hw6 : k0_chk6 arg20_r0), ∀ a, (k0_off43 arg20_r0) a + S1x1024x1024.size a ≤ S2x1024x1024.size a := fun arg20_r0 k0_hw6 => k0_hw6

def k0_off44 (arg20_r0 : BitVec 32) : Fin 1 → Nat :=
  let c2_i32_255_r0 : BitVec 32 := 2#32
  let v400_r0 : BitVec 32 := Scalar.remui arg20_r0 c2_i32_255_r0
  ![v400_r0.toNat]
def k0_cond18 (k0_t1 : Fin k0_t1_loop.trips) (arg22_r0 : BitVec 32) : BitVec 1 :=
  let c0_i32_121_r0 : BitVec 32 := 0#32
  let v115_r0 : BitVec 32 := Scalar.addi arg22_r0 c0_i32_121_r0
  let true_128_r0 : BitVec 1 := 1#1
  let c1_i32_127_r0 : BitVec 32 := 1#32
  let v121_r0 : BitVec 32 := Scalar.addi arg22_r0 c1_i32_127_r0
  let v122_r0 : BitVec 32 := Scalar.select true_128_r0 v121_r0 arg22_r0
  let c32_i32_129_r0 : BitVec 32 := 32#32
  let v123_r0 : BitVec 1 := Scalar.cmpi .eq v122_r0 c32_i32_129_r0
  let c0_i32_130_r0 : BitVec 32 := 0#32
  let v124_r0 : BitVec 32 := Scalar.select v123_r0 c0_i32_130_r0 v122_r0
  let c0_i32_131_r0 : BitVec 32 := 0#32
  let v125_r0 : BitVec 32 := Scalar.addi v124_r0 c0_i32_131_r0
  let v332_r0 : BitVec 1 := Scalar.cmpi .ne v115_r0 v125_r0
  let c0_i32_87_r0 : BitVec 32 := 0#32
  let c1_i32_89_r0 : BitVec 32 := 1#32
  let arg8_r0 : BitVec 32 := Scf.iv c0_i32_87_r0 c1_i32_89_r0 k0_t1
  let c31_i32_120_r0 : BitVec 32 := 31#32
  let v114_r0 : BitVec 1 := Scalar.cmpi .eq arg8_r0 c31_i32_120_r0
  let v333_r0 : BitVec 1 := Scalar.ori v332_r0 v114_r0
  let v334_r0 : BitVec 32 := Scalar.extui v333_r0
  let c0_i32_222_r0 : BitVec 32 := 0#32
  let v335_r0 : BitVec 1 := Scalar.cmpi .ne v334_r0 c0_i32_222_r0
  v335_r0

def k0_off45 (arg22_r0 : BitVec 32) : Fin 2 → Nat :=
  let c1024_i32_256_r0 : BitVec 32 := 1024#32
  let c0_i32_121_r0 : BitVec 32 := 0#32
  let v115_r0 : BitVec 32 := Scalar.addi arg22_r0 c0_i32_121_r0
  let v401_r0 : BitVec 32 := Scalar.muli c1024_i32_256_r0 v115_r0
  let c0_i32_257_r0 : BitVec 32 := 0#32
  ![v401_r0.toNat, 0]
def k0_off46 (arg20_r0 : BitVec 32) : Fin 3 → Nat :=
  let c2_i32_255_r0 : BitVec 32 := 2#32
  let v400_r0 : BitVec 32 := Scalar.remui arg20_r0 c2_i32_255_r0
  let c0_i32_258_r0 : BitVec 32 := 0#32
  let c0_i32_259_r0 : BitVec 32 := 0#32
  ![v400_r0.toNat, 0, 0]
def k0_off47 (arg21_r0 : BitVec 32) : Fin 1 → Nat :=
  let c2_i32_255_r0 : BitVec 32 := 2#32
  let v400_r0 : BitVec 32 := Scalar.remui arg21_r0 c2_i32_255_r0
  ![v400_r0.toNat]
def k0_cond23 (k0_t1 : Fin k0_t1_loop.trips) (arg22_r0 : BitVec 32) : BitVec 1 :=
  let c0_i32_121_r0 : BitVec 32 := 0#32
  let v115_r0 : BitVec 32 := Scalar.addi arg22_r0 c0_i32_121_r0
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v363_r0 : BitVec 1 := Scalar.cmpi .ne v115_r0 v120_r0
  let c0_i32_87_r0 : BitVec 32 := 0#32
  let c1_i32_89_r0 : BitVec 32 := 1#32
  let arg8_r0 : BitVec 32 := Scf.iv c0_i32_87_r0 c1_i32_89_r0 k0_t1
  let c0_i32_119_r0 : BitVec 32 := 0#32
  let v113_r0 : BitVec 1 := Scalar.cmpi .eq arg8_r0 c0_i32_119_r0
  let true_237_r0 : BitVec 1 := 1#1
  let v364_r0 : BitVec 1 := Scalar.xori v113_r0 true_237_r0
  let v365_r0 : BitVec 1 := Scalar.andi v363_r0 v364_r0
  let v366_r0 : BitVec 32 := Scalar.extui v365_r0
  let c0_i32_238_r0 : BitVec 32 := 0#32
  let v367_r0 : BitVec 1 := Scalar.cmpi .ne v366_r0 c0_i32_238_r0
  v367_r0

def k0_off48 (arg22_r0 : BitVec 32) : Fin 2 → Nat :=
  let c1024_i32_256_r0 : BitVec 32 := 1024#32
  let true_123_r0 : BitVec 1 := 1#1
  let c1_i32_122_r0 : BitVec 32 := 1#32
  let v116_r0 : BitVec 32 := Scalar.subi arg22_r0 c1_i32_122_r0
  let v117_r0 : BitVec 32 := Scalar.select true_123_r0 v116_r0 arg22_r0
  let c_m1_i32_124_r0 : BitVec 32 := 4294967295#32
  let v118_r0 : BitVec 1 := Scalar.cmpi .eq v117_r0 c_m1_i32_124_r0
  let c31_i32_125_r0 : BitVec 32 := 31#32
  let v119_r0 : BitVec 32 := Scalar.select v118_r0 c31_i32_125_r0 v117_r0
  let c0_i32_126_r0 : BitVec 32 := 0#32
  let v120_r0 : BitVec 32 := Scalar.addi v119_r0 c0_i32_126_r0
  let v401_r0 : BitVec 32 := Scalar.muli c1024_i32_256_r0 v120_r0
  let c0_i32_257_r0 : BitVec 32 := 0#32
  ![v401_r0.toNat, 0]
def k0_off49 (arg21_r0 : BitVec 32) : Fin 3 → Nat :=
  let c2_i32_255_r0 : BitVec 32 := 2#32
  let v400_r0 : BitVec 32 := Scalar.remui arg21_r0 c2_i32_255_r0
  let c0_i32_258_r0 : BitVec 32 := 0#32
  let c0_i32_259_r0 : BitVec 32 := 0#32
  ![v400_r0.toNat, 0, 0]

def k0_chk1_0 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) : Prop :=
  (∀ (k0_h5 : k0_cond5 k0_t1 arg22_r0 = 1#1), ∀ a, (k0_off15 arg9_r0) a + S1.size a ≤ S3.size a) ∧
  (∀ (k0_h5 : k0_cond5 k0_t1 arg22_r0 = 1#1), ∀ a, (k0_off16 arg9_r0) a + S1x1024x1024.size a ≤ S3x1024x1024.size a) ∧
  (∀ (k0_h5 : k0_cond5 k0_t1 arg22_r0 = 1#1), ∀ a, (k0_off17 arg22_r0) a + S1024x1024.size a ≤ S32768x1024.size a) ∧
  (∀ (k0_h6 : k0_cond6 k0_t1 arg22_r0 = 1#1), ∀ a, (k0_off18 arg11_r0) a + S1.size a ≤ S3.size a) ∧
  (∀ (k0_h6 : k0_cond6 k0_t1 arg22_r0 = 1#1), ∀ a, (k0_off19 arg11_r0) a + S1x1024x1024.size a ≤ S3x1024x1024.size a) ∧
  (∀ (k0_h6 : k0_cond6 k0_t1 arg22_r0 = 1#1), ∀ a, (k0_off20 arg22_r0) a + S1024x1024.size a ≤ S32768x1024.size a) ∧
  (∀ (k0_h6 : k0_cond6 k0_t1 arg22_r0 = 1#1), ∀ (hinb : ∀ a, (k0_off20 arg22_r0) a + S1024x1024.size a ≤ S32768x1024.size a), (Rect.unit (s := S32768x1024) (k0_off20 arg22_r0) S1024x1024.size hinb).WholeWords (EltTy.packing .bf16)) ∧
  (∀ (k0_h6 : k0_cond6 k0_t1 arg22_r0 = 1#1), ∀ (hinb : ∀ a, (k0_off19 arg11_r0) a + S1x1024x1024.size a ≤ S3x1024x1024.size a), (Rect.unit (s := S3x1024x1024) (k0_off19 arg11_r0) S1x1024x1024.size hinb).WholeWords (EltTy.packing .bf16)) ∧
  (∀ (k0_h7 : k0_cond7 k0_t1 arg22_r0 = 1#1), ∀ a, (k0_off21 arg13_r0) a + S1.size a ≤ S3.size a) ∧
  (∀ (k0_h7 : k0_cond7 k0_t1 arg22_r0 = 1#1), ∀ a, (k0_off22 arg13_r0) a + S1x1024x1024.size a ≤ S3x1024x1024.size a) ∧
  (∀ (k0_h7 : k0_cond7 k0_t1 arg22_r0 = 1#1), ∀ a, (k0_off23 arg22_r0) a + S1024x1024.size a ≤ S32768x1024.size a) ∧
  (∀ (k0_h7 : k0_cond7 k0_t1 arg22_r0 = 1#1), ∀ (hinb : ∀ a, (k0_off23 arg22_r0) a + S1024x1024.size a ≤ S32768x1024.size a), (Rect.unit (s := S32768x1024) (k0_off23 arg22_r0) S1024x1024.size hinb).WholeWords (EltTy.packing .bf16)) ∧
  (∀ (k0_h7 : k0_cond7 k0_t1 arg22_r0 = 1#1), ∀ (hinb : ∀ a, (k0_off22 arg13_r0) a + S1x1024x1024.size a ≤ S3x1024x1024.size a), (Rect.unit (s := S3x1024x1024) (k0_off22 arg13_r0) S1x1024x1024.size hinb).WholeWords (EltTy.packing .bf16)) ∧
  (∀ (k0_h8 : k0_cond8 k0_t1 arg22_r0 = 1#1), ∀ a, (k0_off24 arg15_r0) a + S1.size a ≤ S3.size a) ∧
  (∀ (k0_h8 : k0_cond8 k0_t1 arg22_r0 = 1#1), ∀ a, (k0_off25 arg15_r0) a + S1x1024x1024.size a ≤ S3x1024x1024.size a) ∧
  (∀ (k0_h8 : k0_cond8 k0_t1 arg22_r0 = 1#1), ∀ a, (k0_off26 arg22_r0) a + S1024x1024.size a ≤ S32768x1024.size a) ∧
  (∀ (k0_h8 : k0_cond8 k0_t1 arg22_r0 = 1#1), ∀ (hinb : ∀ a, (k0_off26 arg22_r0) a + S1024x1024.size a ≤ S32768x1024.size a), (Rect.unit (s := S32768x1024) (k0_off26 arg22_r0) S1024x1024.size hinb).WholeWords (EltTy.packing .bf16)) ∧
  (∀ (k0_h8 : k0_cond8 k0_t1 arg22_r0 = 1#1), ∀ (hinb : ∀ a, (k0_off25 arg15_r0) a + S1x1024x1024.size a ≤ S3x1024x1024.size a), (Rect.unit (s := S3x1024x1024) (k0_off25 arg15_r0) S1x1024x1024.size hinb).WholeWords (EltTy.packing .bf16)) ∧
  (∀ (k0_h9 : k0_cond9 k0_t1 arg22_r0 = 1#1), ∀ a, (k0_off27 arg10_r0) a + S1.size a ≤ S3.size a) ∧
  (∀ (k0_h9 : k0_cond9 k0_t1 arg22_r0 = 1#1), ∀ a, (k0_off28 arg10_r0) a + S1x1024x1024.size a ≤ S3x1024x1024.size a) ∧
  (∀ (k0_h9 : k0_cond9 k0_t1 arg22_r0 = 1#1), ∀ a, (k0_off29 arg22_r0) a + S1024x1024.size a ≤ S32768x1024.size a) ∧
  (∀ (k0_h10 : k0_cond10 k0_t1 arg22_r0 = 1#1), ∀ a, (k0_off30 arg12_r0) a + S1.size a ≤ S3.size a) ∧
  (∀ (k0_h10 : k0_cond10 k0_t1 arg22_r0 = 1#1), ∀ a, (k0_off31 arg12_r0) a + S1x1024x1024.size a ≤ S3x1024x1024.size a) ∧
  (∀ (k0_h10 : k0_cond10 k0_t1 arg22_r0 = 1#1), ∀ a, (k0_off32 arg22_r0) a + S1024x1024.size a ≤ S32768x1024.size a) ∧
  (∀ (k0_h10 : k0_cond10 k0_t1 arg22_r0 = 1#1), ∀ (hinb : ∀ a, (k0_off32 arg22_r0) a + S1024x1024.size a ≤ S32768x1024.size a), (Rect.unit (s := S32768x1024) (k0_off32 arg22_r0) S1024x1024.size hinb).WholeWords (EltTy.packing .bf16)) ∧
  (∀ (k0_h10 : k0_cond10 k0_t1 arg22_r0 = 1#1), ∀ (hinb : ∀ a, (k0_off31 arg12_r0) a + S1x1024x1024.size a ≤ S3x1024x1024.size a), (Rect.unit (s := S3x1024x1024) (k0_off31 arg12_r0) S1x1024x1024.size hinb).WholeWords (EltTy.packing .bf16)) ∧
  (∀ (k0_h11 : k0_cond11 k0_t1 arg22_r0 = 1#1), ∀ a, (k0_off33 arg14_r0) a + S1.size a ≤ S3.size a) ∧
  (∀ (k0_h11 : k0_cond11 k0_t1 arg22_r0 = 1#1), ∀ a, (k0_off34 arg14_r0) a + S1x1024x1024.size a ≤ S3x1024x1024.size a) ∧
  (∀ (k0_h11 : k0_cond11 k0_t1 arg22_r0 = 1#1), ∀ a, (k0_off35 arg22_r0) a + S1024x1024.size a ≤ S32768x1024.size a) ∧
  (∀ (k0_h11 : k0_cond11 k0_t1 arg22_r0 = 1#1), ∀ (hinb : ∀ a, (k0_off35 arg22_r0) a + S1024x1024.size a ≤ S32768x1024.size a), (Rect.unit (s := S32768x1024) (k0_off35 arg22_r0) S1024x1024.size hinb).WholeWords (EltTy.packing .bf16)) ∧
  (∀ (k0_h11 : k0_cond11 k0_t1 arg22_r0 = 1#1), ∀ (hinb : ∀ a, (k0_off34 arg14_r0) a + S1x1024x1024.size a ≤ S3x1024x1024.size a), (Rect.unit (s := S3x1024x1024) (k0_off34 arg14_r0) S1x1024x1024.size hinb).WholeWords (EltTy.packing .bf16)) ∧
  (∀ (k0_h12 : k0_cond12 k0_t1 arg22_r0 = 1#1), ∀ a, (k0_off36 arg16_r0) a + S1.size a ≤ S3.size a)
def k0_chk1_1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) : Prop :=
  (∀ (k0_h12 : k0_cond12 k0_t1 arg22_r0 = 1#1), ∀ a, (k0_off37 arg16_r0) a + S1x1024x1024.size a ≤ S3x1024x1024.size a) ∧
  (∀ (k0_h12 : k0_cond12 k0_t1 arg22_r0 = 1#1), ∀ a, (k0_off38 arg22_r0) a + S1024x1024.size a ≤ S32768x1024.size a) ∧
  (∀ (k0_h12 : k0_cond12 k0_t1 arg22_r0 = 1#1), ∀ (hinb : ∀ a, (k0_off38 arg22_r0) a + S1024x1024.size a ≤ S32768x1024.size a), (Rect.unit (s := S32768x1024) (k0_off38 arg22_r0) S1024x1024.size hinb).WholeWords (EltTy.packing .bf16)) ∧
  (∀ (k0_h12 : k0_cond12 k0_t1 arg22_r0 = 1#1), ∀ (hinb : ∀ a, (k0_off37 arg16_r0) a + S1x1024x1024.size a ≤ S3x1024x1024.size a), (Rect.unit (s := S3x1024x1024) (k0_off37 arg16_r0) S1x1024x1024.size hinb).WholeWords (EltTy.packing .bf16)) ∧
  (∀ (k0_h18 : k0_cond18 k0_t1 arg22_r0 = 1#1), ∀ a, (k0_off44 arg20_r0) a + S1.size a ≤ S2.size a) ∧
  (∀ (k0_h18 : k0_cond18 k0_t1 arg22_r0 = 1#1), ∀ a, (k0_off45 arg22_r0) a + S1024x1024.size a ≤ S32768x1024.size a) ∧
  (∀ (k0_h18 : k0_cond18 k0_t1 arg22_r0 = 1#1), ∀ a, (k0_off46 arg20_r0) a + S1x1024x1024.size a ≤ S2x1024x1024.size a) ∧
  (∀ (k0_h23 : k0_cond23 k0_t1 arg22_r0 = 1#1), ∀ a, (k0_off47 arg21_r0) a + S1.size a ≤ S2.size a) ∧
  (∀ (k0_h23 : k0_cond23 k0_t1 arg22_r0 = 1#1), ∀ a, (k0_off48 arg22_r0) a + S1024x1024.size a ≤ S32768x1024.size a) ∧
  (∀ (k0_h23 : k0_cond23 k0_t1 arg22_r0 = 1#1), ∀ a, (k0_off49 arg21_r0) a + S1x1024x1024.size a ≤ S2x1024x1024.size a)
def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) : Prop :=
  k0_chk1_0 k0_t1 arg9_r0 arg10_r0 arg11_r0 arg12_r0 arg13_r0 arg14_r0 arg15_r0 arg16_r0 arg20_r0 arg21_r0 arg22_r0 ∧
  k0_chk1_1 k0_t1 arg9_r0 arg10_r0 arg11_r0 arg12_r0 arg13_r0 arg14_r0 arg15_r0 arg16_r0 arg20_r0 arg21_r0 arg22_r0
theorem k0_off15_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h5 : k0_cond5 k0_t1 arg22_r0 = 1#1), ∀ a, (k0_off15 arg9_r0) a + S1.size a ≤ S3.size a := fun k0_t1 arg9_r0 arg10_r0 arg11_r0 arg12_r0 arg13_r0 arg14_r0 arg15_r0 arg16_r0 arg20_r0 arg21_r0 arg22_r0 k0_hw1 k0_h5 => k0_hw1.1.1 k0_h5
theorem k0_off16_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h5 : k0_cond5 k0_t1 arg22_r0 = 1#1), ∀ a, (k0_off16 arg9_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h5 => k0_hw1.1.2.1 k0_h5
theorem k0_off17_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h5 : k0_cond5 k0_t1 arg22_r0 = 1#1), ∀ a, (k0_off17 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h5 => k0_hw1.1.2.2.1 k0_h5
theorem k0_off18_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h6 : k0_cond6 k0_t1 arg22_r0 = 1#1), ∀ a, (k0_off18 arg11_r0) a + S1.size a ≤ S3.size a := fun k0_t1 arg9_r0 arg10_r0 arg11_r0 arg12_r0 arg13_r0 arg14_r0 arg15_r0 arg16_r0 arg20_r0 arg21_r0 arg22_r0 k0_hw1 k0_h6 => k0_hw1.1.2.2.2.1 k0_h6
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h6 : k0_cond6 k0_t1 arg22_r0 = 1#1), ∀ a, (k0_off19 arg11_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h6 => k0_hw1.1.2.2.2.2.1 k0_h6
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h6 : k0_cond6 k0_t1 arg22_r0 = 1#1), ∀ a, (k0_off20 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h6 => k0_hw1.1.2.2.2.2.2.1 k0_h6
theorem k0_off20_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h6 : k0_cond6 k0_t1 arg22_r0 = 1#1), (Rect.unit (s := S32768x1024) (k0_off20 arg22_r0) S1024x1024.size (k0_off20_inb k0_t1 arg9_r0 arg10_r0 arg11_r0 arg12_r0 arg13_r0 arg14_r0 arg15_r0 arg16_r0 arg20_r0 arg21_r0 arg22_r0 k0_hw1 k0_h6)).WholeWords (EltTy.packing .bf16) := fun k0_t1 arg9_r0 arg10_r0 arg11_r0 arg12_r0 arg13_r0 arg14_r0 arg15_r0 arg16_r0 arg20_r0 arg21_r0 arg22_r0 k0_hw1 k0_h6 => k0_hw1.1.2.2.2.2.2.2.1 k0_h6 (k0_off20_inb k0_t1 arg9_r0 arg10_r0 arg11_r0 arg12_r0 arg13_r0 arg14_r0 arg15_r0 arg16_r0 arg20_r0 arg21_r0 arg22_r0 k0_hw1 k0_h6)
theorem k0_off19_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h6 : k0_cond6 k0_t1 arg22_r0 = 1#1), (Rect.unit (s := S3x1024x1024) (k0_off19 arg11_r0) S1x1024x1024.size (k0_off19_inb k0_t1 arg9_r0 arg10_r0 arg11_r0 arg12_r0 arg13_r0 arg14_r0 arg15_r0 arg16_r0 arg20_r0 arg21_r0 arg22_r0 k0_hw1 k0_h6)).WholeWords (EltTy.packing .bf16) := fun k0_t1 arg9_r0 arg10_r0 arg11_r0 arg12_r0 arg13_r0 arg14_r0 arg15_r0 arg16_r0 arg20_r0 arg21_r0 arg22_r0 k0_hw1 k0_h6 => k0_hw1.1.2.2.2.2.2.2.2.1 k0_h6 (k0_off19_inb k0_t1 arg9_r0 arg10_r0 arg11_r0 arg12_r0 arg13_r0 arg14_r0 arg15_r0 arg16_r0 arg20_r0 arg21_r0 arg22_r0 k0_hw1 k0_h6)
theorem k0_off21_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h7 : k0_cond7 k0_t1 arg22_r0 = 1#1), ∀ a, (k0_off21 arg13_r0) a + S1.size a ≤ S3.size a := fun k0_t1 arg9_r0 arg10_r0 arg11_r0 arg12_r0 arg13_r0 arg14_r0 arg15_r0 arg16_r0 arg20_r0 arg21_r0 arg22_r0 k0_hw1 k0_h7 => k0_hw1.1.2.2.2.2.2.2.2.2.1 k0_h7
theorem k0_off22_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h7 : k0_cond7 k0_t1 arg22_r0 = 1#1), ∀ a, (k0_off22 arg13_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h7 => k0_hw1.1.2.2.2.2.2.2.2.2.2.1 k0_h7
theorem k0_off23_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h7 : k0_cond7 k0_t1 arg22_r0 = 1#1), ∀ a, (k0_off23 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h7 => k0_hw1.1.2.2.2.2.2.2.2.2.2.2.1 k0_h7
theorem k0_off23_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h7 : k0_cond7 k0_t1 arg22_r0 = 1#1), (Rect.unit (s := S32768x1024) (k0_off23 arg22_r0) S1024x1024.size (k0_off23_inb k0_t1 arg9_r0 arg10_r0 arg11_r0 arg12_r0 arg13_r0 arg14_r0 arg15_r0 arg16_r0 arg20_r0 arg21_r0 arg22_r0 k0_hw1 k0_h7)).WholeWords (EltTy.packing .bf16) := fun k0_t1 arg9_r0 arg10_r0 arg11_r0 arg12_r0 arg13_r0 arg14_r0 arg15_r0 arg16_r0 arg20_r0 arg21_r0 arg22_r0 k0_hw1 k0_h7 => k0_hw1.1.2.2.2.2.2.2.2.2.2.2.2.1 k0_h7 (k0_off23_inb k0_t1 arg9_r0 arg10_r0 arg11_r0 arg12_r0 arg13_r0 arg14_r0 arg15_r0 arg16_r0 arg20_r0 arg21_r0 arg22_r0 k0_hw1 k0_h7)
theorem k0_off22_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h7 : k0_cond7 k0_t1 arg22_r0 = 1#1), (Rect.unit (s := S3x1024x1024) (k0_off22 arg13_r0) S1x1024x1024.size (k0_off22_inb k0_t1 arg9_r0 arg10_r0 arg11_r0 arg12_r0 arg13_r0 arg14_r0 arg15_r0 arg16_r0 arg20_r0 arg21_r0 arg22_r0 k0_hw1 k0_h7)).WholeWords (EltTy.packing .bf16) := fun k0_t1 arg9_r0 arg10_r0 arg11_r0 arg12_r0 arg13_r0 arg14_r0 arg15_r0 arg16_r0 arg20_r0 arg21_r0 arg22_r0 k0_hw1 k0_h7 => k0_hw1.1.2.2.2.2.2.2.2.2.2.2.2.2.1 k0_h7 (k0_off22_inb k0_t1 arg9_r0 arg10_r0 arg11_r0 arg12_r0 arg13_r0 arg14_r0 arg15_r0 arg16_r0 arg20_r0 arg21_r0 arg22_r0 k0_hw1 k0_h7)
theorem k0_off24_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h8 : k0_cond8 k0_t1 arg22_r0 = 1#1), ∀ a, (k0_off24 arg15_r0) a + S1.size a ≤ S3.size a := fun k0_t1 arg9_r0 arg10_r0 arg11_r0 arg12_r0 arg13_r0 arg14_r0 arg15_r0 arg16_r0 arg20_r0 arg21_r0 arg22_r0 k0_hw1 k0_h8 => k0_hw1.1.2.2.2.2.2.2.2.2.2.2.2.2.2.1 k0_h8
theorem k0_off25_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h8 : k0_cond8 k0_t1 arg22_r0 = 1#1), ∀ a, (k0_off25 arg15_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h8 => k0_hw1.1.2.2.2.2.2.2.2.2.2.2.2.2.2.2.1 k0_h8
theorem k0_off26_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h8 : k0_cond8 k0_t1 arg22_r0 = 1#1), ∀ a, (k0_off26 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h8 => k0_hw1.1.2.2.2.2.2.2.2.2.2.2.2.2.2.2.2.1 k0_h8
theorem k0_off26_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h8 : k0_cond8 k0_t1 arg22_r0 = 1#1), (Rect.unit (s := S32768x1024) (k0_off26 arg22_r0) S1024x1024.size (k0_off26_inb k0_t1 arg9_r0 arg10_r0 arg11_r0 arg12_r0 arg13_r0 arg14_r0 arg15_r0 arg16_r0 arg20_r0 arg21_r0 arg22_r0 k0_hw1 k0_h8)).WholeWords (EltTy.packing .bf16) := fun k0_t1 arg9_r0 arg10_r0 arg11_r0 arg12_r0 arg13_r0 arg14_r0 arg15_r0 arg16_r0 arg20_r0 arg21_r0 arg22_r0 k0_hw1 k0_h8 => k0_hw1.1.2.2.2.2.2.2.2.2.2.2.2.2.2.2.2.2.1 k0_h8 (k0_off26_inb k0_t1 arg9_r0 arg10_r0 arg11_r0 arg12_r0 arg13_r0 arg14_r0 arg15_r0 arg16_r0 arg20_r0 arg21_r0 arg22_r0 k0_hw1 k0_h8)
theorem k0_off25_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h8 : k0_cond8 k0_t1 arg22_r0 = 1#1), (Rect.unit (s := S3x1024x1024) (k0_off25 arg15_r0) S1x1024x1024.size (k0_off25_inb k0_t1 arg9_r0 arg10_r0 arg11_r0 arg12_r0 arg13_r0 arg14_r0 arg15_r0 arg16_r0 arg20_r0 arg21_r0 arg22_r0 k0_hw1 k0_h8)).WholeWords (EltTy.packing .bf16) := fun k0_t1 arg9_r0 arg10_r0 arg11_r0 arg12_r0 arg13_r0 arg14_r0 arg15_r0 arg16_r0 arg20_r0 arg21_r0 arg22_r0 k0_hw1 k0_h8 => k0_hw1.1.2.2.2.2.2.2.2.2.2.2.2.2.2.2.2.2.2.1 k0_h8 (k0_off25_inb k0_t1 arg9_r0 arg10_r0 arg11_r0 arg12_r0 arg13_r0 arg14_r0 arg15_r0 arg16_r0 arg20_r0 arg21_r0 arg22_r0 k0_hw1 k0_h8)
theorem k0_off27_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h9 : k0_cond9 k0_t1 arg22_r0 = 1#1), ∀ a, (k0_off27 arg10_r0) a + S1.size a ≤ S3.size a := fun k0_t1 arg9_r0 arg10_r0 arg11_r0 arg12_r0 arg13_r0 arg14_r0 arg15_r0 arg16_r0 arg20_r0 arg21_r0 arg22_r0 k0_hw1 k0_h9 => k0_hw1.1.2.2.2.2.2.2.2.2.2.2.2.2.2.2.2.2.2.2.1 k0_h9
theorem k0_off28_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h9 : k0_cond9 k0_t1 arg22_r0 = 1#1), ∀ a, (k0_off28 arg10_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h9 => k0_hw1.1.2.2.2.2.2.2.2.2.2.2.2.2.2.2.2.2.2.2.2.1 k0_h9
theorem k0_off29_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h9 : k0_cond9 k0_t1 arg22_r0 = 1#1), ∀ a, (k0_off29 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h9 => k0_hw1.1.2.2.2.2.2.2.2.2.2.2.2.2.2.2.2.2.2.2.2.2.1 k0_h9
theorem k0_off30_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h10 : k0_cond10 k0_t1 arg22_r0 = 1#1), ∀ a, (k0_off30 arg12_r0) a + S1.size a ≤ S3.size a := fun k0_t1 arg9_r0 arg10_r0 arg11_r0 arg12_r0 arg13_r0 arg14_r0 arg15_r0 arg16_r0 arg20_r0 arg21_r0 arg22_r0 k0_hw1 k0_h10 => k0_hw1.1.2.2.2.2.2.2.2.2.2.2.2.2.2.2.2.2.2.2.2.2.2.1 k0_h10
theorem k0_off31_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h10 : k0_cond10 k0_t1 arg22_r0 = 1#1), ∀ a, (k0_off31 arg12_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h10 => k0_hw1.1.2.2.2.2.2.2.2.2.2.2.2.2.2.2.2.2.2.2.2.2.2.2.1 k0_h10
theorem k0_off32_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h10 : k0_cond10 k0_t1 arg22_r0 = 1#1), ∀ a, (k0_off32 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h10 => k0_hw1.1.2.2.2.2.2.2.2.2.2.2.2.2.2.2.2.2.2.2.2.2.2.2.2.1 k0_h10
theorem k0_off32_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h10 : k0_cond10 k0_t1 arg22_r0 = 1#1), (Rect.unit (s := S32768x1024) (k0_off32 arg22_r0) S1024x1024.size (k0_off32_inb k0_t1 arg9_r0 arg10_r0 arg11_r0 arg12_r0 arg13_r0 arg14_r0 arg15_r0 arg16_r0 arg20_r0 arg21_r0 arg22_r0 k0_hw1 k0_h10)).WholeWords (EltTy.packing .bf16) := fun k0_t1 arg9_r0 arg10_r0 arg11_r0 arg12_r0 arg13_r0 arg14_r0 arg15_r0 arg16_r0 arg20_r0 arg21_r0 arg22_r0 k0_hw1 k0_h10 => k0_hw1.1.2.2.2.2.2.2.2.2.2.2.2.2.2.2.2.2.2.2.2.2.2.2.2.2.1 k0_h10 (k0_off32_inb k0_t1 arg9_r0 arg10_r0 arg11_r0 arg12_r0 arg13_r0 arg14_r0 arg15_r0 arg16_r0 arg20_r0 arg21_r0 arg22_r0 k0_hw1 k0_h10)
theorem k0_off31_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h10 : k0_cond10 k0_t1 arg22_r0 = 1#1), (Rect.unit (s := S3x1024x1024) (k0_off31 arg12_r0) S1x1024x1024.size (k0_off31_inb k0_t1 arg9_r0 arg10_r0 arg11_r0 arg12_r0 arg13_r0 arg14_r0 arg15_r0 arg16_r0 arg20_r0 arg21_r0 arg22_r0 k0_hw1 k0_h10)).WholeWords (EltTy.packing .bf16) := fun k0_t1 arg9_r0 arg10_r0 arg11_r0 arg12_r0 arg13_r0 arg14_r0 arg15_r0 arg16_r0 arg20_r0 arg21_r0 arg22_r0 k0_hw1 k0_h10 => k0_hw1.1.2.2.2.2.2.2.2.2.2.2.2.2.2.2.2.2.2.2.2.2.2.2.2.2.2.1 k0_h10 (k0_off31_inb k0_t1 arg9_r0 arg10_r0 arg11_r0 arg12_r0 arg13_r0 arg14_r0 arg15_r0 arg16_r0 arg20_r0 arg21_r0 arg22_r0 k0_hw1 k0_h10)
theorem k0_off33_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h11 : k0_cond11 k0_t1 arg22_r0 = 1#1), ∀ a, (k0_off33 arg14_r0) a + S1.size a ≤ S3.size a := fun k0_t1 arg9_r0 arg10_r0 arg11_r0 arg12_r0 arg13_r0 arg14_r0 arg15_r0 arg16_r0 arg20_r0 arg21_r0 arg22_r0 k0_hw1 k0_h11 => k0_hw1.1.2.2.2.2.2.2.2.2.2.2.2.2.2.2.2.2.2.2.2.2.2.2.2.2.2.2.1 k0_h11
theorem k0_off34_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h11 : k0_cond11 k0_t1 arg22_r0 = 1#1), ∀ a, (k0_off34 arg14_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h11 => k0_hw1.1.2.2.2.2.2.2.2.2.2.2.2.2.2.2.2.2.2.2.2.2.2.2.2.2.2.2.2.1 k0_h11
theorem k0_off35_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h11 : k0_cond11 k0_t1 arg22_r0 = 1#1), ∀ a, (k0_off35 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h11 => k0_hw1.1.2.2.2.2.2.2.2.2.2.2.2.2.2.2.2.2.2.2.2.2.2.2.2.2.2.2.2.2.1 k0_h11
theorem k0_off35_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h11 : k0_cond11 k0_t1 arg22_r0 = 1#1), (Rect.unit (s := S32768x1024) (k0_off35 arg22_r0) S1024x1024.size (k0_off35_inb k0_t1 arg9_r0 arg10_r0 arg11_r0 arg12_r0 arg13_r0 arg14_r0 arg15_r0 arg16_r0 arg20_r0 arg21_r0 arg22_r0 k0_hw1 k0_h11)).WholeWords (EltTy.packing .bf16) := fun k0_t1 arg9_r0 arg10_r0 arg11_r0 arg12_r0 arg13_r0 arg14_r0 arg15_r0 arg16_r0 arg20_r0 arg21_r0 arg22_r0 k0_hw1 k0_h11 => k0_hw1.1.2.2.2.2.2.2.2.2.2.2.2.2.2.2.2.2.2.2.2.2.2.2.2.2.2.2.2.2.2.1 k0_h11 (k0_off35_inb k0_t1 arg9_r0 arg10_r0 arg11_r0 arg12_r0 arg13_r0 arg14_r0 arg15_r0 arg16_r0 arg20_r0 arg21_r0 arg22_r0 k0_hw1 k0_h11)
theorem k0_off34_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h11 : k0_cond11 k0_t1 arg22_r0 = 1#1), (Rect.unit (s := S3x1024x1024) (k0_off34 arg14_r0) S1x1024x1024.size (k0_off34_inb k0_t1 arg9_r0 arg10_r0 arg11_r0 arg12_r0 arg13_r0 arg14_r0 arg15_r0 arg16_r0 arg20_r0 arg21_r0 arg22_r0 k0_hw1 k0_h11)).WholeWords (EltTy.packing .bf16) := fun k0_t1 arg9_r0 arg10_r0 arg11_r0 arg12_r0 arg13_r0 arg14_r0 arg15_r0 arg16_r0 arg20_r0 arg21_r0 arg22_r0 k0_hw1 k0_h11 => k0_hw1.1.2.2.2.2.2.2.2.2.2.2.2.2.2.2.2.2.2.2.2.2.2.2.2.2.2.2.2.2.2.2.1 k0_h11 (k0_off34_inb k0_t1 arg9_r0 arg10_r0 arg11_r0 arg12_r0 arg13_r0 arg14_r0 arg15_r0 arg16_r0 arg20_r0 arg21_r0 arg22_r0 k0_hw1 k0_h11)
theorem k0_off36_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h12 : k0_cond12 k0_t1 arg22_r0 = 1#1), ∀ a, (k0_off36 arg16_r0) a + S1.size a ≤ S3.size a := fun k0_t1 arg9_r0 arg10_r0 arg11_r0 arg12_r0 arg13_r0 arg14_r0 arg15_r0 arg16_r0 arg20_r0 arg21_r0 arg22_r0 k0_hw1 k0_h12 => k0_hw1.1.2.2.2.2.2.2.2.2.2.2.2.2.2.2.2.2.2.2.2.2.2.2.2.2.2.2.2.2.2.2.2 k0_h12
theorem k0_off37_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h12 : k0_cond12 k0_t1 arg22_r0 = 1#1), ∀ a, (k0_off37 arg16_r0) a + S1x1024x1024.size a ≤ S3x1024x1024.size a := fun k0_t1 arg9_r0 arg10_r0 arg11_r0 arg12_r0 arg13_r0 arg14_r0 arg15_r0 arg16_r0 arg20_r0 arg21_r0 arg22_r0 k0_hw1 k0_h12 => k0_hw1.2.1 k0_h12
theorem k0_off38_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h12 : k0_cond12 k0_t1 arg22_r0 = 1#1), ∀ a, (k0_off38 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h12 => k0_hw1.2.2.1 k0_h12
theorem k0_off38_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h12 : k0_cond12 k0_t1 arg22_r0 = 1#1), (Rect.unit (s := S32768x1024) (k0_off38 arg22_r0) S1024x1024.size (k0_off38_inb k0_t1 arg9_r0 arg10_r0 arg11_r0 arg12_r0 arg13_r0 arg14_r0 arg15_r0 arg16_r0 arg20_r0 arg21_r0 arg22_r0 k0_hw1 k0_h12)).WholeWords (EltTy.packing .bf16) := fun k0_t1 arg9_r0 arg10_r0 arg11_r0 arg12_r0 arg13_r0 arg14_r0 arg15_r0 arg16_r0 arg20_r0 arg21_r0 arg22_r0 k0_hw1 k0_h12 => k0_hw1.2.2.2.1 k0_h12 (k0_off38_inb k0_t1 arg9_r0 arg10_r0 arg11_r0 arg12_r0 arg13_r0 arg14_r0 arg15_r0 arg16_r0 arg20_r0 arg21_r0 arg22_r0 k0_hw1 k0_h12)
theorem k0_off37_wordsbf16 : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h12 : k0_cond12 k0_t1 arg22_r0 = 1#1), (Rect.unit (s := S3x1024x1024) (k0_off37 arg16_r0) S1x1024x1024.size (k0_off37_inb k0_t1 arg9_r0 arg10_r0 arg11_r0 arg12_r0 arg13_r0 arg14_r0 arg15_r0 arg16_r0 arg20_r0 arg21_r0 arg22_r0 k0_hw1 k0_h12)).WholeWords (EltTy.packing .bf16) := fun k0_t1 arg9_r0 arg10_r0 arg11_r0 arg12_r0 arg13_r0 arg14_r0 arg15_r0 arg16_r0 arg20_r0 arg21_r0 arg22_r0 k0_hw1 k0_h12 => k0_hw1.2.2.2.2.1 k0_h12 (k0_off37_inb k0_t1 arg9_r0 arg10_r0 arg11_r0 arg12_r0 arg13_r0 arg14_r0 arg15_r0 arg16_r0 arg20_r0 arg21_r0 arg22_r0 k0_hw1 k0_h12)
theorem k0_off44_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h18 : k0_cond18 k0_t1 arg22_r0 = 1#1), ∀ a, (k0_off44 arg20_r0) a + S1.size a ≤ S2.size a := fun k0_t1 arg9_r0 arg10_r0 arg11_r0 arg12_r0 arg13_r0 arg14_r0 arg15_r0 arg16_r0 arg20_r0 arg21_r0 arg22_r0 k0_hw1 k0_h18 => k0_hw1.2.2.2.2.2.1 k0_h18
theorem k0_off45_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h18 : k0_cond18 k0_t1 arg22_r0 = 1#1), ∀ a, (k0_off45 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h18 => k0_hw1.2.2.2.2.2.2.1 k0_h18
theorem k0_off46_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h18 : k0_cond18 k0_t1 arg22_r0 = 1#1), ∀ a, (k0_off46 arg20_r0) a + S1x1024x1024.size a ≤ S2x1024x1024.size a := fun k0_t1 arg9_r0 arg10_r0 arg11_r0 arg12_r0 arg13_r0 arg14_r0 arg15_r0 arg16_r0 arg20_r0 arg21_r0 arg22_r0 k0_hw1 k0_h18 => k0_hw1.2.2.2.2.2.2.2.1 k0_h18
theorem k0_off47_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h23 : k0_cond23 k0_t1 arg22_r0 = 1#1), ∀ a, (k0_off47 arg21_r0) a + S1.size a ≤ S2.size a := fun k0_t1 arg9_r0 arg10_r0 arg11_r0 arg12_r0 arg13_r0 arg14_r0 arg15_r0 arg16_r0 arg20_r0 arg21_r0 arg22_r0 k0_hw1 k0_h23 => k0_hw1.2.2.2.2.2.2.2.2.1 k0_h23
theorem k0_off48_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h23 : k0_cond23 k0_t1 arg22_r0 = 1#1), ∀ a, (k0_off48 arg22_r0) a + S1024x1024.size a ≤ S32768x1024.size a := fun k0_t1 arg9_r0 arg10_r0 arg11_r0 arg12_r0 arg13_r0 arg14_r0 arg15_r0 arg16_r0 arg20_r0 arg21_r0 arg22_r0 k0_hw1 k0_h23 => k0_hw1.2.2.2.2.2.2.2.2.2.1 k0_h23
theorem k0_off49_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg20_r0 : BitVec 32) (arg21_r0 : BitVec 32) (arg22_r0 : BitVec 32) (k0_hw1 : k0_chk1 k0_t1 arg9_r0 arg10_r0 arg11_r0 arg12_r0 arg13_r0 arg14_r0 arg15_r0 arg16_r0 arg20_r0 arg21_r0 arg22_r0), ∀ (k0_h23 : k0_cond23 k0_t1 arg22_r0 = 1#1), ∀ a, (k0_off49 arg21_r0) a + S1x1024x1024.size a ≤ S2x1024x1024.size a := fun k0_t1 arg9_r0 arg10_r0 arg11_r0 arg12_r0 arg13_r0 arg14_r0 arg15_r0 arg16_r0 arg20_r0 arg21_r0 arg22_r0 k0_hw1 k0_h23 => k0_hw1.2.2.2.2.2.2.2.2.2.2 k0_h23

def k0_off50 (v80_12_r0 : BitVec 32) : Fin 1 → Nat :=
  let c2_i32_r0 : BitVec 32 := 2#32
  let v106_r0 : BitVec 32 := Scalar.remui v80_12_r0 c2_i32_r0
  ![v106_r0.toNat]

def k0_off51 (v80_13_r0 : BitVec 32) : Fin 2 → Nat :=
  let c1024_i32_r0 : BitVec 32 := 1024#32
  let true_92_r0 : BitVec 1 := 1#1
  let c1_i32_91_r0 : BitVec 32 := 1#32
  let v81_r0 : BitVec 32 := Scalar.subi v80_13_r0 c1_i32_91_r0
  let v82_r0 : BitVec 32 := Scalar.select true_92_r0 v81_r0 v80_13_r0
  let c_m1_i32_93_r0 : BitVec 32 := 4294967295#32
  let v83_r0 : BitVec 1 := Scalar.cmpi .eq v82_r0 c_m1_i32_93_r0
  let c31_i32_94_r0 : BitVec 32 := 31#32
  let v84_r0 : BitVec 32 := Scalar.select v83_r0 c31_i32_94_r0 v82_r0
  let c0_i32_95_r0 : BitVec 32 := 0#32
  let v85_r0 : BitVec 32 := Scalar.addi v84_r0 c0_i32_95_r0
  let v107_r0 : BitVec 32 := Scalar.muli c1024_i32_r0 v85_r0
  let c0_i32_116_r0 : BitVec 32 := 0#32
  ![v107_r0.toNat, 0]

def k0_chk8 (v80_13_r0 : BitVec 32) : Prop :=
  (∀ a, (k0_off51 v80_13_r0) a + S1024x1024.size a ≤ S32768x1024.size a)
theorem k0_off51_inb : ∀ (v80_13_r0 : BitVec 32) (k0_hw8 : k0_chk8 v80_13_r0), ∀ a, (k0_off51 v80_13_r0) a + S1024x1024.size a ≤ S32768x1024.size a := fun v80_13_r0 k0_hw8 => k0_hw8

def k0_off52 (v80_12_r0 : BitVec 32) : Fin 3 → Nat :=
  let c2_i32_r0 : BitVec 32 := 2#32
  let v106_r0 : BitVec 32 := Scalar.remui v80_12_r0 c2_i32_r0
  let c0_i32_117_r0 : BitVec 32 := 0#32
  let c0_i32_118_r0 : BitVec 32 := 0#32
  ![v106_r0.toNat, 0, 0]

def k0_chk7 (v80_12_r0 : BitVec 32) : Prop :=
  (∀ a, (k0_off50 v80_12_r0) a + S1.size a ≤ S2.size a) ∧
  (∀ a, (k0_off52 v80_12_r0) a + S1x1024x1024.size a ≤ S2x1024x1024.size a)
theorem k0_off50_inb : ∀ (v80_12_r0 : BitVec 32) (k0_hw7 : k0_chk7 v80_12_r0), ∀ a, (k0_off50 v80_12_r0) a + S1.size a ≤ S2.size a := fun v80_12_r0 k0_hw7 => k0_hw7.1
theorem k0_off52_inb : ∀ (v80_12_r0 : BitVec 32) (k0_hw7 : k0_chk7 v80_12_r0), ∀ a, (k0_off52 v80_12_r0) a + S1x1024x1024.size a ≤ S2x1024x1024.size a := fun v80_12_r0 k0_hw7 => k0_hw7.2
-- ==== ReferenceIdeal.lean ====
abbrev S32768x1024 : Shape := ⟨2, ![32768, 1024]⟩
abbrev S1024 : Shape := ⟨1, ![1024]⟩
abbrev S1024x1024 : Shape := ⟨2, ![1024, 1024]⟩
abbrev S32768x4x256 : Shape := ⟨3, ![32768, 4, 256]⟩
abbrev S_ : Shape := ⟨0, ![]⟩
abbrev S32768x4 : Shape := ⟨2, ![32768, 4]⟩
abbrev S32768x4x1 : Shape := ⟨3, ![32768, 4, 1]⟩
abbrev S1x1024 : Shape := ⟨2, ![1, 1024]⟩
abbrev S32768 : Shape := ⟨1, ![32768]⟩
abbrev S32768x1 : Shape := ⟨2, ![32768, 1]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x4x256, .f32⟩
  | .hbm, ⟨11, _⟩ => ⟨S32768x4x256, .f32⟩
  | .hbm, ⟨12, _⟩ => ⟨S_, .f32⟩
  | .hbm, ⟨13, _⟩ => ⟨S32768x4, .f32⟩
  | .hbm, ⟨14, _⟩ => ⟨S32768x4x1, .f32⟩
  | .hbm, ⟨15, _⟩ => ⟨S_, .f32⟩
  | .hbm, ⟨16, _⟩ => ⟨S32768x4x1, .f32⟩
  | .hbm, ⟨17, _⟩ => ⟨S32768x4x1, .f32⟩
  | .hbm, ⟨18, _⟩ => ⟨S_, .f32⟩
  | .hbm, ⟨19, _⟩ => ⟨S32768x4x1, .f32⟩
  | .hbm, ⟨20, _⟩ => ⟨S32768x4x1, .f32⟩
  | .hbm, ⟨21, _⟩ => ⟨S32768x4x1, .f32⟩
  | .hbm, ⟨22, _⟩ => ⟨S32768x4x256, .f32⟩
  | .hbm, ⟨23, _⟩ => ⟨S32768x4x256, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x4x8192x256 : Shape := ⟨4, ![2, 4, 8192, 256]⟩
abbrev S1024x1024 : Shape := ⟨2, ![1024, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x512x256 : Shape := ⟨4, ![1, 1, 512, 256]⟩
abbrev S528x1024 : Shape := ⟨2, ![528, 1024]⟩
abbrev S2x2x528x256 : Shape := ⟨4, ![2, 2, 528, 256]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S512 : Shape := ⟨1, ![512]⟩
abbrev S512x1 : Shape := ⟨2, ![512, 1]⟩
abbrev S1024x256 : Shape := ⟨2, ![1024, 256]⟩
abbrev S528x256 : Shape := ⟨2, ![528, 256]⟩
abbrev S1x1x528x256 : Shape := ⟨4, ![1, 1, 528, 256]⟩
abbrev S3x256 : Shape := ⟨2, ![3, 256]⟩
abbrev S512x256 : Shape := ⟨2, ![512, 256]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x4x8192x256, .f32⟩
  | .hbm, ⟨8, _⟩ => ⟨S1024x1024, .f32⟩
  | .hbm, ⟨9, _⟩ => ⟨S256x1024, .f32⟩
  | .hbm, ⟨10, _⟩ => ⟨S1024x5632, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1x512x256, .f32⟩
  | .local _ .vmem, ⟨13, _⟩ => ⟨S1x1x512x256, .f32⟩
  | .local _ .vmem, ⟨14, _⟩ => ⟨S1024x1024, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | .local _ .vmem, ⟨18, _⟩ => ⟨S528x1024, .bf16⟩
  | .local _ .vmem, ⟨19, _⟩ => ⟨S2x2x528x256, .f32⟩
  | .local _ .vmem, ⟨20, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

def k0_mult1 : BitVec 32 :=
  let c2816_i32 : BitVec 32 := 2816#32
  c2816_i32
def k0_mult2 : BitVec 32 :=
  let c0_i32_31 : BitVec 32 := 0#32
  c0_i32_31
@[reducible] def k0_t1_loop : Scf.Loop 32 :=
  let c0_i32_37 : BitVec 32 := 0#32
  let c5_i32 : BitVec 32 := 5#32
  let v82 : BitVec 32 := Scalar.addi c0_i32_37 c5_i32
  let c1_i32 : BitVec 32 := 1#32
  ⟨c0_i32_37, v82, c1_i32⟩
def k0_mult3 (k0_t1 : Fin k0_t1_loop.trips) : BitVec 32 :=
  let c2816_i32_90 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32 : BitVec 32 := 256#32
  let v198 : BitVec 32 := Scalar.muli v196 c256_i32
  let v199 : BitVec 32 := Scalar.addi c2816_i32_90 v198
  v199
def k0_off1 (k0_t1 : Fin k0_t1_loop.trips) (c2816_i32_90 : BitVec 32) (c1_i32_87 : BitVec 32) : Fin 2 → Nat :=
  let c0_91 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let v196 : BitVec 32 := Scalar.addi v195 c1_i32_87
  let c256_i32 : BitVec 32 := 256#32
  let v198 : BitVec 32 := Scalar.muli v196 c256_i32
  let v199 : BitVec 32 := Scalar.addi c2816_i32_90 v198
  let v200 : BitVec 32 := v199
  let v201 : Index := Scalar.indexCast v200
  ![0, v201.toNat]
def k0_mult4 (k0_t1 : Fin k0_t1_loop.trips) : BitVec 32 :=
  let c0_i32_98 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32_97 : BitVec 32 := 256#32
  let v208 : BitVec 32 := Scalar.muli v196 c256_i32_97
  let v209 : BitVec 32 := Scalar.addi c0_i32_98 v208
  v209
def k0_mult5 (k0_t1 : Fin k0_t1_loop.trips) : BitVec 32 :=
  let c2816_i32_110 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  v221
def k0_off2 (k0_t1 : Fin k0_t1_loop.trips) (c2816_i32_110 : BitVec 32) : Fin 2 → Nat :=
  let c0_111 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v223 : Index := Scalar.indexCast v222
  ![0, v223.toNat]
def k0_off3 (k0_t1 : Fin k0_t1_loop.trips) (c2816_i32_110 : BitVec 32) : Fin 2 → Nat :=
  let c0_114 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v241 : Index := Scalar.indexCast v222
  ![0, v241.toNat]
def k0_mult6 (k0_t1 : Fin k0_t1_loop.trips) : BitVec 32 :=
  let c0_i32_123 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_122 : BitVec 32 := 256#32
  let v258 : BitVec 32 := Scalar.muli v195 c256_i32_122
  let v259 : BitVec 32 := Scalar.addi c0_i32_123 v258
  v259
def k0_mult7 (k0_t1 : Fin k0_t1_loop.trips) : BitVec 32 :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  v288
def k0_off4 (k0_t1 : Fin k0_t1_loop.trips) : Fin 2 → Nat :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  let v289 : BitVec 32 := v288
  let v290 : Index := Scalar.indexCast v289
  let c0_132 : Index := 0#32
  ![v290.toNat, 0]
def k0_mult8 (k0_t1 : Fin k0_t1_loop.trips) : BitVec 32 :=
  let c2816_i32_140 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_139 : BitVec 32 := 256#32
  let v300 : BitVec 32 := Scalar.muli v298 c256_i32_139
  let v301 : BitVec 32 := Scalar.addi c2816_i32_140 v300
  v301
def k0_mult9 (k0_t1 : Fin k0_t1_loop.trips) : BitVec 32 :=
  let c0_i32_148 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_147 : BitVec 32 := 256#32
  let v310 : BitVec 32 := Scalar.muli v298 c256_i32_147
  let v311 : BitVec 32 := Scalar.addi c0_i32_148 v310
  v311
def k0_mult10 (k0_t1 : Fin k0_t1_loop.trips) : BitVec 32 :=
  let c2816_i32_161 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  v324
def k0_off5 (k0_t1 : Fin k0_t1_loop.trips) (c2816_i32_161 : BitVec 32) : Fin 2 → Nat :=
  let c0_162 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v326 : Index := Scalar.indexCast v325
  ![0, v326.toNat]
def k0_off6 (k0_t1 : Fin k0_t1_loop.trips) (c2816_i32_161 : BitVec 32) : Fin 2 → Nat :=
  let c0_165 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v344 : Index := Scalar.indexCast v325
  ![0, v344.toNat]
def k0_mult11 (k0_t1 : Fin k0_t1_loop.trips) : BitVec 32 :=
  let c0_i32_174 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_173 : BitVec 32 := 256#32
  let v361 : BitVec 32 := Scalar.muli v320 c256_i32_173
  let v362 : BitVec 32 := Scalar.addi c0_i32_174 v361
  v362
def k0_mult12 (k0_t1 : Fin k0_t1_loop.trips) : BitVec 32 :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  v391
def k0_off7 (k0_t1 : Fin k0_t1_loop.trips) : Fin 2 → Nat :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  let v392 : BitVec 32 := v391
  let v393 : Index := Scalar.indexCast v392
  let c0_183 : Index := 0#32
  ![v393.toNat, 0]
def k0_mult13 : BitVec 32 :=
  let c5376_i32 : BitVec 32 := 5376#32
  c5376_i32
def k0_mult14 : BitVec 32 :=
  let c2560_i32 : BitVec 32 := 2560#32
  c2560_i32
def k0_mult15 : BitVec 32 :=
  let c2560_i32_59 : BitVec 32 := 2560#32
  c2560_i32_59
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x4x8192x256 : Shape := ⟨4, ![2, 4, 8192, 256]⟩
abbrev S1024x1024 : Shape := ⟨2, ![1024, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x512x256 : Shape := ⟨4, ![1, 1, 512, 256]⟩
abbrev S528x1024 : Shape := ⟨2, ![528, 1024]⟩
abbrev S2x2x528x256 : Shape := ⟨4, ![2, 2, 528, 256]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S512 : Shape := ⟨1, ![512]⟩
abbrev S512x1 : Shape := ⟨2, ![512, 1]⟩
abbrev S1024x256 : Shape := ⟨2, ![1024, 256]⟩
abbrev S528x256 : Shape := ⟨2, ![528, 256]⟩
abbrev S1x1x528x256 : Shape := ⟨4, ![1, 1, 528, 256]⟩
abbrev S3x256 : Shape := ⟨2, ![3, 256]⟩
abbrev S512x256 : Shape := ⟨2, ![512, 256]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x4x8192x256, .f32⟩
  | .hbm, ⟨8, _⟩ => ⟨S1024x1024, .f32⟩
  | .hbm, ⟨9, _⟩ => ⟨S256x1024, .f32⟩
  | .hbm, ⟨10, _⟩ => ⟨S1024x5632, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1x512x256, .f32⟩
  | .local _ .vmem, ⟨13, _⟩ => ⟨S1x1x512x256, .f32⟩
  | .local _ .vmem, ⟨14, _⟩ => ⟨S1024x1024, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | .local _ .vmem, ⟨18, _⟩ => ⟨S528x1024, .bf16⟩
  | .local _ .vmem, ⟨19, _⟩ => ⟨S2x2x528x256, .f32⟩
  | .local _ .vmem, ⟨20, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F] [Named F]

def κ : String → Option EReal := fun
  | "gelu_cubic" => some ((-((2 * ((6693141 / 8388608) * (12003091 / 268435456))) * (Real.log 2)⁻¹) : ℝ) : EReal)
  | "gelu_linear" => some ((-((2 * (6693141 / 8388608)) * (Real.log 2)⁻¹) : ℝ) : EReal)
  | _ => none

abbrev grid0 : Pipeline.Grid := ⟨2, ![4, 16], ![false, false]⟩

def k0_mult1 : BitVec 32 :=
  let c2816_i32 : BitVec 32 := 2816#32
  c2816_i32
def k0_mult2 : BitVec 32 :=
  let c0_i32_31 : BitVec 32 := 0#32
  c0_i32_31
@[reducible] def k0_t1_loop : Scf.Loop 32 :=
  let c0_i32_37 : BitVec 32 := 0#32
  let c5_i32 : BitVec 32 := 5#32
  let v82 : BitVec 32 := Scalar.addi c0_i32_37 c5_i32
  let c1_i32 : BitVec 32 := 1#32
  ⟨c0_i32_37, v82, c1_i32⟩
def k0_mult3 (k0_t1 : Fin k0_t1_loop.trips) : BitVec 32 :=
  let c2816_i32_90 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32 : BitVec 32 := 256#32
  let v198 : BitVec 32 := Scalar.muli v196 c256_i32
  let v199 : BitVec 32 := Scalar.addi c2816_i32_90 v198
  v199
def k0_off1 (k0_t1 : Fin k0_t1_loop.trips) (c2816_i32_90 : BitVec 32) (c1_i32_87 : BitVec 32) : Fin 2 → Nat :=
  let c0_91 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let v196 : BitVec 32 := Scalar.addi v195 c1_i32_87
  let c256_i32 : BitVec 32 := 256#32
  let v198 : BitVec 32 := Scalar.muli v196 c256_i32
  let v199 : BitVec 32 := Scalar.addi c2816_i32_90 v198
  let v200 : BitVec 32 := v199
  let v201 : Index := Scalar.indexCast v200
  ![0, v201.toNat]
def k0_mult4 (k0_t1 : Fin k0_t1_loop.trips) : BitVec 32 :=
  let c0_i32_98 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32_97 : BitVec 32 := 256#32
  let v208 : BitVec 32 := Scalar.muli v196 c256_i32_97
  let v209 : BitVec 32 := Scalar.addi c0_i32_98 v208
  v209
def k0_mult5 (k0_t1 : Fin k0_t1_loop.trips) : BitVec 32 :=
  let c2816_i32_110 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  v221
def k0_off2 (k0_t1 : Fin k0_t1_loop.trips) (c2816_i32_110 : BitVec 32) : Fin 2 → Nat :=
  let c0_111 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v223 : Index := Scalar.indexCast v222
  ![0, v223.toNat]
def k0_off3 (k0_t1 : Fin k0_t1_loop.trips) (c2816_i32_110 : BitVec 32) : Fin 2 → Nat :=
  let c0_114 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v241 : Index := Scalar.indexCast v222
  ![0, v241.toNat]
def k0_mult6 (k0_t1 : Fin k0_t1_loop.trips) : BitVec 32 :=
  let c0_i32_123 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_122 : BitVec 32 := 256#32
  let v258 : BitVec 32 := Scalar.muli v195 c256_i32_122
  let v259 : BitVec 32 := Scalar.addi c0_i32_123 v258
  v259
def k0_mult7 (k0_t1 : Fin k0_t1_loop.trips) : BitVec 32 :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  v288
def k0_off4 (k0_t1 : Fin k0_t1_loop.trips) : Fin 2 → Nat :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  let v289 : BitVec 32 := v288
  let v290 : Index := Scalar.indexCast v289
  let c0_132 : Index := 0#32
  ![v290.toNat, 0]
def k0_mult8 (k0_t1 : Fin k0_t1_loop.trips) : BitVec 32 :=
  let c2816_i32_140 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_139 : BitVec 32 := 256#32
  let v300 : BitVec 32 := Scalar.muli v298 c256_i32_139
  let v301 : BitVec 32 := Scalar.addi c2816_i32_140 v300
  v301
def k0_mult9 (k0_t1 : Fin k0_t1_loop.trips) : BitVec 32 :=
  let c0_i32_148 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_147 : BitVec 32 := 256#32
  let v310 : BitVec 32 := Scalar.muli v298 c256_i32_147
  let v311 : BitVec 32 := Scalar.addi c0_i32_148 v310
  v311
def k0_mult10 (k0_t1 : Fin k0_t1_loop.trips) : BitVec 32 :=
  let c2816_i32_161 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  v324
def k0_off5 (k0_t1 : Fin k0_t1_loop.trips) (c2816_i32_161 : BitVec 32) : Fin 2 → Nat :=
  let c0_162 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v326 : Index := Scalar.indexCast v325
  ![0, v326.toNat]
def k0_off6 (k0_t1 : Fin k0_t1_loop.trips) (c2816_i32_161 : BitVec 32) : Fin 2 → Nat :=
  let c0_165 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v344 : Index := Scalar.indexCast v325
  ![0, v344.toNat]
def k0_mult11 (k0_t1 : Fin k0_t1_loop.trips) : BitVec 32 :=
  let c0_i32_174 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_173 : BitVec 32 := 256#32
  let v361 : BitVec 32 := Scalar.muli v320 c256_i32_173
  let v362 : BitVec 32 := Scalar.addi c0_i32_174 v361
  v362
def k0_mult12 (k0_t1 : Fin k0_t1_loop.trips) : BitVec 32 :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  v391
def k0_off7 (k0_t1 : Fin k0_t1_loop.trips) : Fin 2 → Nat :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  let v392 : BitVec 32 := v391
  let v393 : Index := Scalar.indexCast v392
  let c0_183 : Index := 0#32
  ![v393.toNat, 0]
def k0_mult13 : BitVec 32 :=
  let c5376_i32 : BitVec 32 := 5376#32
  c5376_i32
def k0_mult14 : BitVec 32 :=
  let c2560_i32 : BitVec 32 := 2560#32
  c2560_i32
def k0_mult15 : BitVec 32 :=
  let c2560_i32_59 : BitVec 32 := 2560#32
  c2560_i32_59
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x4x8192x256 : Shape := ⟨4, ![2, 4, 8192, 256]⟩
abbrev S1024x1024 : Shape := ⟨2, ![1024, 1024]⟩
abbrev S256x1024 : Shape := ⟨2, ![256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩
abbrev S1x4x8192x256 : Shape := ⟨4, ![1, 4, 8192, 256]⟩
abbrev S4x8192x256 : Shape := ⟨3, ![4, 8192, 256]⟩

abbrev nBuf : Space → Nat
  | .hbm => 105
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x4x8192x256, .f32⟩
  | .hbm, ⟨8, _⟩ => ⟨S1024x1024, .f32⟩
  | .hbm, ⟨9, _⟩ => ⟨S256x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x5632, .f32⟩
  | .hbm, ⟨27, _⟩ => ⟨S_, .i32⟩
  | .hbm, ⟨28, _⟩ => ⟨S_, .f32⟩
  | .hbm, ⟨29, _⟩ => ⟨S4x8194x5632, .f32⟩
  | .hbm, ⟨30, _⟩ => ⟨S4x8192x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S4x8192x5632, .f32⟩
  | .hbm, ⟨35, _⟩ => ⟨S4x8192x5632, .f32⟩
  | .hbm, ⟨36, _⟩ => ⟨S4x8192x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S4x8192x5632, .f32⟩
  | .hbm, ⟨41, _⟩ => ⟨S4x8192x5632, .f32⟩
  | .hbm, ⟨42, _⟩ => ⟨S4x8192x5632, .f32⟩
  | .hbm, ⟨43, _⟩ => ⟨S4x8192x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x8192x5632, .f32⟩
  | .hbm, ⟨48, _⟩ => ⟨S4x8192x5632, .f32⟩
  | .hbm, ⟨49, _⟩ => ⟨S4x8192x5632, .f32⟩
  | .hbm, ⟨50, _⟩ => ⟨S1x1x5632, .f32⟩
  | .hbm, ⟨51, _⟩ => ⟨S4x8192x5632, .f32⟩
  | .hbm, ⟨52, _⟩ => ⟨S4x8192x5632, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S_, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S_, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x2816, .f32⟩
  | .hbm, ⟨73, _⟩ => ⟨S4x8192x1024, .f32⟩
  | .hbm, ⟨74, _⟩ => ⟨S4x8192x1024, .f32⟩
  | .hbm, ⟨75, _⟩ => ⟨S_, .f32⟩
  | .hbm, ⟨76, _⟩ => ⟨S4x8192, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S_, .f32⟩
  | .hbm, ⟨82, _⟩ => ⟨S4x8192x1, .f32⟩
  | .hbm, ⟨83, _⟩ => ⟨S4x8192x1, .f32⟩
  | .hbm, ⟨84, _⟩ => ⟨S4x8192x1, .f32⟩
  | .hbm, ⟨85, _⟩ => ⟨S4x8192x1024, .f32⟩
  | .hbm, ⟨86, _⟩ => ⟨S4x8192x1024, .f32⟩
  | .hbm, ⟨87, _⟩ => ⟨S1x1x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S_, .f32⟩
  | .hbm, ⟨98, _⟩ => ⟨S4x8192x1024, .f32⟩
  | .hbm, ⟨99, _⟩ => ⟨S4x8192x1024, .f32⟩
  | .hbm, ⟨100, _⟩ => ⟨S1x4x8192x256, .f32⟩
  | .hbm, ⟨101, _⟩ => ⟨S4x8192x256, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3104 : Shape := ⟨2, ![1024, 3104]⟩
abbrev S_ : Shape := ⟨0, ![]⟩
abbrev S1024x3200 : Shape := ⟨2, ![1024, 3200]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3104, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S32768x1024, .bf16⟩
  | .hbm, ⟨9, _⟩ => ⟨S32768x1024, .bf16⟩
  | .hbm, ⟨10, _⟩ => ⟨S32768x1024, .bf16⟩
  | .hbm, ⟨11, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1024 : Shape := ⟨1, ![1024]⟩
abbrev S1024x3104 : Shape := ⟨2, ![1024, 3104]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3104 : Shape := ⟨2, ![32768, 3104]⟩
abbrev S32768x32 : Shape := ⟨2, ![32768, 32]⟩
abbrev S32768x128 : Shape := ⟨2, ![32768, 128]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3104, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3104, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x32, .f32⟩
  | .hbm, ⟨24, _⟩ => ⟨S32768x1024, .bf16⟩
  | .hbm, ⟨25, _⟩ => ⟨S32768x1024, .bf16⟩
  | .hbm, ⟨26, _⟩ => ⟨S32768x1024, .bf16⟩
  | .hbm, ⟨27, _⟩ => ⟨S_, .i32⟩
  | .hbm, ⟨28, _⟩ => ⟨S_, .f32⟩
  | .hbm, ⟨29, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x3600 : Shape := ⟨2, ![1024, 3600]⟩
abbrev S1024x3584 : Shape := ⟨2, ![1024, 3584]⟩
abbrev S1024x16 : Shape := ⟨2, ![1024, 16]⟩
abbrev S16x1024 : Shape := ⟨2, ![16, 1024]⟩
abbrev S1x1024 : Shape := ⟨2, ![1, 1024]⟩
abbrev S32768x1536 : Shape := ⟨2, ![32768, 1536]⟩
abbrev S32768x2048 : Shape := ⟨2, ![32768, 2048]⟩
abbrev S16x32768 : Shape := ⟨2, ![16, 32768]⟩
abbrev S512x1024 : Shape := ⟨2, ![512, 1024]⟩
abbrev S512x1536 : Shape := ⟨2, ![512, 1536]⟩
abbrev S512x2048 : Shape := ⟨2, ![512, 2048]⟩
abbrev S16x512 : Shape := ⟨2, ![16, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3600, .f32⟩
  | .hbm, ⟨3, _⟩ => ⟨S1024x3600, .bf16⟩
  | .hbm, ⟨4, _⟩ => ⟨S1024x3584, .bf16⟩
  | .hbm, ⟨5, _⟩ => ⟨S1024x16, .bf16⟩
  | .hbm, ⟨6, _⟩ => ⟨S16x1024, .bf16⟩
  | .hbm, ⟨7, _⟩ => ⟨S1x1024, .f32⟩
  | .hbm, ⟨8, _⟩ => ⟨S32768x1536, .bf16⟩
  | .hbm, ⟨9, _⟩ => ⟨S32768x2048, .bf16⟩
  | .hbm, ⟨10, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S16x1024, .bf16⟩
  | .local _ .vmem, ⟨5, _⟩ => ⟨S512x1536, .bf16⟩
  | .local _ .vmem, ⟨6, _⟩ => ⟨S512x1536, .bf16⟩
  | .local _ .vmem, ⟨7, _⟩ => ⟨S512x2048, .bf16⟩
  | .local _ .vmem, ⟨8, _⟩ => ⟨S512x2048, .bf16⟩
  | .local _ .vmem, ⟨9, _⟩ => ⟨S16x512, .f32⟩
  | .local _ .vmem, ⟨10, _⟩ => ⟨S16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S1024 : Shape := ⟨1, ![1024]⟩
abbrev S1024x3600 : Shape := ⟨2, ![1024, 3600]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3600 : Shape := ⟨2, ![32768, 3600]⟩
abbrev S32768x1536 : Shape := ⟨2, ![32768, 1536]⟩
abbrev S32768x2048 : Shape := ⟨2, ![32768, 2048]⟩
abbrev S32768x16 : Shape := ⟨2, ![32768, 16]⟩
abbrev S16x32768 : Shape := ⟨2, ![16, 32768]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3600, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3600, .f32⟩
  | .hbm, ⟨20, _⟩ => ⟨S32768x1536, .f32⟩
  | .hbm, ⟨21, _⟩ => ⟨S32768x2048, .f32⟩
  | .hbm, ⟨22, _⟩ => ⟨S32768x16, .f32⟩
  | .hbm, ⟨23, _⟩ => ⟨S32768x1536, .bf16⟩
  | .hbm, ⟨24, _⟩ => ⟨S32768x2048, .bf16⟩
  | .hbm, ⟨25, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S32768x2048 : Shape := ⟨2, ![32768, 2048]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S1024x512 : Shape := ⟨2, ![1024, 512]⟩
abbrev S1024x128 : Shape := ⟨2, ![1024, 128]⟩
abbrev S1024x1 : Shape := ⟨2, ![1024, 1]⟩
abbrev S512x1024 : Shape := ⟨2, ![512, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x2048, .bf16⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1x512, .f32⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32768x1024 : Shape := ⟨2, ![32768, 1024]⟩
abbrev S32768x512 : Shape := ⟨2, ![32768, 512]⟩
abbrev S32768x2048 : Shape := ⟨2, ![32768, 2048]⟩
abbrev S512 : Shape := ⟨1, ![512]⟩
abbrev S1024x1024 : Shape := ⟨2, ![1024, 1024]⟩
abbrev S1024 : Shape := ⟨1, ![1024]⟩
abbrev S_ : Shape := ⟨0, ![]⟩
abbrev S32768x4x128 : Shape := ⟨3, ![32768, 4, 128]⟩
abbrev S32768x4 : Shape := ⟨2, ![32768, 4]⟩
abbrev S32768x4x1 : Shape := ⟨3, ![32768, 4, 1]⟩
abbrev S1x512 : Shape := ⟨2, ![1, 512]⟩
abbrev S32768 : Shape := ⟨1, ![32768]⟩
abbrev S32768x1 : Shape := ⟨2, ![32768, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x2048, .bf16⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S32768x2048, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x4x128, .f32⟩
  | .hbm, ⟨25, _⟩ => ⟨S32768x4x128, .f32⟩
  | .hbm, ⟨26, _⟩ => ⟨S_, .f32⟩
  | .hbm, ⟨27, _⟩ => ⟨S32768x4, .f32⟩
  | .hbm, ⟨28, _⟩ => ⟨S32768x4x1, .f32⟩
  | .hbm, ⟨29, _⟩ => ⟨S_, .f32⟩
  | .hbm, ⟨30, _⟩ => ⟨S32768x4x1, .f32⟩
  | .hbm, ⟨31, _⟩ => ⟨S32768x4x1, .f32⟩
  | .hbm, ⟨32, _⟩ => ⟨S_, .f32⟩
  | .hbm, ⟨33, _⟩ => ⟨S32768x4x1, .f32⟩
  | .hbm, ⟨34, _⟩ => ⟨S32768x4x1, .f32⟩
  | .hbm, ⟨35, _⟩ => ⟨S32768x4x1, .f32⟩
  | .hbm, ⟨36, _⟩ => ⟨S32768x4x128, .f32⟩
  | .hbm, ⟨37, _⟩ => ⟨S32768x4x128, .f32⟩
  | .hbm, ⟨38, _⟩ => ⟨S32768x512, .f32⟩
  | .hbm, ⟨39, _⟩ => ⟨S1x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x2x8192x256 : Shape := ⟨4, ![2, 2, 8192, 256]⟩
abbrev S1024x1024 : Shape := ⟨2, ![1024, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x512x256 : Shape := ⟨4, ![1, 1, 512, 256]⟩
abbrev S528x1024 : Shape := ⟨2, ![528, 1024]⟩
abbrev S2x2x528x256 : Shape := ⟨4, ![2, 2, 528, 256]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S512 : Shape := ⟨1, ![512]⟩
abbrev S512x1 : Shape := ⟨2, ![512, 1]⟩
abbrev S1024x256 : Shape := ⟨2, ![1024, 256]⟩
abbrev S528x256 : Shape := ⟨2, ![528, 256]⟩
abbrev S1x1x528x256 : Shape := ⟨4, ![1, 1, 528, 256]⟩
abbrev S3x256 : Shape := ⟨2, ![3, 256]⟩
abbrev S512x256 : Shape := ⟨2, ![512, 256]⟩
abbrev S1x256 : Shape := ⟨2, ![1, 256]⟩

abbrev nBuf : Space → Nat
  | .hbm => 18
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x2x8192x256, .f32⟩
  | .hbm, ⟨8, _⟩ => ⟨S1024x1024, .f32⟩
  | .hbm, ⟨9, _⟩ => ⟨S256x1024, .f32⟩
  | .hbm, ⟨10, _⟩ => ⟨S1024x5632, .bf16⟩
  | .hbm, ⟨11, _⟩ => ⟨S2816x1024, .bf16⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x5632, .f32⟩
  | .hbm, ⟨16, _⟩ => ⟨S1x1024, .f32⟩
  | .hbm, ⟨17, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x1x512x256, .f32⟩
  | .local _ .vmem, ⟨13, _⟩ => ⟨S1x1x512x256, .f32⟩
  | .local _ .vmem, ⟨14, _⟩ => ⟨S1024x1024, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | .local _ .vmem, ⟨18, _⟩ => ⟨S528x1024, .bf16⟩
  | .local _ .vmem, ⟨19, _⟩ => ⟨S2x2x528x256, .f32⟩
  | .local _ .vmem, ⟨20, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 16], ![false, false]⟩

def k0_mult1 : BitVec 32 :=
  let c2816_i32 : BitVec 32 := 2816#32
  c2816_i32
def k0_mult2 : BitVec 32 :=
  let c0_i32_31 : BitVec 32 := 0#32
  c0_i32_31
@[reducible] def k0_t1_loop : Scf.Loop 32 :=
  let c0_i32_37 : BitVec 32 := 0#32
  let c5_i32 : BitVec 32 := 5#32
  let v82 : BitVec 32 := Scalar.addi c0_i32_37 c5_i32
  let c1_i32 : BitVec 32 := 1#32
  ⟨c0_i32_37, v82, c1_i32⟩
def k0_mult3 (k0_t1 : Fin k0_t1_loop.trips) : BitVec 32 :=
  let c2816_i32_90 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32 : BitVec 32 := 256#32
  let v198 : BitVec 32 := Scalar.muli v196 c256_i32
  let v199 : BitVec 32 := Scalar.addi c2816_i32_90 v198
  v199
def k0_off1 (k0_t1 : Fin k0_t1_loop.trips) (c2816_i32_90 : BitVec 32) (c1_i32_87 : BitVec 32) : Fin 2 → Nat :=
  let c0_91 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let v196 : BitVec 32 := Scalar.addi v195 c1_i32_87
  let c256_i32 : BitVec 32 := 256#32
  let v198 : BitVec 32 := Scalar.muli v196 c256_i32
  let v199 : BitVec 32 := Scalar.addi c2816_i32_90 v198
  let v200 : BitVec 32 := v199
  let v201 : Index := Scalar.indexCast v200
  ![0, v201.toNat]
def k0_mult4 (k0_t1 : Fin k0_t1_loop.trips) : BitVec 32 :=
  let c0_i32_98 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_87 : BitVec 32 := 1#32
  let v196 : BitVec 32 := Scalar.addi v195 c1_i32_87
  let c256_i32_97 : BitVec 32 := 256#32
  let v208 : BitVec 32 := Scalar.muli v196 c256_i32_97
  let v209 : BitVec 32 := Scalar.addi c0_i32_98 v208
  v209
def k0_mult5 (k0_t1 : Fin k0_t1_loop.trips) : BitVec 32 :=
  let c2816_i32_110 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  v221
def k0_off2 (k0_t1 : Fin k0_t1_loop.trips) (c2816_i32_110 : BitVec 32) : Fin 2 → Nat :=
  let c0_111 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v223 : Index := Scalar.indexCast v222
  ![0, v223.toNat]
def k0_off3 (k0_t1 : Fin k0_t1_loop.trips) (c2816_i32_110 : BitVec 32) : Fin 2 → Nat :=
  let c0_114 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_109 : BitVec 32 := 256#32
  let v220 : BitVec 32 := Scalar.muli v195 c256_i32_109
  let v221 : BitVec 32 := Scalar.addi c2816_i32_110 v220
  let v222 : BitVec 32 := v221
  let v241 : Index := Scalar.indexCast v222
  ![0, v241.toNat]
def k0_mult6 (k0_t1 : Fin k0_t1_loop.trips) : BitVec 32 :=
  let c0_i32_123 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_122 : BitVec 32 := 256#32
  let v258 : BitVec 32 := Scalar.muli v195 c256_i32_122
  let v259 : BitVec 32 := Scalar.addi c0_i32_123 v258
  v259
def k0_mult7 (k0_t1 : Fin k0_t1_loop.trips) : BitVec 32 :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  v288
def k0_off4 (k0_t1 : Fin k0_t1_loop.trips) : Fin 2 → Nat :=
  let c0_i32_131 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c256_i32_130 : BitVec 32 := 256#32
  let v287 : BitVec 32 := Scalar.muli v195 c256_i32_130
  let v288 : BitVec 32 := Scalar.addi c0_i32_131 v287
  let v289 : BitVec 32 := v288
  let v290 : Index := Scalar.indexCast v289
  let c0_132 : Index := 0#32
  ![v290.toNat, 0]
def k0_mult8 (k0_t1 : Fin k0_t1_loop.trips) : BitVec 32 :=
  let c2816_i32_140 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_139 : BitVec 32 := 256#32
  let v300 : BitVec 32 := Scalar.muli v298 c256_i32_139
  let v301 : BitVec 32 := Scalar.addi c2816_i32_140 v300
  v301
def k0_mult9 (k0_t1 : Fin k0_t1_loop.trips) : BitVec 32 :=
  let c0_i32_148 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c2_i32_136 : BitVec 32 := 2#32
  let v298 : BitVec 32 := Scalar.addi v195 c2_i32_136
  let c256_i32_147 : BitVec 32 := 256#32
  let v310 : BitVec 32 := Scalar.muli v298 c256_i32_147
  let v311 : BitVec 32 := Scalar.addi c0_i32_148 v310
  v311
def k0_mult10 (k0_t1 : Fin k0_t1_loop.trips) : BitVec 32 :=
  let c2816_i32_161 : BitVec 32 := 2816#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  v324
def k0_off5 (k0_t1 : Fin k0_t1_loop.trips) (c2816_i32_161 : BitVec 32) : Fin 2 → Nat :=
  let c0_162 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v326 : Index := Scalar.indexCast v325
  ![0, v326.toNat]
def k0_off6 (k0_t1 : Fin k0_t1_loop.trips) (c2816_i32_161 : BitVec 32) : Fin 2 → Nat :=
  let c0_165 : Index := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_160 : BitVec 32 := 256#32
  let v323 : BitVec 32 := Scalar.muli v320 c256_i32_160
  let v324 : BitVec 32 := Scalar.addi c2816_i32_161 v323
  let v325 : BitVec 32 := v324
  let v344 : Index := Scalar.indexCast v325
  ![0, v344.toNat]
def k0_mult11 (k0_t1 : Fin k0_t1_loop.trips) : BitVec 32 :=
  let c0_i32_174 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_173 : BitVec 32 := 256#32
  let v361 : BitVec 32 := Scalar.muli v320 c256_i32_173
  let v362 : BitVec 32 := Scalar.addi c0_i32_174 v361
  v362
def k0_mult12 (k0_t1 : Fin k0_t1_loop.trips) : BitVec 32 :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  v391
def k0_off7 (k0_t1 : Fin k0_t1_loop.trips) : Fin 2 → Nat :=
  let c0_i32_182 : BitVec 32 := 0#32
  let c2_i32 : BitVec 32 := 2#32
  let c0_i32_37 : BitVec 32 := 0#32
  let c1_i32 : BitVec 32 := 1#32
  let arg18 : BitVec 32 := Scf.iv c0_i32_37 c1_i32 k0_t1
  let v195 : BitVec 32 := Scalar.muli c2_i32 arg18
  let c1_i32_155 : BitVec 32 := 1#32
  let v320 : BitVec 32 := Scalar.addi v195 c1_i32_155
  let c256_i32_181 : BitVec 32 := 256#32
  let v390 : BitVec 32 := Scalar.muli v320 c256_i32_181
  let v391 : BitVec 32 := Scalar.addi c0_i32_182 v390
  let v392 : BitVec 32 := v391
  let v393 : Index := Scalar.indexCast v392
  let c0_183 : Index := 0#32
  ![v393.toNat, 0]
def k0_mult13 : BitVec 32 :=
  let c5376_i32 : BitVec 32 := 5376#32
  c5376_i32
def k0_mult14 : BitVec 32 :=
  let c2560_i32 : BitVec 32 := 2560#32
  c2560_i32
def k0_mult15 : BitVec 32 :=
  let c2560_i32_59 : BitVec 32 := 2560#32
  c2560_i32_59
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel6Ideal.lean ====
variable {F : FTy → Type} [FloatOps F] [Named F]
def κ : String → Option EReal := fun
  | "gelu_cubic" => some ((-((2 * ((6693141 / 8388608) * (12003091 / 268435456))) * (Real.log 2)⁻¹) : ℝ) : EReal)
  | "gelu_linear" => some ((-((2 * (6693141 / 8388608)) * (Real.log 2)⁻¹) : ℝ) : EReal)
  | _ => none
-- ==== Reference6Ideal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x2x8192x256 : Shape := ⟨4, ![2, 2, 8192, 256]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S1x2x8192x256 : Shape := ⟨4, ![1, 2, 8192, 256]⟩
abbrev S2x8192x256 : Shape := ⟨3, ![2, 8192, 256]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x2x8192x256, .f32⟩
  | .hbm, ⟨8, _⟩ => ⟨S1024x1024, .f32⟩
  | .hbm, ⟨9, _⟩ => ⟨S256x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x5632, .f32⟩
  | .hbm, ⟨27, _⟩ => ⟨S_, .i32⟩
  | .hbm, ⟨28, _⟩ => ⟨S_, .f32⟩
  | .hbm, ⟨29, _⟩ => ⟨S2x8194x5632, .f32⟩
  | .hbm, ⟨30, _⟩ => ⟨S2x8192x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S_, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S_, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S2x8192x1024, .f32⟩
  | .hbm, ⟨74, _⟩ => ⟨S2x8192x1024, .f32⟩
  | .hbm, ⟨75, _⟩ => ⟨S_, .f32⟩
  | .hbm, ⟨76, _⟩ => ⟨S2x8192, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S_, .f32⟩
  | .hbm, ⟨82, _⟩ => ⟨S2x8192x1, .f32⟩
  | .hbm, ⟨83, _⟩ => ⟨S2x8192x1, .f32⟩
  | .hbm, ⟨84, _⟩ => ⟨S2x8192x1, .f32⟩
  | .hbm, ⟨85, _⟩ => ⟨S2x8192x1024, .f32⟩
  | .hbm, ⟨86, _⟩ => ⟨S2x8192x1024, .f32⟩
  | .hbm, ⟨87, _⟩ => ⟨S1x1x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S_, .f32⟩
  | .hbm, ⟨95, _⟩ => ⟨S2x8192x1024, .f32⟩
  | .hbm, ⟨96, _⟩ => ⟨S2x8192x1024, .f32⟩
  | .hbm, ⟨97, _⟩ => ⟨S_, .f32⟩
  | .hbm, ⟨98, _⟩ => ⟨S2x8192x1024, .f32⟩
  | .hbm, ⟨99, _⟩ => ⟨S2x8192x1024, .f32⟩
  | .hbm, ⟨100, _⟩ => ⟨S1x2x8192x256, .f32⟩
  | .hbm, ⟨101, _⟩ => ⟨S2x8192x256, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Proof.Words.lean ====
/-
  The words of the block loop. The loop carries fourteen 32-bit counters; before trip `k` each of them is a number
  computed from `k`. This module names those numbers (`carry`) and reads every condition, offset and side condition of
  the loop at them: which copies a trip starts, which it waits for, and which slot and which rows each touches.
  There are 32 trips, so each fact is decided trip by trip.
-/
module

public import proofs.«01_k».proof.Defs
public import proofs.«01_k».proof.Proof.Gen.KernelIdeal.Skeleton
public import Idealize.ShloMosaic.Lib.Ring

@[expose] public section

set_option maxRecDepth 65536

noncomputable section

namespace Cert.OddOut

open Cert.KernelIdeal Cert.KernelIdeal.Gen
open Idealize.ShloMosaic Idealize.ShloMosaic.TcCoe

/-- The number `n` as a word. -/
abbrev W (n : ℕ) : BitVec 32 := BitVec.ofNat 32 n

/-- A trip of the block loop. -/
abbrev Trip := Fin k0_t1_loop.trips

theorem trips_eq : k0_t1_loop.trips = 32 := by decide +kernel
theorem trip_lt (k : Trip) : k.val < 32 := Nat.lt_of_lt_of_eq k.isLt trips_eq

/-- Blocks fetched before trip `k` (two ahead, at most all 32). -/
abbrev ahead (k : ℕ) : ℕ := min (k + 2) 32
/-- One once the last trip is over. -/
abbrev done (k : ℕ) : ℕ := k / 32
/-- The block numbered by trip `k`, counted round. -/
abbrev round (k : ℕ) : ℕ := k % 32

/-- The fourteen counters before trip `k`: per streamed operand the blocks fetched and the blocks waited for, the three
    whole operands' counters, the output blocks sent and waited for, the block number. -/
abbrev Acc := BitVec 32 × BitVec 32 × BitVec 32 × BitVec 32 × BitVec 32 × BitVec 32 × BitVec 32 × BitVec 32 × BitVec 32
  × BitVec 32 × BitVec 32 × BitVec 32 × BitVec 32 × BitVec 32
def carry (k : ℕ) : Acc :=
  (W (ahead k), W k, W (ahead k), W k, W (ahead k), W k, W (ahead k), W k, W (done k), W (done k), W (done k), W k, W (k - 1), W (round k))

/-! ## The conditions -/

section Cond
theorem c5 : ∀ k : Trip, k.val < 30 → k0_cond5 k (W (round k.val)) = 1#1 := by decide +kernel
theorem c6 : ∀ k : Trip, k.val < 30 → k0_cond6 k (W (round k.val)) = 1#1 := by decide +kernel
theorem c7 : ∀ k : Trip, k.val < 30 → k0_cond7 k (W (round k.val)) = 1#1 := by decide +kernel
theorem c8 : ∀ k : Trip, k.val < 30 → k0_cond8 k (W (round k.val)) = 1#1 := by decide +kernel
theorem n5 : ∀ k : Trip, ¬ k.val < 30 → ¬ k0_cond5 k (W (round k.val)) = 1#1 := by decide +kernel
theorem n6 : ∀ k : Trip, ¬ k.val < 30 → ¬ k0_cond6 k (W (round k.val)) = 1#1 := by decide +kernel
theorem n7 : ∀ k : Trip, ¬ k.val < 30 → ¬ k0_cond7 k (W (round k.val)) = 1#1 := by decide +kernel
theorem n8 : ∀ k : Trip, ¬ k.val < 30 → ¬ k0_cond8 k (W (round k.val)) = 1#1 := by decide +kernel
theorem c9 : ∀ k : Trip, k0_cond9 k (W (round k.val)) = 1#1 := by decide +kernel
theorem c10 : ∀ k : Trip, k0_cond10 k (W (round k.val)) = 1#1 := by decide +kernel
theorem c11 : ∀ k : Trip, k0_cond11 k (W (round k.val)) = 1#1 := by decide +kernel
theorem c12 : ∀ k : Trip, k0_cond12 k (W (round k.val)) = 1#1 := by decide +kernel
theorem c18 : ∀ k : Trip, k0_cond18 k (W (round k.val)) = 1#1 := by decide +kernel
theorem c23 : ∀ k : Trip, 1 ≤ k.val → k0_cond23 k (W (round k.val)) = 1#1 := by decide +kernel
theorem n23 : ∀ k : Trip, ¬ 1 ≤ k.val → ¬ k0_cond23 k (W (round k.val)) = 1#1 := by decide +kernel
end Cond

/-! ## The side conditions -/

section Chk
theorem k2 : ∀ k : Trip, k0_chk2 (W k.val) := by decide +kernel
theorem k3 : ∀ k : Trip, k0_chk3 (W k.val) := by decide +kernel
theorem k4 : ∀ k : Trip, k0_chk4 (W k.val) := by decide +kernel
theorem k5 : ∀ k : Trip, k0_chk5 (W k.val) := by decide +kernel
theorem k6 : ∀ k : Trip, k0_chk6 (W k.val) := by decide +kernel
theorem k1 : ∀ k : Trip, k0_chk1 k (W (ahead k.val)) (W k.val) (W (ahead k.val)) (W k.val) (W (ahead k.val)) (W k.val) (W (ahead k.val)) (W k.val)
    (W k.val) (W (k.val - 1)) (W (round k.val)) := by decide +kernel
theorem k7 : k0_chk7 (W 31) := by decide +kernel
theorem k8 : k0_chk8 (W 0) := by decide +kernel
end Chk

/-! ## The offsets, in closed form -/

/-- Slot `s` of a three-slot buffer, slot `s` of the two-slot one, their cells, and the rows of block `b`. -/
abbrev slot3Off (s : Fin 3) : Fin 3 → Nat := ![s.val, 0, 0]
abbrev slot2Off (s : Fin 2) : Fin 3 → Nat := ![s.val, 0, 0]
abbrev cell3Off (s : Fin 3) : Fin 1 → Nat := ![s.val]
abbrev cell2Off (s : Fin 2) : Fin 1 → Nat := ![s.val]
abbrev rowOff (b : Fin 32) : Fin 2 → Nat := ![b.val * 1024, 0]

theorem slot3Off_inb (s : Fin 3) : ∀ a, slot3Off s a + S1x1024x1024.size a ≤ S3x1024x1024.size a := by revert s; decide +kernel
theorem slot2Off_inb (s : Fin 2) : ∀ a, slot2Off s a + S1x1024x1024.size a ≤ S2x1024x1024.size a := by revert s; decide +kernel
theorem cell3Off_inb (s : Fin 3) : ∀ a, cell3Off s a + S1.size a ≤ S3.size a := by revert s; decide +kernel
theorem cell2Off_inb (s : Fin 2) : ∀ a, cell2Off s a + S1.size a ≤ S2.size a := by revert s; decide +kernel
theorem rowOff_inb (b : Fin 32) : ∀ a, rowOff b a + S1024x1024.size a ≤ S32768x1024.size a := by revert b; decide +kernel

section Off

theorem off15 : ∀ k : Trip, k.val < 30 → k0_off15 (W (ahead k.val)) = cell3Off (Ring.sl 3 (k.val + 2)) := by decide +kernel
theorem off16 : ∀ k : Trip, k.val < 30 → k0_off16 (W (ahead k.val)) = slot3Off (Ring.sl 3 (k.val + 2)) := by decide +kernel
theorem off17 : ∀ k : Trip, k.val < 30 → k0_off17 (W (round k.val)) = rowOff (Ring.bk 32 (k.val + 2)) := by decide +kernel
theorem off18 : ∀ k : Trip, k.val < 30 → k0_off18 (W (ahead k.val)) = cell3Off (Ring.sl 3 (k.val + 2)) := by decide +kernel
theorem off19 : ∀ k : Trip, k.val < 30 → k0_off19 (W (ahead k.val)) = slot3Off (Ring.sl 3 (k.val + 2)) := by decide +kernel
theorem off20 : ∀ k : Trip, k.val < 30 → k0_off20 (W (round k.val)) = rowOff (Ring.bk 32 (k.val + 2)) := by decide +kernel
theorem off21 : ∀ k : Trip, k.val < 30 → k0_off21 (W (ahead k.val)) = cell3Off (Ring.sl 3 (k.val + 2)) := by decide +kernel
theorem off22 : ∀ k : Trip, k.val < 30 → k0_off22 (W (ahead k.val)) = slot3Off (Ring.sl 3 (k.val + 2)) := by decide +kernel
theorem off23 : ∀ k : Trip, k.val < 30 → k0_off23 (W (round k.val)) = rowOff (Ring.bk 32 (k.val + 2)) := by decide +kernel
theorem off24 : ∀ k : Trip, k.val < 30 → k0_off24 (W (ahead k.val)) = cell3Off (Ring.sl 3 (k.val + 2)) := by decide +kernel
theorem off25 : ∀ k : Trip, k.val < 30 → k0_off25 (W (ahead k.val)) = slot3Off (Ring.sl 3 (k.val + 2)) := by decide +kernel
theorem off26 : ∀ k : Trip, k.val < 30 → k0_off26 (W (round k.val)) = rowOff (Ring.bk 32 (k.val + 2)) := by decide +kernel
theorem off27 : ∀ k : Trip, k0_off27 (W k.val) = cell3Off (Ring.sl 3 k.val) := by decide +kernel
theorem off28 : ∀ k : Trip, k0_off28 (W k.val) = slot3Off (Ring.sl 3 k.val) := by decide +kernel
theorem off29 : ∀ k : Trip, k0_off29 (W (round k.val)) = rowOff (Ring.bk 32 k.val) := by decide +kernel
theorem off30 : ∀ k : Trip, k0_off30 (W k.val) = cell3Off (Ring.sl 3 k.val) := by decide +kernel
theorem off31 : ∀ k : Trip, k0_off31 (W k.val) = slot3Off (Ring.sl 3 k.val) := by decide +kernel
theorem off32 : ∀ k : Trip, k0_off32 (W (round k.val)) = rowOff (Ring.bk 32 k.val) := by decide +kernel
theorem off33 : ∀ k : Trip, k0_off33 (W k.val) = cell3Off (Ring.sl 3 k.val) := by decide +kernel
theorem off34 : ∀ k : Trip, k0_off34 (W k.val) = slot3Off (Ring.sl 3 k.val) := by decide +kernel
theorem off35 : ∀ k : Trip, k0_off35 (W (round k.val)) = rowOff (Ring.bk 32 k.val) := by decide +kernel
theorem off36 : ∀ k : Trip, k0_off36 (W k.val) = cell3Off (Ring.sl 3 k.val) := by decide +kernel
theorem off37 : ∀ k : Trip, k0_off37 (W k.val) = slot3Off (Ring.sl 3 k.val) := by decide +kernel
theorem off38 : ∀ k : Trip, k0_off38 (W (round k.val)) = rowOff (Ring.bk 32 k.val) := by decide +kernel
theorem off39 : ∀ k : Trip, k0_off39 (W k.val) = slot3Off (Ring.sl 3 k.val) := by decide +kernel
theorem off40 : ∀ k : Trip, k0_off40 (W k.val) = slot3Off (Ring.sl 3 k.val) := by decide +kernel
theorem off41 : ∀ k : Trip, k0_off41 (W k.val) = slot3Off (Ring.sl 3 k.val) := by decide +kernel
theorem off42 : ∀ k : Trip, k0_off42 (W k.val) = slot3Off (Ring.sl 3 k.val) := by decide +kernel
theorem off43 : ∀ k : Trip, k0_off43 (W k.val) = slot2Off (Ring.sl 2 k.val) := by decide +kernel
theorem off44 : ∀ k : Trip, k0_off44 (W k.val) = cell2Off (Ring.sl 2 k.val) := by decide +kernel
theorem off45 : ∀ k : Trip, k0_off45 (W (round k.val)) = rowOff (Ring.bk 32 k.val) := by decide +kernel
theorem off46 : ∀ k : Trip, k0_off46 (W k.val) = slot2Off (Ring.sl 2 k.val) := by decide +kernel
theorem off47 : ∀ k : Trip, 1 ≤ k.val → k0_off47 (W (k.val - 1)) = cell2Off (Ring.sl 2 (k.val + 1)) := by decide +kernel
theorem off48 : ∀ k : Trip, 1 ≤ k.val → k0_off48 (W (round k.val)) = rowOff (Ring.bk 32 (k.val - 1)) := by decide +kernel
theorem off49 : ∀ k : Trip, 1 ≤ k.val → k0_off49 (W (k.val - 1)) = slot2Off (Ring.sl 2 (k.val + 1)) := by decide +kernel
theorem off3 : k0_off3 = cell3Off (Ring.sl 3 1) := by decide +kernel
theorem off4 : k0_off4 = slot3Off (Ring.sl 3 1) := by decide +kernel
theorem off5 : k0_off5 = rowOff (Ring.bk 32 1) := by decide +kernel
theorem off6 : k0_off6 = cell3Off (Ring.sl 3 1) := by decide +kernel
theorem off7 : k0_off7 = slot3Off (Ring.sl 3 1) := by decide +kernel
theorem off8 : k0_off8 = rowOff (Ring.bk 32 1) := by decide +kernel
theorem off9 : k0_off9 = cell3Off (Ring.sl 3 1) := by decide +kernel
theorem off10 : k0_off10 = slot3Off (Ring.sl 3 1) := by decide +kernel
theorem off11 : k0_off11 = rowOff (Ring.bk 32 1) := by decide +kernel
theorem off12 : k0_off12 = cell3Off (Ring.sl 3 1) := by decide +kernel
theorem off13 : k0_off13 = slot3Off (Ring.sl 3 1) := by decide +kernel
theorem off14 : k0_off14 = rowOff (Ring.bk 32 1) := by decide +kernel
theorem off1 : k0_off1 = cell3Off (Ring.sl 3 0) := by decide +kernel
theorem off2 : k0_off2 = slot3Off (Ring.sl 3 0) := by decide +kernel
theorem off50 : k0_off50 (W 31) = cell2Off (Ring.sl 2 33) := by decide +kernel
theorem off51 : k0_off51 (W 0) = rowOff (Ring.bk 32 31) := by decide +kernel
theorem off52 : k0_off52 (W 31) = slot2Off (Ring.sl 2 33) := by decide +kernel
theorem c1 : k0_cond1 = 1#1 := by decide +kernel
theorem c2 : k0_cond2 = 1#1 := by decide +kernel
theorem c3 : k0_cond3 = 1#1 := by decide +kernel
theorem c4 : k0_cond4 = 1#1 := by decide +kernel
end Off

end Cert.OddOut

end
-- ==== Proof.Rings.lean ====
/-
  The pieces the block loop works on, under one name each: slot `s` of a three-slot input buffer and its semaphore, slot
  `s` of the two-slot output buffer and its semaphore, and the 1024 rows of block `b` of a streamed array. The equations
  say that what the kernel slices at its computed offsets is one of these.
-/
module

public import proofs.«01_k».proof.Proof.Words
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Ring.WriteBehind
public import Idealize.ShloMosaic.Lib.Tactic

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's beside the counters of the kernel's own copies. -/
abbrev UU (nD : Nat) (τ : Topo) : Type := UR sig nD τ × Counters
abbrev EP : Emb (UR sig nD τ) (MT nD τ sig Unit (Elt F) ℕ (UU nD τ) ℕ) := embL
abbrev 𝒱₀ : Variants := Variants.none

/-- Slot `s` of a three-slot buffer, as one 1024 × 1024 block. -/
def slot3 {t : EltTy} (M : Memref sig .tc .vmem S3x1024x1024 t) (s : Fin 3) : Memref sig .tc .vmem S1024x1024 t :=
  (M.slice (Rect.unit (s := S3x1024x1024) (slot3Off s) S1x1024x1024.size (slot3Off_inb s)) (fun _ => rfl)).squeeze S1024x1024 squeezes_S1x1024x1024_S1024x1024
/-- Slot `s` of a two-slot buffer, as one 1024 × 1024 block. -/
def slot2 {t : EltTy} (M : Memref sig .tc .vmem S2x1024x1024 t) (s : Fin 2) : Memref sig .tc .vmem S1024x1024 t :=
  (M.slice (Rect.unit (s := S2x1024x1024) (slot2Off s) S1x1024x1024.size (slot2Off_inb s)) (fun _ => rfl)).squeeze S1024x1024 squeezes_S1x1024x1024_S1024x1024
/-- The 1024 rows of block `b` of a streamed array. -/
def rows {t : EltTy} (M : Memref sig .tc .hbm S32768x1024 t) (b : Fin 32) : Memref sig .tc .hbm S1024x1024 t :=
  M.slice (Rect.unit (s := S32768x1024) (rowOff b) S1024x1024.size (rowOff_inb b)) (fun _ => rfl)
/-- Semaphore `s` of three, of two. -/
def cell3 (S : DmaSems sig S3) (s : Fin 3) : DmaSems sig S_ := (S.slice (Rect.unit (s := S3) (cell3Off s) S1.size (cell3Off_inb s))).squeeze S_ squeezes_S1_S_
def cell2 (S : DmaSems sig S2) (s : Fin 2) : DmaSems sig S_ := (S.slice (Rect.unit (s := S2) (cell2Off s) S1.size (cell2Off_inb s))).squeeze S_ squeezes_S1_S_

instance (s : Fin 3) : ClosedOff (slot3Off s) := ⟨slot3Off s, rfl⟩
instance (s : Fin 2) : ClosedOff (slot2Off s) := ⟨slot2Off s, rfl⟩
instance (b : Fin 32) : ClosedOff (rowOff b) := ⟨rowOff b, rfl⟩

section Congr
variable {t : EltTy}
theorem slot3_congr (M : Memref sig .tc .vmem S3x1024x1024 t) {off : Fin 3 → Nat} {s : Fin 3} (e : off = slot3Off s) (hh hs) :
    (M.slice (Rect.unit (s := S3x1024x1024) off S1x1024x1024.size hh) hs).squeeze S1024x1024 squeezes_S1x1024x1024_S1024x1024 = slot3 M s :=
  congrArg (fun N : Memref sig .tc .vmem S1x1024x1024 t => N.squeeze S1024x1024 squeezes_S1x1024x1024_S1024x1024) (Memref.slice_unit_congr _ e _ _ _ _)
theorem slot2_congr (M : Memref sig .tc .vmem S2x1024x1024 t) {off : Fin 3 → Nat} {s : Fin 2} (e : off = slot2Off s) (hh hs) :
    (M.slice (Rect.unit (s := S2x1024x1024) off S1x1024x1024.size hh) hs).squeeze S1024x1024 squeezes_S1x1024x1024_S1024x1024 = slot2 M s :=
  congrArg (fun N : Memref sig .tc .vmem S1x1024x1024 t => N.squeeze S1024x1024 squeezes_S1x1024x1024_S1024x1024) (Memref.slice_unit_congr _ e _ _ _ _)
theorem rows_congr (M : Memref sig .tc .hbm S32768x1024 t) {off : Fin 2 → Nat} {b : Fin 32} (e : off = rowOff b) (hh hs) :
    M.slice (Rect.unit (s := S32768x1024) off S1024x1024.size hh) hs = rows M b := Memref.slice_unit_congr _ e _ _ _ (fun _ => rfl)
theorem cell3_congr (S : DmaSems sig S3) {off : Fin 1 → Nat} {s : Fin 3} (e : off = cell3Off s) (hh) :
    (S.slice (Rect.unit (s := S3) off S1.size hh)).squeeze S_ squeezes_S1_S_ = cell3 S s :=
  congrArg (fun A : DmaSems sig S1 => A.squeeze S_ squeezes_S1_S_) (SemArray.slice_unit_congr _ e _ _)
theorem cell2_congr (S : DmaSems sig S2) {off : Fin 1 → Nat} {s : Fin 2} (e : off = cell2Off s) (hh) :
    (S.slice (Rect.unit (s := S2) off S1.size hh)).squeeze S_ squeezes_S1_S_ = cell2 S s :=
  congrArg (fun A : DmaSems sig S1 => A.squeeze S_ squeezes_S1_S_) (SemArray.slice_unit_congr _ e _ _)
end Congr

/-! ## What the kernel slices is one of these -/

section Canon
variable {t : EltTy} (M3 : Memref sig .tc .vmem S3x1024x1024 t) (M2 : Memref sig .tc .vmem S2x1024x1024 t)
  (A : Memref sig .tc .hbm S32768x1024 t) (C3 : DmaSems sig S3) (C2 : DmaSems sig S2)

/-- The copies started before the loop: blocks 0 and 1. -/
@[sl_canon] theorem name1 (hh) : (C3.slice (Rect.unit (s := S3) (k0_off1) S1.size hh)).squeeze S_ squeezes_S1_S_ = cell3 C3 (Ring.sl 3 0) := cell3_congr C3 (off1) _
@[sl_canon] theorem name2 (hh hs) : (M3.slice (Rect.unit (s := S3x1024x1024) (k0_off2) S1x1024x1024.size hh) hs).squeeze S1024x1024 squeezes_S1x1024x1024_S1024x1024 = slot3 M3 (Ring.sl 3 0) := slot3_congr M3 (off2) _ _
@[sl_canon] theorem name0 (hh hs) : A.slice (Rect.unit (s := S32768x1024) (![0, 0]) S1024x1024.size hh) hs = rows A (Ring.bk 32 0) := rows_congr A (by decide +kernel) _ _
@[sl_canon] theorem name3 (hh) : (C3.slice (Rect.unit (s := S3) (k0_off3) S1.size hh)).squeeze S_ squeezes_S1_S_ = cell3 C3 (Ring.sl 3 1) := cell3_congr C3 (off3) _
@[sl_canon] theorem name4 (hh hs) : (M3.slice (Rect.unit (s := S3x1024x1024) (k0_off4) S1x1024x1024.size hh) hs).squeeze S1024x1024 squeezes_S1x1024x1024_S1024x1024 = slot3 M3 (Ring.sl 3 1) := slot3_congr M3 (off4) _ _
@[sl_canon] theorem name5 (hh hs) : A.slice (Rect.unit (s := S32768x1024) (k0_off5) S1024x1024.size hh) hs = rows A (Ring.bk 32 1) := rows_congr A (off5) _ _
@[sl_canon] theorem name6 (hh) : (C3.slice (Rect.unit (s := S3) (k0_off6) S1.size hh)).squeeze S_ squeezes_S1_S_ = cell3 C3 (Ring.sl 3 1) := cell3_congr C3 (off6) _
@[sl_canon] theorem name7 (hh hs) : (M3.slice (Rect.unit (s := S3x1024x1024) (k0_off7) S1x1024x1024.size hh) hs).squeeze S1024x1024 squeezes_S1x1024x1024_S1024x1024 = slot3 M3 (Ring.sl 3 1) := slot3_congr M3 (off7) _ _
@[sl_canon] theorem name8 (hh hs) : A.slice (Rect.unit (s := S32768x1024) (k0_off8) S1024x1024.size hh) hs = rows A (Ring.bk 32 1) := rows_congr A (off8) _ _
@[sl_canon] theorem name9 (hh) : (C3.slice (Rect.unit (s := S3) (k0_off9) S1.size hh)).squeeze S_ squeezes_S1_S_ = cell3 C3 (Ring.sl 3 1) := cell3_congr C3 (off9) _
@[sl_canon] theorem name10 (hh hs) : (M3.slice (Rect.unit (s := S3x1024x1024) (k0_off10) S1x1024x1024.size hh) hs).squeeze S1024x1024 squeezes_S1x1024x1024_S1024x1024 = slot3 M3 (Ring.sl 3 1) := slot3_congr M3 (off10) _ _
@[sl_canon] theorem name11 (hh hs) : A.slice (Rect.unit (s := S32768x1024) (k0_off11) S1024x1024.size hh) hs = rows A (Ring.bk 32 1) := rows_congr A (off11) _ _
@[sl_canon] theorem name12 (hh) : (C3.slice (Rect.unit (s := S3) (k0_off12) S1.size hh)).squeeze S_ squeezes_S1_S_ = cell3 C3 (Ring.sl 3 1) := cell3_congr C3 (off12) _
@[sl_canon] theorem name13 (hh hs) : (M3.slice (Rect.unit (s := S3x1024x1024) (k0_off13) S1x1024x1024.size hh) hs).squeeze S1024x1024 squeezes_S1x1024x1024_S1024x1024 = slot3 M3 (Ring.sl 3 1) := slot3_congr M3 (off13) _ _
@[sl_canon] theorem name14 (hh hs) : A.slice (Rect.unit (s := S32768x1024) (k0_off14) S1024x1024.size hh) hs = rows A (Ring.bk 32 1) := rows_congr A (off14) _ _
/-- The copies trip `k` starts: block `k + 2`. -/
@[sl_canon] theorem name15 (k : Trip) (hk : k.val < 30) (hh) : (C3.slice (Rect.unit (s := S3) (k0_off15 (W (ahead k.val))) S1.size hh)).squeeze S_ squeezes_S1_S_ = cell3 C3 (Ring.sl 3 (k.val + 2)) := cell3_congr C3 (off15 k hk) _
@[sl_canon] theorem name16 (k : Trip) (hk : k.val < 30) (hh hs) : (M3.slice (Rect.unit (s := S3x1024x1024) (k0_off16 (W (ahead k.val))) S1x1024x1024.size hh) hs).squeeze S1024x1024 squeezes_S1x1024x1024_S1024x1024 = slot3 M3 (Ring.sl 3 (k.val + 2)) := slot3_congr M3 (off16 k hk) _ _
@[sl_canon] theorem name17 (k : Trip) (hk : k.val < 30) (hh hs) : A.slice (Rect.unit (s := S32768x1024) (k0_off17 (W (round k.val))) S1024x1024.size hh) hs = rows A (Ring.bk 32 (k.val + 2)) := rows_congr A (off17 k hk) _ _
@[sl_canon] theorem name18 (k : Trip) (hk : k.val < 30) (hh) : (C3.slice (Rect.unit (s := S3) (k0_off18 (W (ahead k.val))) S1.size hh)).squeeze S_ squeezes_S1_S_ = cell3 C3 (Ring.sl 3 (k.val + 2)) := cell3_congr C3 (off18 k hk) _
@[sl_canon] theorem name19 (k : Trip) (hk : k.val < 30) (hh hs) : (M3.slice (Rect.unit (s := S3x1024x1024) (k0_off19 (W (ahead k.val))) S1x1024x1024.size hh) hs).squeeze S1024x1024 squeezes_S1x1024x1024_S1024x1024 = slot3 M3 (Ring.sl 3 (k.val + 2)) := slot3_congr M3 (off19 k hk) _ _
@[sl_canon] theorem name20 (k : Trip) (hk : k.val < 30) (hh hs) : A.slice (Rect.unit (s := S32768x1024) (k0_off20 (W (round k.val))) S1024x1024.size hh) hs = rows A (Ring.bk 32 (k.val + 2)) := rows_congr A (off20 k hk) _ _
@[sl_canon] theorem name21 (k : Trip) (hk : k.val < 30) (hh) : (C3.slice (Rect.unit (s := S3) (k0_off21 (W (ahead k.val))) S1.size hh)).squeeze S_ squeezes_S1_S_ = cell3 C3 (Ring.sl 3 (k.val + 2)) := cell3_congr C3 (off21 k hk) _
@[sl_canon] theorem name22 (k : Trip) (hk : k.val < 30) (hh hs) : (M3.slice (Rect.unit (s := S3x1024x1024) (k0_off22 (W (ahead k.val))) S1x1024x1024.size hh) hs).squeeze S1024x1024 squeezes_S1x1024x1024_S1024x1024 = slot3 M3 (Ring.sl 3 (k.val + 2)) := slot3_congr M3 (off22 k hk) _ _
@[sl_canon] theorem name23 (k : Trip) (hk : k.val < 30) (hh hs) : A.slice (Rect.unit (s := S32768x1024) (k0_off23 (W (round k.val))) S1024x1024.size hh) hs = rows A (Ring.bk 32 (k.val + 2)) := rows_congr A (off23 k hk) _ _
@[sl_canon] theorem name24 (k : Trip) (hk : k.val < 30) (hh) : (C3.slice (Rect.unit (s := S3) (k0_off24 (W (ahead k.val))) S1.size hh)).squeeze S_ squeezes_S1_S_ = cell3 C3 (Ring.sl 3 (k.val + 2)) := cell3_congr C3 (off24 k hk) _
@[sl_canon] theorem name25 (k : Trip) (hk : k.val < 30) (hh hs) : (M3.slice (Rect.unit (s := S3x1024x1024) (k0_off25 (W (ahead k.val))) S1x1024x1024.size hh) hs).squeeze S1024x1024 squeezes_S1x1024x1024_S1024x1024 = slot3 M3 (Ring.sl 3 (k.val + 2)) := slot3_congr M3 (off25 k hk) _ _
@[sl_canon] theorem name26 (k : Trip) (hk : k.val < 30) (hh hs) : A.slice (Rect.unit (s := S32768x1024) (k0_off26 (W (round k.val))) S1024x1024.size hh) hs = rows A (Ring.bk 32 (k.val + 2)) := rows_congr A (off26 k hk) _ _
/-- The copies trip `k` waits for: block `k`. -/
@[sl_canon] theorem name27 (k : Trip) (hh) : (C3.slice (Rect.unit (s := S3) (k0_off27 (W k.val)) S1.size hh)).squeeze S_ squeezes_S1_S_ = cell3 C3 (Ring.sl 3 k.val) := cell3_congr C3 (off27 k) _
@[sl_canon] theorem name28 (k : Trip) (hh hs) : (M3.slice (Rect.unit (s := S3x1024x1024) (k0_off28 (W k.val)) S1x1024x1024.size hh) hs).squeeze S1024x1024 squeezes_S1x1024x1024_S1024x1024 = slot3 M3 (Ring.sl 3 k.val) := slot3_congr M3 (off28 k) _ _
@[sl_canon] theorem name29 (k : Trip) (hh hs) : A.slice (Rect.unit (s := S32768x1024) (k0_off29 (W (round k.val))) S1024x1024.size hh) hs = rows A (Ring.bk 32 k.val) := rows_congr A (off29 k) _ _
@[sl_canon] theorem name30 (k : Trip) (hh) : (C3.slice (Rect.unit (s := S3) (k0_off30 (W k.val)) S1.size hh)).squeeze S_ squeezes_S1_S_ = cell3 C3 (Ring.sl 3 k.val) := cell3_congr C3 (off30 k) _
@[sl_canon] theorem name31 (k : Trip) (hh hs) : (M3.slice (Rect.unit (s := S3x1024x1024) (k0_off31 (W k.val)) S1x1024x1024.size hh) hs).squeeze S1024x1024 squeezes_S1x1024x1024_S1024x1024 = slot3 M3 (Ring.sl 3 k.val) := slot3_congr M3 (off31 k) _ _
@[sl_canon] theorem name32 (k : Trip) (hh hs) : A.slice (Rect.unit (s := S32768x1024) (k0_off32 (W (round k.val))) S1024x1024.size hh) hs = rows A (Ring.bk 32 k.val) := rows_congr A (off32 k) _ _
@[sl_canon] theorem name33 (k : Trip) (hh) : (C3.slice (Rect.unit (s := S3) (k0_off33 (W k.val)) S1.size hh)).squeeze S_ squeezes_S1_S_ = cell3 C3 (Ring.sl 3 k.val) := cell3_congr C3 (off33 k) _
@[sl_canon] theorem name34 (k : Trip) (hh hs) : (M3.slice (Rect.unit (s := S3x1024x1024) (k0_off34 (W k.val)) S1x1024x1024.size hh) hs).squeeze S1024x1024 squeezes_S1x1024x1024_S1024x1024 = slot3 M3 (Ring.sl 3 k.val) := slot3_congr M3 (off34 k) _ _
@[sl_canon] theorem name35 (k : Trip) (hh hs) : A.slice (Rect.unit (s := S32768x1024) (k0_off35 (W (round k.val))) S1024x1024.size hh) hs = rows A (Ring.bk 32 k.val) := rows_congr A (off35 k) _ _
@[sl_canon] theorem name36 (k : Trip) (hh) : (C3.slice (Rect.unit (s := S3) (k0_off36 (W k.val)) S1.size hh)).squeeze S_ squeezes_S1_S_ = cell3 C3 (Ring.sl 3 k.val) := cell3_congr C3 (off36 k) _
@[sl_canon] theorem name37 (k : Trip) (hh hs) : (M3.slice (Rect.unit (s := S3x1024x1024) (k0_off37 (W k.val)) S1x1024x1024.size hh) hs).squeeze S1024x1024 squeezes_S1x1024x1024_S1024x1024 = slot3 M3 (Ring.sl 3 k.val) := slot3_congr M3 (off37 k) _ _
@[sl_canon] theorem name38 (k : Trip) (hh hs) : A.slice (Rect.unit (s := S32768x1024) (k0_off38 (W (round k.val))) S1024x1024.size hh) hs = rows A (Ring.bk 32 k.val) := rows_congr A (off38 k) _ _
/-- The output copy trip `k` starts, the one it waits for, and the last one waited for after the loop. -/
@[sl_canon] theorem name44 (k : Trip) (hh) : (C2.slice (Rect.unit (s := S2) (k0_off44 (W k.val)) S1.size hh)).squeeze S_ squeezes_S1_S_ = cell2 C2 (Ring.sl 2 k.val) := cell2_congr C2 (off44 k) _
@[sl_canon] theorem name45 (k : Trip) (hh hs) : A.slice (Rect.unit (s := S32768x1024) (k0_off45 (W (round k.val))) S1024x1024.size hh) hs = rows A (Ring.bk 32 k.val) := rows_congr A (off45 k) _ _
@[sl_canon] theorem name46 (k : Trip) (hh hs) : (M2.slice (Rect.unit (s := S2x1024x1024) (k0_off46 (W k.val)) S1x1024x1024.size hh) hs).squeeze S1024x1024 squeezes_S1x1024x1024_S1024x1024 = slot2 M2 (Ring.sl 2 k.val) := slot2_congr M2 (off46 k) _ _
@[sl_canon] theorem name47 (k : Trip) (hk : 1 ≤ k.val) (hh) : (C2.slice (Rect.unit (s := S2) (k0_off47 (W (k.val - 1))) S1.size hh)).squeeze S_ squeezes_S1_S_ = cell2 C2 (Ring.sl 2 (k.val + 1)) := cell2_congr C2 (off47 k hk) _
@[sl_canon] theorem name48 (k : Trip) (hk : 1 ≤ k.val) (hh hs) : A.slice (Rect.unit (s := S32768x1024) (k0_off48 (W (round k.val))) S1024x1024.size hh) hs = rows A (Ring.bk 32 (k.val - 1)) := rows_congr A (off48 k hk) _ _
@[sl_canon] theorem name49 (k : Trip) (hk : 1 ≤ k.val) (hh hs) : (M2.slice (Rect.unit (s := S2x1024x1024) (k0_off49 (W (k.val - 1))) S1x1024x1024.size hh) hs).squeeze S1024x1024 squeezes_S1x1024x1024_S1024x1024 = slot2 M2 (Ring.sl 2 (k.val + 1)) := slot2_congr M2 (off49 k hk) _ _
@[sl_canon] theorem name50 (hh) : (C2.slice (Rect.unit (s := S2) (k0_off50 (W 31)) S1.size hh)).squeeze S_ squeezes_S1_S_ = cell2 C2 (Ring.sl 2 33) := cell2_congr C2 (off50) _
@[sl_canon] theorem name51 (hh hs) : A.slice (Rect.unit (s := S32768x1024) (k0_off51 (W 0)) S1024x1024.size hh) hs = rows A (Ring.bk 32 31) := rows_congr A (off51) _ _
@[sl_canon] theorem name52 (hh hs) : (M2.slice (Rect.unit (s := S2x1024x1024) (k0_off52 (W 31)) S1x1024x1024.size hh) hs).squeeze S1024x1024 squeezes_S1x1024x1024_S1024x1024 = slot2 M2 (Ring.sl 2 33) := slot2_congr M2 (off52) _ _

/-- The loads and the store of trip `k` go through the whole buffer at the slot's offsets. -/
instance (k : Trip) : ClosedOff (k0_off39 (W k.val)) := ⟨slot3Off (Ring.sl 3 k.val), off39 k⟩
instance (k : Trip) : ClosedOff (k0_off40 (W k.val)) := ⟨slot3Off (Ring.sl 3 k.val), off40 k⟩
instance (k : Trip) : ClosedOff (k0_off41 (W k.val)) := ⟨slot3Off (Ring.sl 3 k.val), off41 k⟩
instance (k : Trip) : ClosedOff (k0_off42 (W k.val)) := ⟨slot3Off (Ring.sl 3 k.val), off42 k⟩
instance (k : Trip) : ClosedOff (k0_off43 (W k.val)) := ⟨slot2Off (Ring.sl 2 k.val), off43 k⟩
end Canon

/-! ## The pieces as resources -/

section Pieces
local notation "𝕄" => MT nD τ sig Unit (Elt F) ℕ (UU nD τ) ℕ
variable (c : Dev nD) {t : EltTy} (M3 : Memref sig .tc .vmem S3x1024x1024 t) (A : Memref sig .tc .hbm S32768x1024 t) (C3 : DmaSems sig S3)

/-- A semaphore at zero. -/
abbrev cell0 (S : DmaSems sig S_) : sProp 𝕄 := semVal ((c : Thread nD τ), SemLoc.dma S.sem) 0
/-- A block held in full at contents `f`. -/
abbrev held {sp : Space} {s : Shape} (V : Memref sig .tc sp s t) (f : Buf (Elt F) (V.view.loc (c : Thread nD τ))) : sProp 𝕄 :=
  V.view.loc (c : Thread nD τ) ↦[V.view.set]{fullShare} f

variable (X : Buf (Elt F) (A.view.loc (c : Thread nD τ)))

abbrev inCell (s : Fin 3) : sProp 𝕄 := cell0 (F := F) c (cell3 C3 s)
abbrev inSlot (s : Fin 3) (f : Buf (Elt F) ((slot3 M3 s).view.loc (c : Thread nD τ))) : sProp 𝕄 := held c (slot3 M3 s) f
/-- Block `b` of a streamed array, held at the array's contents. -/
abbrev inHome (b : Fin 32) : sProp 𝕄 := (rows A b).view.loc (c : Thread nD τ) ↦[(rows A b).view.set]{fullShare} X
/-- Block `b`'s elements as a copy carries them. -/
abbrev carried (b : Fin 32) : S1024x1024.Idx → Elt F t := ReadAs.same.apply ((rows A b).view.read (Elt F) X)
/-- What the copy of block `b` leaves in slot `s`. -/
abbrev landed (s : Fin 3) (b : Fin 32) (f : Buf (Elt F) ((slot3 M3 s).view.loc (c : Thread nD τ))) : Buf (Elt F) ((slot3 M3 s).view.loc (c : Thread nD τ)) :=
  (slot3 M3 s).view.writes (Elt F) f [⟨Rect.whole S1024x1024, carried c A X b⟩]
/-- Slot `s` being filled with block `b`, `N` units of transfer. -/
abbrev inFlight (N : ℕ) (s : Fin 3) (b : Fin 32) (f : Buf (Elt F) ((slot3 M3 s).view.loc (c : Thread nD τ))) : sProp 𝕄 :=
  Transfers.Flight countersEmb (c : Thread nD τ) (SemLoc.dma (cell3 C3 s).sem) () N iprop(inSlot c M3 s (landed c M3 A X s b f) ∗ inHome c A X b)

end Pieces

end Cert.OddOut

end
-- ==== Proof.Block.lean ====
/-
  What one trip computes: the output block as a function of the four input blocks and the three whole operands
  (`blockVal`), and the output array that has it in every block (`outArr`). The last part relates both to the
  buffers: what a load reads from a filled slot, and what the output copy carries.
-/
module

public import proofs.«01_k».proof.Proof.Rings
public import Idealize.ShloMosaic.Lib.Pipeline.Value
public import Idealize.ShloMosaic.Lib.ViewIndex
public import Idealize.ShloMosaic.Lib.ValueIdxCore

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The buffers -/

abbrev xA : Memref sig .tc .hbm S32768x1024 .f32 := Memref.whole main_arg0
abbrev fA : Memref sig .tc .hbm S32768x1024 .bf16 := Memref.whole main_arg1
abbrev bA : Memref sig .tc .hbm S32768x1024 .bf16 := Memref.whole main_arg2
abbrev rA : Memref sig .tc .hbm S32768x1024 .bf16 := Memref.whole main_arg3
abbrev oA : Memref sig .tc .hbm S32768x1024 .f32 := Memref.whole main_v3
abbrev xB : Memref sig .tc .vmem S3x1024x1024 .f32 := Memref.whole cc0_scoped0
abbrev fB : Memref sig .tc .vmem S3x1024x1024 .bf16 := Memref.whole cc0_scoped2
abbrev bB : Memref sig .tc .vmem S3x1024x1024 .bf16 := Memref.whole cc0_scoped4
abbrev rB : Memref sig .tc .vmem S3x1024x1024 .bf16 := Memref.whole cc0_scoped6
abbrev gB : Memref sig .tc .vmem S1x1024 .f32 := Memref.whole cc0_scoped8
abbrev wB : Memref sig .tc .vmem S1024x1024 .bf16 := Memref.whole cc0_scoped9
abbrev pB : Memref sig .tc .vmem S1x1024 .f32 := Memref.whole cc0_scoped10
abbrev oB : Memref sig .tc .vmem S2x1024x1024 .f32 := Memref.whole cc0_scoped11

/-- A block seen as a slot of one. -/
abbrev up {t : EltTy} (v : S1024x1024.Idx → Elt F t) : S1x1024x1024.Idx → Elt F t := shapeCast S1x1024x1024 v shapeCasts_S1024x1024_S1x1024x1024

/-- One output block from the blocks of `x`, the two scan halves and the gate, the head scales `g`, the projection `w`
    and the output scales `p`. -/
def blockVal (x : S1024x1024.Idx → Elt F .f32) (f b r : S1024x1024.Idx → Elt F .bf16) (g : Vec F S1x1024 .f32) (w : Vec F S1024x1024 .bf16)
    (p : Vec F S1x1024 .f32) : S1024x1024.Idx → Elt F .f32 :=
  shapeCast S1024x1024 (k0_pay10 (k0_pay7 (k0_pay2 (up f) (up b)) (k0_pay3 (up f) (up b)) (k0_pay4 (up f) (up b)) (k0_pay5 (up f) (up b)) (k0_pay6 (up f) (up b)) (up r) g w)
    (k0_pay8 (up x)) (k0_pay9 (k0_pay2 (up f) (up b)) (k0_pay3 (up f) (up b)) (k0_pay4 (up f) (up b)) (k0_pay5 (up f) (up b)) (k0_pay6 (up f) (up b)) (up r) g w) p)
    shapeCasts_S1x1024x1024_S1024x1024

section Loads
variable {t : EltTy}

/-- A load of a slot through the whole buffer reads the block the slot was filled with. -/
theorem load_slot (M : Memref sig .tc .vmem S3x1024x1024 t) (s : Fin 3) {off : Fin 3 → Nat} (e : off = slot3Off s) (inb)
    (f : M.view.ty.Contents (Elt F)) (v : S1024x1024.Idx → Elt F t) :
    M.view.readAt (Elt F) (Rect.unit (s := S3x1024x1024) off S1x1024x1024.size inb).toLoadRect
      ((slot3 M s).view.writes (Elt F) f [⟨Rect.whole S1024x1024, v⟩]) = up v := by
  subst e
  have h := Memref.read_squeeze_slice (Val := Elt F) M (Rect.unit (s := S3x1024x1024) (slot3Off s) S1x1024x1024.size inb) (fun _ => rfl)
    squeezes_S1x1024x1024_S1024x1024 shapeCasts_S1x1024x1024_S1024x1024 ((slot3 M s).view.writes (Elt F) f [⟨Rect.whole S1024x1024, v⟩])
  exact (shapeCast_shapeCast _ shapeCasts_S1x1024x1024_S1024x1024 shapeCasts_S1024x1024_S1x1024x1024).symm.trans
    (congrArg (fun u => shapeCast S1x1024x1024 u shapeCasts_S1024x1024_S1x1024x1024) (h.symm.trans (View.read_writes_whole (Val := Elt F) (slot3 M s).view f v)))

/-- A slot stored into through the whole buffer reads as what was stored. -/
theorem read_stored (M : Memref sig .tc .vmem S2x1024x1024 t) (s : Fin 2) {off : Fin 3 → Nat} (e : off = slot2Off s) (inb)
    (f : M.view.ty.Contents (Elt F)) (v : S1x1024x1024.Idx → Elt F t) :
    (slot2 M s).view.read (Elt F) ((M.access (Rect.unit (s := S2x1024x1024) off S1x1024x1024.size inb)).write (Elt F) f v Finset.univ)
      = shapeCast S1024x1024 v shapeCasts_S1x1024x1024_S1024x1024 := by
  subst e
  have h := Memref.read_squeeze_slice (Val := Elt F) M (Rect.unit (s := S2x1024x1024) (slot2Off s) S1x1024x1024.size inb) (fun _ => rfl)
    squeezes_S1x1024x1024_S1024x1024 shapeCasts_S1x1024x1024_S1024x1024 ((M.access (Rect.unit (s := S2x1024x1024) (slot2Off s) S1x1024x1024.size inb)).write (Elt F) f v Finset.univ)
  refine h.trans ?_
  congr 1
  exact View.read_write_univ (Val := Elt F) (v := M.access (Rect.unit (s := S2x1024x1024) (slot2Off s) S1x1024x1024.size inb)) f v
end Loads

section Out
variable (c : Dev nD)
  (X : Buf (Elt F) (xA.view.loc (c : Thread nD τ))) (XF : Buf (Elt F) (fA.view.loc (c : Thread nD τ)))
  (XB : Buf (Elt F) (bA.view.loc (c : Thread nD τ))) (XR : Buf (Elt F) (rA.view.loc (c : Thread nD τ)))
  (g : Vec F S1x1024 .f32) (w : Vec F S1024x1024 .bf16) (p : Vec F S1x1024 .f32)

/-- Output block `b`. -/
def outBlk (b : Fin 32) : S1024x1024.Idx → Elt F .f32 :=
  blockVal (carried c xA X b) (carried c fA XF b) (carried c bA XB b) (carried c rA XR b) g w p

theorem row_lt (i : S32768x1024.Idx) : (i 0).val / 1024 < 32 := by have h : (i 0).val < 32768 := (i 0).isLt; omega
/-- The output array: row `i` is row `i mod 1024` of block `i / 1024`. -/
def outArr : Buf (Elt F) (oA.view.loc (c : Thread nD τ)) := fun i : S32768x1024.Idx =>
  outBlk c X XF XB XR g w p ⟨(i 0).val / 1024, row_lt i⟩ (ix2 ⟨(i 0).val % 1024, Nat.mod_lt _ (by decide)⟩ (i 1))

/-- Where row `x` of block `b` lies in the array. -/
theorem rows_emb (b : Fin 32) (x : S1024x1024.Idx) : ((rows oA b).view.emb x : S32768x1024.Idx) = ix2 ⟨b.val * 1024 + (x 0).val, by
    have := b.isLt; have h : (x 0).val < 1024 := (x 0).isLt; omega⟩ (x 1) := by
  funext a; fin_cases a
  · refine Fin.ext ?_
    show b.val * 1024 + 1 * (x 0).val = _
    rw [Nat.one_mul]
  · refine Fin.ext ?_
    show 0 + 1 * (x 1).val = _
    rw [Nat.one_mul, Nat.zero_add]

attribute [local irreducible] outBlk in
theorem read_outArr (b : Fin 32) : (rows oA b).view.read (Elt F) (outArr c X XF XB XR g w p) = outBlk c X XF XB XR g w p b := by
  funext x
  show outArr c X XF XB XR g w p ((rows oA b).view.emb x) = _
  rw [rows_emb]
  have h : (x 0).val < 1024 := (x 0).isLt
  have e1 : (b.val * 1024 + (x 0).val) / 1024 = b.val := by omega
  have e2 : (b.val * 1024 + (x 0).val) % 1024 = (x 0).val := by omega
  have key : ∀ (b' b : Fin 32) (y z : S1024x1024.Idx), b' = b → y = z → outBlk c X XF XB XR g w p b' y = outBlk c X XF XB XR g w p b z := by
    rintro _ _ _ _ rfl rfl; rfl
  refine key _ _ _ _ (Fin.ext e1) ?_
  funext a; fin_cases a
  · exact Fin.ext e2
  · rfl

local notation "𝕄" => MT nD τ sig Unit (Elt F) ℕ (UU nD τ) ℕ
/-- The rows of block `b` written with the output block are the output array there. -/
theorem held_out (b : Fin 32) (o : Buf (Elt F) ((rows oA b).view.loc (c : Thread nD τ))) (v : S1024x1024.Idx → Elt F .f32) (hv : v = outBlk c X XF XB XR g w p b) :
    (held c (rows oA b) ((rows oA b).view.writes (Elt F) o [⟨Rect.whole S1024x1024, v⟩]) : sProp 𝕄) = held c (rows oA b) (outArr c X XF XB XR g w p) := by
  refine pointsTo_congr fun i hi => ?_
  obtain ⟨x, -, rfl⟩ := Finset.mem_map.1 hi
  exact View.eq_of_read_eq (congrFun ((View.read_writes_whole (Val := Elt F) (rows oA b).view o v).trans (hv.trans (read_outArr c X XF XB XR g w p b).symm)) x)
end Out

end Cert.OddOut

end
-- ==== Proof.Trip.lean ====
/-
  One trip of the block loop, at any trip number. Trip `k` starts the copies of block `k + 2` while there is one, waits for
  block `k`, computes the output block, starts its copy out, and waits for the copy out that trip `k - 1` started. Three
  kinds of trip: the first (no copy out to wait for), the middle ones, and the last two (no block left to fetch).
-/
module

public import proofs.«01_k».proof.Proof.Block

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The loop's region at the launch's buffers. -/
abbrev tripG (a b d e f : BitVec 32) (g : BitVec 1) (k : Trip) (acc : Acc) : Prog (TpuEff nD τ sig (Elt F) Λ₀ .tc) Acc :=
  k0_t1_body (F := F) xA (Memref.isWhole_whole _) fA (Memref.isWhole_whole _) bA (Memref.isWhole_whole _) rA (Memref.isWhole_whole _)
    (Memref.whole main_v1) (Memref.isWhole_whole _) (Memref.whole main_v0) (Memref.isWhole_whole _) (Memref.whole main_v2) (Memref.isWhole_whole _)
    oA (Memref.isWhole_whole _) xB (Memref.isWhole_whole _) cc0_scoped1 fB (Memref.isWhole_whole _) cc0_scoped3 bB (Memref.isWhole_whole _) cc0_scoped5
    rB (Memref.isWhole_whole _) cc0_scoped7 gB (Memref.isWhole_whole _) wB (Memref.isWhole_whole _) pB (Memref.isWhole_whole _)
    oB (Memref.isWhole_whole _) cc0_scoped12 cc0_scoped13 cc0_scoped14 cc0_scoped15 a b d e f g k acc

section Trip

variable (c : Dev nD)
  (X : Buf (Elt F) (xA.view.loc (c : Thread nD τ))) (XF : Buf (Elt F) (fA.view.loc (c : Thread nD τ)))
  (XB : Buf (Elt F) (bA.view.loc (c : Thread nD τ))) (XR : Buf (Elt F) (rA.view.loc (c : Thread nD τ)))
  (G : Buf (Elt F) (gB.view.loc (c : Thread nD τ))) (WW : Buf (Elt F) (wB.view.loc (c : Thread nD τ))) (P : Buf (Elt F) (pB.view.loc (c : Thread nD τ)))

/-- The three whole operands as the trip loads them. -/
abbrev gVal : Vec F S1x1024 .f32 := gB.view.readAt (Elt F) (Rect.unit (s := S1x1024) ![0, 0] S1x1024.size inb_S1x1024_S1x1024_0_0).toLoadRect G
abbrev wVal : Vec F S1024x1024 .bf16 := wB.view.readAt (Elt F) (Rect.unit (s := S1024x1024) ![0, 0] S1024x1024.size inb_S1024x1024_S1024x1024_0_0).toLoadRect WW
abbrev pVal : Vec F S1x1024 .f32 := pB.view.readAt (Elt F) (Rect.unit (s := S1x1024) ![0, 0] S1x1024.size inb_S1x1024_S1x1024_0_0).toLoadRect P
/-- Output block `b` and the output array, from what the buffers hold. -/
abbrev outB (b : Fin 32) : S1024x1024.Idx → Elt F .f32 := outBlk c X XF XB XR (gVal c G) (wVal c WW) (pVal c P) b
abbrev outA : Buf (Elt F) (oA.view.loc (c : Thread nD τ)) := outArr c X XF XB XR (gVal c G) (wVal c WW) (pVal c P)

/-- The three whole operands, in scratch. -/
abbrev params : sProp 𝕄 := iprop(held c gB G ∗ held c wB WW ∗ held c pB P)
/-- What the core has waited for (nothing is asked of it). -/
abbrev waits : sProp 𝕄 := iprop(∃ W, owes (c : Thread nD τ) 0 W)
/-- A slot of each input being filled: 131072 units for a block of `x`, half of that for the 16-bit ones. -/
abbrev xFl (s : Fin 3) (b : Fin 32) (f : Buf (Elt F) ((slot3 xB s).view.loc (c : Thread nD τ))) : sProp 𝕄 := inFlight c xB xA cc0_scoped1 X 131072 s b f
abbrev fFl (s : Fin 3) (b : Fin 32) (f : Buf (Elt F) ((slot3 fB s).view.loc (c : Thread nD τ))) : sProp 𝕄 := inFlight c fB fA cc0_scoped3 XF 65536 s b f
abbrev bFl (s : Fin 3) (b : Fin 32) (f : Buf (Elt F) ((slot3 bB s).view.loc (c : Thread nD τ))) : sProp 𝕄 := inFlight c bB bA cc0_scoped5 XB 65536 s b f
abbrev rFl (s : Fin 3) (b : Fin 32) (f : Buf (Elt F) ((slot3 rB s).view.loc (c : Thread nD τ))) : sProp 𝕄 := inFlight c rB rA cc0_scoped7 XR 65536 s b f

/-- Slot `s` of every input being filled with block `b`. -/
abbrev fetching (s : Fin 3) (b : Fin 32) : sProp 𝕄 :=
  iprop(Ring.inflight (xFl c X) s b ∗ Ring.inflight (fFl c XF) s b ∗ Ring.inflight (bFl c XB) s b ∗ Ring.inflight (rFl c XR) s b)
/-- Slot `s` of every input free. -/
abbrev freed (s : Fin 3) : sProp 𝕄 :=
  iprop(Ring.free (inCell (F := F) c cc0_scoped1) (inSlot c xB) s ∗ Ring.free (inCell (F := F) c cc0_scoped3) (inSlot c fB) s
    ∗ Ring.free (inCell (F := F) c cc0_scoped5) (inSlot c bB) s ∗ Ring.free (inCell (F := F) c cc0_scoped7) (inSlot c rB) s)
/-- Block `b` of every input at home. -/
abbrev homes (b : Fin 32) : sProp 𝕄 := iprop(inHome c xA X b ∗ inHome c fA XF b ∗ inHome c bA XB b ∗ inHome c rA XR b)

/-- Slot `s` of the output buffer free; its copy out to block `b` under way, block `b` then holding the output's; block `b` not
    yet written; block `b` written. -/
abbrev outFree (s : Fin 2) : sProp 𝕄 := iprop(cell0 (F := F) c (cell2 cc0_scoped12 s) ∗ ∃ f, held c (slot2 oB s) f)
abbrev outFl (s : Fin 2) (b : Fin 32) : sProp 𝕄 :=
  iprop(∃ f, Transfers.Flight countersEmb (c : Thread nD τ) (SemLoc.dma (cell2 cc0_scoped12 s).sem) () 131072
    iprop(held c (rows oA b) (outA c X XF XB XR G WW P) ∗ held c (slot2 oB s) f))
abbrev outAhead (b : Fin 32) : sProp 𝕄 := iprop(∃ o, held c (rows oA b) o)
abbrev outDone (b : Fin 32) : sProp 𝕄 := held c (rows oA b) (outA c X XF XB XR G WW P)

/-- A middle trip. -/
theorem trip_mid (a b d e f : BitVec 32) (g : BitVec 1) (k : Trip) (h1 : 1 ≤ k.val) (hk : k.val < 30) :
    iprop(params c G WW P ∗ waits (F := F) c ∗ fetching c X XF XB XR (Ring.sl 3 k.val) (Ring.bk 32 k.val) ∗ homes c X XF XB XR (Ring.bk 32 (k.val + 2)) ∗ freed (F := F) c (Ring.sl 3 (k.val + 2)) ∗ outAhead (F := F) c (Ring.bk 32 k.val) ∗ outFree (F := F) c (Ring.sl 2 k.val) ∗ outFl c X XF XB XR G WW P (Ring.sl 2 (k.val + 1)) (Ring.bk 32 (k.val - 1)))
      ⊢ wp frame (wpE (defs₀ (F := F)) 𝒱₀ (c : Thread nD τ) none) Set.univ (tripG a b d e f g k (carry k.val))
        (fun acc => iprop(⌜acc = carry (k.val + 1)⌝ ∗ params c G WW P ∗ waits (F := F) c ∗ homes c X XF XB XR (Ring.bk 32 k.val) ∗ freed (F := F) c (Ring.sl 3 k.val) ∗ fetching c X XF XB XR (Ring.sl 3 (k.val + 2)) (Ring.bk 32 (k.val + 2)) ∗ outFl c X XF XB XR G WW P (Ring.sl 2 k.val) (Ring.bk 32 k.val) ∗ outDone c X XF XB XR G WW P (Ring.bk 32 (k.val - 1)) ∗ outFree (F := F) c (Ring.sl 2 (k.val + 1)))) := by
  have h5 := c5 k hk
  have h6 := c6 k hk
  have h7 := c7 k hk
  have h8 := c8 k hk
  have h9 := c9 k
  have h10 := c10 k
  have h11 := c11 k
  have h12 := c12 k
  have h18 := c18 k
  have h23 := c23 k h1
  have hk1 := k1 k
  have hk2 := k2 k
  have hk3 := k3 k
  have hk4 := k4 k
  have hk5 := k5 k
  have hk6 := k6 k
  iintro ⟨⟨HG, HWt, HP⟩, ⟨%W, HW⟩, ⟨⟨%x0, HX⟩, ⟨%f0, HF⟩, ⟨%b0, HB⟩, ⟨%r0, HR⟩⟩, ⟨Hx, Hf, Hb, Hr⟩, ⟨⟨Hxc, ⟨%x2, Hxs⟩⟩, ⟨Hfc, ⟨%f2, Hfs⟩⟩, ⟨Hbc, ⟨%b2, Hbs⟩⟩, ⟨Hrc, ⟨%r2, Hrs⟩⟩⟩, ⟨%o0, HO⟩, ⟨HOc, ⟨%p0, HOs⟩⟩, ⟨%o1, HL⟩⟩
  dsimp only [tripG, carry]
  sl_unfold [k0_t1_body]
  sl_exec
  sl_step
  have e : ∀ k : Trip, trip_mid.sl.v145_r0 k = OddOut.W (ahead (k.val + 1)) ∧ trip_mid.sl.v338_r0 k = OddOut.W (k.val + 1) ∧ trip_mid.sl.v389_r0 k = OddOut.W (done (k.val + 1)) ∧ trip_mid.sl.v370_r0 k = OddOut.W (k.val + 1 - 1) ∧ trip_mid.sl.v124_r0 k = OddOut.W (round (k.val + 1)) := by decide +kernel
  obtain ⟨e1, e2, e3, e4, e5⟩ := e k
  have l1 : trip_mid.sl.v216_r0 c XF k hk2 = up (carried c fA XF (Ring.bk 32 k.val)) := load_slot fB _ (off39 k) _ _ _
  have l2 : trip_mid.sl.v220_r0 c XB k hk3 = up (carried c bA XB (Ring.bk 32 k.val)) := load_slot bB _ (off40 k) _ _ _
  have l3 : trip_mid.sl.v270_r0 c XR k hk4 = up (carried c rA XR (Ring.bk 32 k.val)) := load_slot rB _ (off41 k) _ _ _
  have l4 : trip_mid.sl.v291_r0 c X k hk5 = up (carried c xA X (Ring.bk 32 k.val)) := load_slot xB _ (off42 k) _ _ _
  have hv : trip_mid.sl.dma9 c X XF XB XR G WW P k hk2 hk3 hk4 hk5 hk6 p0 = outB c X XF XB XR G WW P (Ring.bk 32 k.val) := by
    refine (read_stored oB (Ring.sl 2 k.val) (off43 k) _ p0 _).trans ?_
    rw [outB, outBlk, blockVal, ← l1, ← l2, ← l3, ← l4]
    rfl
  isplitr; · ipureintro; rw [e1, e2, e3, e4, e5]
  isplitl [HG HWt HP]
  · isplitl [HG]; · iexact HG
    isplitl [HWt]; · iexact HWt
    iexact HP
  isplitl [HW]; · iexists _; iexact HW
  isplitl [HX_src HF_src HB_src HR_src]
  · isplitl [HX_src]; · iexact HX_src
    isplitl [HF_src]; · iexact HF_src
    isplitl [HB_src]; · iexact HB_src
    iexact HR_src
  isplitl [HX HX_dst HF HF_dst HB HB_dst HR HR_dst]
  · isplitl [HX HX_dst]; · isplitl [HX]; · iexact HX
                           iexists _; iexact HX_dst
    isplitl [HF HF_dst]; · isplitl [HF]; · iexact HF
                           iexists _; iexact HF_dst
    isplitl [HB HB_dst]; · isplitl [HB]; · iexact HB
                           iexists _; iexact HB_dst
    isplitl [HR]; · iexact HR
    iexists _; iexact HR_dst
  isplitl [Hxc Hfc Hbc Hrc]
  · isplitl [Hxc]; · iexists x2; iexact Hxc
    isplitl [Hfc]; · iexists f2; iexact Hfc
    isplitl [Hbc]; · iexists b2; iexact Hbc
    iexists r2; iexact Hrc
  isplitl [HOc]
  · iexists _
    irw [← held_out c X XF XB XR (gVal c G) (wVal c WW) (pVal c P) (Ring.bk 32 k.val) o0 _ hv]
    iexact HOc
  isplitl [HL_dst]; · iexact HL_dst
  isplitl [HL]; · iexact HL
  iexists _; iexact HL_src

/-- The first trip. -/
theorem trip_first (a b d e f : BitVec 32) (g : BitVec 1) (k : Trip) (h1 : ¬ 1 ≤ k.val) (hk : k.val < 30) :
    iprop(params c G WW P ∗ waits (F := F) c ∗ fetching c X XF XB XR (Ring.sl 3 k.val) (Ring.bk 32 k.val) ∗ homes c X XF XB XR (Ring.bk 32 (k.val + 2)) ∗ freed (F := F) c (Ring.sl 3 (k.val + 2)) ∗ outAhead (F := F) c (Ring.bk 32 k.val) ∗ outFree (F := F) c (Ring.sl 2 k.val))
      ⊢ wp frame (wpE (defs₀ (F := F)) 𝒱₀ (c : Thread nD τ) none) Set.univ (tripG a b d e f g k (carry k.val))
        (fun acc => iprop(⌜acc = carry (k.val + 1)⌝ ∗ params c G WW P ∗ waits (F := F) c ∗ homes c X XF XB XR (Ring.bk 32 k.val) ∗ freed (F := F) c (Ring.sl 3 k.val) ∗ fetching c X XF XB XR (Ring.sl 3 (k.val + 2)) (Ring.bk 32 (k.val + 2)) ∗ outFl c X XF XB XR G WW P (Ring.sl 2 k.val) (Ring.bk 32 k.val))) := by
  have h5 := c5 k hk
  have h6 := c6 k hk
  have h7 := c7 k hk
  have h8 := c8 k hk
  have h9 := c9 k
  have h10 := c10 k
  have h11 := c11 k
  have h12 := c12 k
  have h18 := c18 k
  have h23 := n23 k h1
  have hk1 := k1 k
  have hk2 := k2 k
  have hk3 := k3 k
  have hk4 := k4 k
  have hk5 := k5 k
  have hk6 := k6 k
  iintro ⟨⟨HG, HWt, HP⟩, ⟨%W, HW⟩, ⟨⟨%x0, HX⟩, ⟨%f0, HF⟩, ⟨%b0, HB⟩, ⟨%r0, HR⟩⟩, ⟨Hx, Hf, Hb, Hr⟩, ⟨⟨Hxc, ⟨%x2, Hxs⟩⟩, ⟨Hfc, ⟨%f2, Hfs⟩⟩, ⟨Hbc, ⟨%b2, Hbs⟩⟩, ⟨Hrc, ⟨%r2, Hrs⟩⟩⟩, ⟨%o0, HO⟩, ⟨HOc, ⟨%p0, HOs⟩⟩⟩
  dsimp only [tripG, carry]
  sl_unfold [k0_t1_body]
  sl_exec
  sl_step
  have e : ∀ k : Trip, trip_first.sl.v145_r0 k = OddOut.W (ahead (k.val + 1)) ∧ trip_first.sl.v338_r0 k = OddOut.W (k.val + 1) ∧ trip_first.sl.v389_r0 k = OddOut.W (done (k.val + 1)) ∧ trip_first.sl.v370_r0 k = OddOut.W (k.val + 1 - 1) ∧ trip_first.sl.v124_r0 k = OddOut.W (round (k.val + 1)) := by decide +kernel
  obtain ⟨e1, e2, e3, e4, e5⟩ := e k
  have l1 : trip_first.sl.v216_r0 c XF k hk2 = up (carried c fA XF (Ring.bk 32 k.val)) := load_slot fB _ (off39 k) _ _ _
  have l2 : trip_first.sl.v220_r0 c XB k hk3 = up (carried c bA XB (Ring.bk 32 k.val)) := load_slot bB _ (off40 k) _ _ _
  have l3 : trip_first.sl.v270_r0 c XR k hk4 = up (carried c rA XR (Ring.bk 32 k.val)) := load_slot rB _ (off41 k) _ _ _
  have l4 : trip_first.sl.v291_r0 c X k hk5 = up (carried c xA X (Ring.bk 32 k.val)) := load_slot xB _ (off42 k) _ _ _
  have hv : trip_first.sl.dma9 c X XF XB XR G WW P k hk2 hk3 hk4 hk5 hk6 p0 = outB c X XF XB XR G WW P (Ring.bk 32 k.val) := by
    refine (read_stored oB (Ring.sl 2 k.val) (off43 k) _ p0 _).trans ?_
    rw [outB, outBlk, blockVal, ← l1, ← l2, ← l3, ← l4]
    rfl
  isplitr; · ipureintro; rw [e1, e2, e3, e4, e5]
  isplitl [HG HWt HP]
  · isplitl [HG]; · iexact HG
    isplitl [HWt]; · iexact HWt
    iexact HP
  isplitl [HW]; · iexists _; iexact HW
  isplitl [HX_src HF_src HB_src HR_src]
  · isplitl [HX_src]; · iexact HX_src
    isplitl [HF_src]; · iexact HF_src
    isplitl [HB_src]; · iexact HB_src
    iexact HR_src
  isplitl [HX HX_dst HF HF_dst HB HB_dst HR HR_dst]
  · isplitl [HX HX_dst]; · isplitl [HX]; · iexact HX
                           iexists _; iexact HX_dst
    isplitl [HF HF_dst]; · isplitl [HF]; · iexact HF
                           iexists _; iexact HF_dst
    isplitl [HB HB_dst]; · isplitl [HB]; · iexact HB
                           iexists _; iexact HB_dst
    isplitl [HR]; · iexact HR
    iexists _; iexact HR_dst
  isplitl [Hxc Hfc Hbc Hrc]
  · isplitl [Hxc]; · iexists x2; iexact Hxc
    isplitl [Hfc]; · iexists f2; iexact Hfc
    isplitl [Hbc]; · iexists b2; iexact Hbc
    iexists r2; iexact Hrc
  iexists _
  irw [← held_out c X XF XB XR (gVal c G) (wVal c WW) (pVal c P) (Ring.bk 32 k.val) o0 _ hv]
  iexact HOc

/-- One of the last two trips. -/
theorem trip_last (a b d e f : BitVec 32) (g : BitVec 1) (k : Trip) (h1 : 1 ≤ k.val) (hk : ¬ k.val < 30) :
    iprop(params c G WW P ∗ waits (F := F) c ∗ fetching c X XF XB XR (Ring.sl 3 k.val) (Ring.bk 32 k.val) ∗ outAhead (F := F) c (Ring.bk 32 k.val) ∗ outFree (F := F) c (Ring.sl 2 k.val) ∗ outFl c X XF XB XR G WW P (Ring.sl 2 (k.val + 1)) (Ring.bk 32 (k.val - 1)))
      ⊢ wp frame (wpE (defs₀ (F := F)) 𝒱₀ (c : Thread nD τ) none) Set.univ (tripG a b d e f g k (carry k.val))
        (fun acc => iprop(⌜acc = carry (k.val + 1)⌝ ∗ params c G WW P ∗ waits (F := F) c ∗ homes c X XF XB XR (Ring.bk 32 k.val) ∗ freed (F := F) c (Ring.sl 3 k.val) ∗ outFl c X XF XB XR G WW P (Ring.sl 2 k.val) (Ring.bk 32 k.val) ∗ outDone c X XF XB XR G WW P (Ring.bk 32 (k.val - 1)) ∗ outFree (F := F) c (Ring.sl 2 (k.val + 1)))) := by
  have h5 := n5 k hk
  have h6 := n6 k hk
  have h7 := n7 k hk
  have h8 := n8 k hk
  have h9 := c9 k
  have h10 := c10 k
  have h11 := c11 k
  have h12 := c12 k
  have h18 := c18 k
  have h23 := c23 k h1
  have hk1 := k1 k
  have hk2 := k2 k
  have hk3 := k3 k
  have hk4 := k4 k
  have hk5 := k5 k
  have hk6 := k6 k
  iintro ⟨⟨HG, HWt, HP⟩, ⟨%W, HW⟩, ⟨⟨%x0, HX⟩, ⟨%f0, HF⟩, ⟨%b0, HB⟩, ⟨%r0, HR⟩⟩, ⟨%o0, HO⟩, ⟨HOc, ⟨%p0, HOs⟩⟩, ⟨%o1, HL⟩⟩
  dsimp only [tripG, carry]
  sl_unfold [k0_t1_body]
  sl_exec
  sl_step
  have e : ∀ k : Trip, trip_last.sl.v145_r0 k = OddOut.W (ahead (k.val + 1)) ∧ trip_last.sl.v338_r0 k = OddOut.W (k.val + 1) ∧ trip_last.sl.v389_r0 k = OddOut.W (done (k.val + 1)) ∧ trip_last.sl.v370_r0 k = OddOut.W (k.val + 1 - 1) ∧ trip_last.sl.v124_r0 k = OddOut.W (round (k.val + 1)) := by decide +kernel
  obtain ⟨e1, e2, e3, e4, e5⟩ := e k
  have l1 : trip_last.sl.v216_r0 c XF k hk2 = up (carried c fA XF (Ring.bk 32 k.val)) := load_slot fB _ (off39 k) _ _ _
  have l2 : trip_last.sl.v220_r0 c XB k hk3 = up (carried c bA XB (Ring.bk 32 k.val)) := load_slot bB _ (off40 k) _ _ _
  have l3 : trip_last.sl.v270_r0 c XR k hk4 = up (carried c rA XR (Ring.bk 32 k.val)) := load_slot rB _ (off41 k) _ _ _
  have l4 : trip_last.sl.v291_r0 c X k hk5 = up (carried c xA X (Ring.bk 32 k.val)) := load_slot xB _ (off42 k) _ _ _
  have hv : trip_last.sl.dma9 c X XF XB XR G WW P k hk2 hk3 hk4 hk5 hk6 p0 = outB c X XF XB XR G WW P (Ring.bk 32 k.val) := by
    refine (read_stored oB (Ring.sl 2 k.val) (off43 k) _ p0 _).trans ?_
    rw [outB, outBlk, blockVal, ← l1, ← l2, ← l3, ← l4]
    rfl
  isplitr; · ipureintro; rw [e1, e2, e3, e4, e5]
  isplitl [HG HWt HP]
  · isplitl [HG]; · iexact HG
    isplitl [HWt]; · iexact HWt
    iexact HP
  isplitl [HW]; · iexists _; iexact HW
  isplitl [HX_src HF_src HB_src HR_src]
  · isplitl [HX_src]; · iexact HX_src
    isplitl [HF_src]; · iexact HF_src
    isplitl [HB_src]; · iexact HB_src
    iexact HR_src
  isplitl [HX HX_dst HF HF_dst HB HB_dst HR HR_dst]
  · isplitl [HX HX_dst]; · isplitl [HX]; · iexact HX
                           iexists _; iexact HX_dst
    isplitl [HF HF_dst]; · isplitl [HF]; · iexact HF
                           iexists _; iexact HF_dst
    isplitl [HB HB_dst]; · isplitl [HB]; · iexact HB
                           iexists _; iexact HB_dst
    isplitl [HR]; · iexact HR
    iexists _; iexact HR_dst
  isplitl [HOc]
  · iexists _
    irw [← held_out c X XF XB XR (gVal c G) (wVal c WW) (pVal c P) (Ring.bk 32 k.val) o0 _ hv]
    iexact HOc
  isplitl [HL_dst]; · iexact HL_dst
  isplitl [HL]; · iexact HL
  iexists _; iexact HL_src

end Trip

end Cert.OddOut

end
-- ==== Proof.Loop.lean ====
/-
  The block loop as a whole. Before trip `k` blocks `k` and `k + 1` of every input are on their way into slots `k % 3` and
  `(k + 1) % 3`, the third slot is free, every other block is at home; the output blocks before `k - 1` are written, block
  `k - 1` is on its way out, the later ones are still to be written.
-/
module

public import proofs.«01_k».proof.Proof.Trip
public import Idealize.ShloMosaic.Lib.Ring.WriteBehind

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One step of a read ring and of the write ring, as what the step takes and what it gives back for the ring after it -/

section Steps
variable {M : Type _} [URA M] {NB : ℕ} [NeZero NB]

section Read
variable {C : Fin 3 → Type _} (cell : Fin 3 → sProp M) (slot : (s : Fin 3) → C s → sProp M)
  (home : Fin NB → sProp M) (flight : (s : Fin 3) → Fin NB → C s → sProp M)

/-- A step with a block left to start. -/
theorem read_mid (k : ℕ) (hk : k + 2 < NB) :
    Ring.At 2 cell slot home flight k ⊢ iprop(Ring.inflight flight (Ring.sl 3 k) (Ring.bk NB k) ∗ home (Ring.bk NB (k + 2)) ∗ Ring.free cell slot (Ring.sl 3 (k + 2))
      ∗ ((home (Ring.bk NB k) ∗ Ring.free cell slot (Ring.sl 3 k) ∗ Ring.inflight flight (Ring.sl 3 (k + 2)) (Ring.bk NB (k + 2))) -∗ Ring.At 2 cell slot home flight (k + 1))) := by
  rw [Ring.At3_here _ _ _ _ k hk, Ring.At3_next _ _ _ _ k hk, Ring.slotAt3_next0 _ _ _ k (by omega), Ring.slotAt3_next1 _ _ _ k hk]
  iintro ⟨⟨Hh, Hrest⟩, H0, H1, Hf⟩
  isplitl [H0]; · iexact H0
  isplitl [Hh]; · iexact Hh
  isplitl [Hf]; · iexact Hf
  iintro ⟨Hk, Hfk, H2⟩
  isplitl [Hk Hrest]
  · isplitl [Hk]; · iexact Hk
    iexact Hrest
  isplitl [H1]; · iexact H1
  isplitl [H2]; · iexact H2
  iexact Hfk

/-- One of the last two steps. -/
theorem read_tail (k : ℕ) (hB : NB ≤ k + 2) (hk : k < NB) :
    Ring.At 2 cell slot home flight k ⊢ iprop(Ring.inflight flight (Ring.sl 3 k) (Ring.bk NB k)
      ∗ ((home (Ring.bk NB k) ∗ Ring.free cell slot (Ring.sl 3 k)) -∗ Ring.At 2 cell slot home flight (k + 1))) := by
  rw [Ring.At3_here_tail _ _ _ _ k hk, Ring.At3_next_tail _ _ _ _ k hB hk, Ring.slotAt3_tail_role]
  iintro ⟨Hrest, H0, H1, Hf⟩
  isplitl [H0]; · iexact H0
  iintro ⟨Hk, Hfk⟩
  isplitl [Hk Hrest]
  · isplitl [Hk]; · iexact Hk
    iexact Hrest
  isplitl [H1]; · iexact H1
  isplitl [Hf]; · iexact Hf
  iexact Hfk
end Read

section Write
variable (free : Fin 2 → sProp M) (infl : Fin 2 → Fin NB → sProp M) (ahead behind : Fin NB → sProp M)

/-- The first step: nothing to wait for. -/
theorem write_first (k : ℕ) (hk : k = 0) :
    Ring.AtB 1 free infl ahead behind k ⊢ iprop(ahead (Ring.bk NB k) ∗ free (Ring.sl 2 k)
      ∗ (infl (Ring.sl 2 k) (Ring.bk NB k) -∗ Ring.AtB 1 free infl ahead behind (k + 1))) := by
  rw [Ring.AtB2_zero' _ _ _ _ _ k hk, Ring.AtB21_next_zero' _ _ _ _ k hk]
  iintro ⟨⟨Ha, Hrest⟩, H0, H1⟩
  isplitl [Ha]; · iexact Ha
  isplitl [H0]; · iexact H0
  iintro Hi
  isplitl [Hrest]; · iexact Hrest
  isplitl [H1]; · iexact H1
  iexact Hi

/-- A later step: it waits for the step before. -/
theorem write_mid (k : ℕ) (h1 : 1 ≤ k) (hk : k < NB) :
    Ring.AtB 1 free infl ahead behind k ⊢ iprop(ahead (Ring.bk NB k) ∗ free (Ring.sl 2 k) ∗ infl (Ring.sl 2 (k + 1)) (Ring.bk NB (k - 1))
      ∗ ((infl (Ring.sl 2 k) (Ring.bk NB k) ∗ behind (Ring.bk NB (k - 1)) ∗ free (Ring.sl 2 (k + 1))) -∗ Ring.AtB 1 free infl ahead behind (k + 1))) := by
  rw [Ring.AtB21_here _ _ _ _ k h1 hk, Ring.AtB21_next _ _ _ _ k h1 hk]
  iintro ⟨⟨Ha, Hrest⟩, Hb, H0, H1⟩
  isplitl [Ha]; · iexact Ha
  isplitl [H0]; · iexact H0
  isplitl [H1]; · iexact H1
  iintro ⟨Hi, Hbk, Hf⟩
  isplitl [Hrest]; · iexact Hrest
  isplitl [Hbk Hb]
  · isplitl [Hbk]; · iexact Hbk
    iexact Hb
  isplitl [Hf]; · iexact Hf
  iexact Hi
end Write
end Steps

variable {F : FTy → Type} [FloatOps F]
local notation "𝕄" => MT nD τ sig Unit (Elt F) ℕ (UU nD τ) ℕ

section Loop
variable (c : Dev nD)
  (X : Buf (Elt F) (xA.view.loc (c : Thread nD τ))) (XF : Buf (Elt F) (fA.view.loc (c : Thread nD τ)))
  (XB : Buf (Elt F) (bA.view.loc (c : Thread nD τ))) (XR : Buf (Elt F) (rA.view.loc (c : Thread nD τ)))
  (G : Buf (Elt F) (gB.view.loc (c : Thread nD τ))) (WW : Buf (Elt F) (wB.view.loc (c : Thread nD τ))) (P : Buf (Elt F) (pB.view.loc (c : Thread nD τ)))

/-- The four read rings before trip `k`. -/
abbrev ringX (k : ℕ) : sProp 𝕄 := Ring.At 2 (inCell (F := F) c cc0_scoped1) (inSlot c xB) (inHome c xA X) (xFl c X) k
abbrev ringF (k : ℕ) : sProp 𝕄 := Ring.At 2 (inCell (F := F) c cc0_scoped3) (inSlot c fB) (inHome c fA XF) (fFl c XF) k
abbrev ringB (k : ℕ) : sProp 𝕄 := Ring.At 2 (inCell (F := F) c cc0_scoped5) (inSlot c bB) (inHome c bA XB) (bFl c XB) k
abbrev ringR (k : ℕ) : sProp 𝕄 := Ring.At 2 (inCell (F := F) c cc0_scoped7) (inSlot c rB) (inHome c rA XR) (rFl c XR) k
/-- The write ring before trip `k`. -/
abbrev ringO (k : ℕ) : sProp 𝕄 := Ring.AtB 1 (outFree (F := F) c) (outFl c X XF XB XR G WW P) (outAhead (F := F) c) (outDone c X XF XB XR G WW P) k

/-- What holds before trip `k`. -/
def inv (k : ℕ) (acc : Acc) : sProp 𝕄 :=
  iprop(⌜acc = carry k⌝ ∗ params c G WW P ∗ waits (F := F) c ∗ ringX c X k ∗ ringF c XF k ∗ ringB c XB k ∗ ringR c XR k ∗ ringO c X XF XB XR G WW P k)

/-- One trip takes it to the next. -/
theorem inv_step (a b d e f : BitVec 32) (g : BitVec 1) (k : Trip) (acc : Acc) :
    inv c X XF XB XR G WW P k.val acc ⊢ wp frame (wpE (defs₀ (F := F)) 𝒱₀ (c : Thread nD τ) none) Set.univ (tripG a b d e f g k acc)
      (inv c X XF XB XR G WW P (k.val + 1)) := by
  have h32 := trip_lt k
  unfold inv
  iintro ⟨%hacc, HP, HW, HX, HF, HB, HR, HO⟩
  subst hacc
  by_cases hk : k.val < 30
  · ihave HX := (read_mid (inCell (F := F) c cc0_scoped1) (inSlot c xB) (inHome c xA X) (xFl c X) k.val (by omega)) $$ HX
    ihave HF := (read_mid (inCell (F := F) c cc0_scoped3) (inSlot c fB) (inHome c fA XF) (fFl c XF) k.val (by omega)) $$ HF
    ihave HB := (read_mid (inCell (F := F) c cc0_scoped5) (inSlot c bB) (inHome c bA XB) (bFl c XB) k.val (by omega)) $$ HB
    ihave HR := (read_mid (inCell (F := F) c cc0_scoped7) (inSlot c rB) (inHome c rA XR) (rFl c XR) k.val (by omega)) $$ HR
    icases HX with ⟨Xi, Xh, Xf, CX⟩
    icases HF with ⟨Fi, Fh, Ff, CF⟩
    icases HB with ⟨Bi, Bh, Bf, CB⟩
    icases HR with ⟨Ri, Rh, Rf, CR⟩
    by_cases h1 : 1 ≤ k.val
    · ihave HO := (write_mid (outFree (F := F) c) (outFl c X XF XB XR G WW P) (outAhead (F := F) c) (outDone c X XF XB XR G WW P) k.val h1 (by omega)) $$ HO
      icases HO with ⟨Oa, Of, Oi, CO⟩
      iapply (wp_wand_r Idealize.ShloMosaic.frame (wpE (defs₀ (F := F)) 𝒱₀ (c : Thread nD τ) none) Set.univ)
      isplitl [HP HW Xi Xh Xf Fi Fh Ff Bi Bh Bf Ri Rh Rf Oa Of Oi]
      · iapply (trip_mid c X XF XB XR G WW P a b d e f g k h1 hk)
        isplitl [HP]; · iexact HP
        isplitl [HW]; · iexact HW
        isplitl [Xi Fi Bi Ri]
        · isplitl [Xi]; · iexact Xi
          isplitl [Fi]; · iexact Fi
          isplitl [Bi]; · iexact Bi
          iexact Ri
        isplitl [Xh Fh Bh Rh]
        · isplitl [Xh]; · iexact Xh
          isplitl [Fh]; · iexact Fh
          isplitl [Bh]; · iexact Bh
          iexact Rh
        isplitl [Xf Ff Bf Rf]
        · isplitl [Xf]; · iexact Xf
          isplitl [Ff]; · iexact Ff
          isplitl [Bf]; · iexact Bf
          iexact Rf
        isplitl [Oa]; · iexact Oa
        isplitl [Of]; · iexact Of
        iexact Oi
      iintro %acc' ⟨%hacc, HP, HW, ⟨Xh, Fh, Bh, Rh⟩, ⟨Xf, Ff, Bf, Rf⟩, ⟨Xi, Fi, Bi, Ri⟩, Oi, Od, Of⟩
      isplitr; · ipureintro; exact hacc
      isplitl [HP]; · iexact HP
      isplitl [HW]; · iexact HW
      isplitl [CX Xh Xf Xi]
      · iapply CX; isplitl [Xh]; · iexact Xh
        isplitl [Xf]; · iexact Xf
        iexact Xi
      isplitl [CF Fh Ff Fi]
      · iapply CF; isplitl [Fh]; · iexact Fh
        isplitl [Ff]; · iexact Ff
        iexact Fi
      isplitl [CB Bh Bf Bi]
      · iapply CB; isplitl [Bh]; · iexact Bh
        isplitl [Bf]; · iexact Bf
        iexact Bi
      isplitl [CR Rh Rf Ri]
      · iapply CR; isplitl [Rh]; · iexact Rh
        isplitl [Rf]; · iexact Rf
        iexact Ri
      iapply CO; isplitl [Oi]; · iexact Oi
      isplitl [Od]; · iexact Od
      iexact Of
    · ihave HO := (write_first (outFree (F := F) c) (outFl c X XF XB XR G WW P) (outAhead (F := F) c) (outDone c X XF XB XR G WW P) k.val (by omega)) $$ HO
      icases HO with ⟨Oa, Of, CO⟩
      iapply (wp_wand_r Idealize.ShloMosaic.frame (wpE (defs₀ (F := F)) 𝒱₀ (c : Thread nD τ) none) Set.univ)
      isplitl [HP HW Xi Xh Xf Fi Fh Ff Bi Bh Bf Ri Rh Rf Oa Of]
      · iapply (trip_first c X XF XB XR G WW P a b d e f g k h1 hk)
        isplitl [HP]; · iexact HP
        isplitl [HW]; · iexact HW
        isplitl [Xi Fi Bi Ri]
        · isplitl [Xi]; · iexact Xi
          isplitl [Fi]; · iexact Fi
          isplitl [Bi]; · iexact Bi
          iexact Ri
        isplitl [Xh Fh Bh Rh]
        · isplitl [Xh]; · iexact Xh
          isplitl [Fh]; · iexact Fh
          isplitl [Bh]; · iexact Bh
          iexact Rh
        isplitl [Xf Ff Bf Rf]
        · isplitl [Xf]; · iexact Xf
          isplitl [Ff]; · iexact Ff
          isplitl [Bf]; · iexact Bf
          iexact Rf
        isplitl [Oa]; · iexact Oa
        iexact Of
      iintro %acc' ⟨%hacc, HP, HW, ⟨Xh, Fh, Bh, Rh⟩, ⟨Xf, Ff, Bf, Rf⟩, ⟨Xi, Fi, Bi, Ri⟩, Oi⟩
      isplitr; · ipureintro; exact hacc
      isplitl [HP]; · iexact HP
      isplitl [HW]; · iexact HW
      isplitl [CX Xh Xf Xi]
      · iapply CX; isplitl [Xh]; · iexact Xh
        isplitl [Xf]; · iexact Xf
        iexact Xi
      isplitl [CF Fh Ff Fi]
      · iapply CF; isplitl [Fh]; · iexact Fh
        isplitl [Ff]; · iexact Ff
        iexact Fi
      isplitl [CB Bh Bf Bi]
      · iapply CB; isplitl [Bh]; · iexact Bh
        isplitl [Bf]; · iexact Bf
        iexact Bi
      isplitl [CR Rh Rf Ri]
      · iapply CR; isplitl [Rh]; · iexact Rh
        isplitl [Rf]; · iexact Rf
        iexact Ri
      iapply CO; iexact Oi
  · have h1 : 1 ≤ k.val := by omega
    ihave HX := (read_tail (inCell (F := F) c cc0_scoped1) (inSlot c xB) (inHome c xA X) (xFl c X) k.val (by omega) (by omega)) $$ HX
    ihave HF := (read_tail (inCell (F := F) c cc0_scoped3) (inSlot c fB) (inHome c fA XF) (fFl c XF) k.val (by omega) (by omega)) $$ HF
    ihave HB := (read_tail (inCell (F := F) c cc0_scoped5) (inSlot c bB) (inHome c bA XB) (bFl c XB) k.val (by omega) (by omega)) $$ HB
    ihave HR := (read_tail (inCell (F := F) c cc0_scoped7) (inSlot c rB) (inHome c rA XR) (rFl c XR) k.val (by omega) (by omega)) $$ HR
    icases HX with ⟨Xi, CX⟩
    icases HF with ⟨Fi, CF⟩
    icases HB with ⟨Bi, CB⟩
    icases HR with ⟨Ri, CR⟩
    ihave HO := (write_mid (outFree (F := F) c) (outFl c X XF XB XR G WW P) (outAhead (F := F) c) (outDone c X XF XB XR G WW P) k.val h1 (by omega)) $$ HO
    icases HO with ⟨Oa, Of, Oi, CO⟩
    iapply (wp_wand_r Idealize.ShloMosaic.frame (wpE (defs₀ (F := F)) 𝒱₀ (c : Thread nD τ) none) Set.univ)
    isplitl [HP HW Xi Fi Bi Ri Oa Of Oi]
    · iapply (trip_last c X XF XB XR G WW P a b d e f g k h1 hk)
      isplitl [HP]; · iexact HP
      isplitl [HW]; · iexact HW
      isplitl [Xi Fi Bi Ri]
      · isplitl [Xi]; · iexact Xi
        isplitl [Fi]; · iexact Fi
        isplitl [Bi]; · iexact Bi
        iexact Ri
      isplitl [Oa]; · iexact Oa
      isplitl [Of]; · iexact Of
      iexact Oi
    iintro %acc' ⟨%hacc, HP, HW, ⟨Xh, Fh, Bh, Rh⟩, ⟨Xf, Ff, Bf, Rf⟩, Oi, Od, Of⟩
    isplitr; · ipureintro; exact hacc
    isplitl [HP]; · iexact HP
    isplitl [HW]; · iexact HW
    isplitl [CX Xh Xf]
    · iapply CX; isplitl [Xh]; · iexact Xh
      iexact Xf
    isplitl [CF Fh Ff]
    · iapply CF; isplitl [Fh]; · iexact Fh
      iexact Ff
    isplitl [CB Bh Bf]
    · iapply CB; isplitl [Bh]; · iexact Bh
      iexact Bf
    isplitl [CR Rh Rf]
    · iapply CR; isplitl [Rh]; · iexact Rh
      iexact Rf
    iapply CO; isplitl [Oi]; · iexact Oi
    isplitl [Od]; · iexact Od
    iexact Of

end Loop

end Cert.OddOut

end
-- ==== Proof.Body.lean ====
/-
  The whole kernel: the three whole operands are copied in, blocks 0 and 1 of every streamed input are started, the block loop
  runs, and the last block's copy out is waited for.
-/
module

public import proofs.«01_k».proof.Proof.Loop
public import Idealize.ShloMosaic.Lib.VecWindow

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

theorem of_eq {M : Type _} [URA M] {P Q : sProp M} (e : P = Q) : P ⊢ Q := e ▸ .rfl

section Ends
variable {M : Type _} [URA M] {NB : ℕ} [NeZero NB]
variable {C : Fin 3 → Type _} (cell : Fin 3 → sProp M) (slot : (s : Fin 3) → C s → sProp M)
  (home : Fin NB → sProp M) (flight : (s : Fin 3) → Fin NB → C s → sProp M)

/-- Two blocks started: the read ring before its first step. -/
theorem read_start (h : 3 ≤ NB) :
    iprop((home (Ring.bk NB 2) ∗ bigSep ((Ring.homeSet 2 0).erase (Ring.bk NB 2)) home)
      ∗ (∃ f, flight 0 (Ring.bk NB 0) f) ∗ (∃ f, flight 1 (Ring.bk NB 1) f) ∗ Ring.free cell slot 2) ⊢ Ring.At 2 cell slot home flight 0 :=
  of_eq (Ring.At3_here _ _ _ _ 0 (by omega)).symm

/-- Past its last step a read ring is at rest. -/
theorem read_end : Ring.At 2 cell slot home flight NB ⊢ Ring.At₀ cell slot home := by
  rw [Ring.At_last3, Ring.At₀, Ring.bigSep_fin3]
  iintro ⟨Hh, Hs⟩
  isplitl [Hh]; · iexact Hh
  iapply (Ring.free3_of_roles (Ring.free cell slot) NB)
  iexact Hs
end Ends

section Body
variable (c : Dev nD)
  (X : Buf (Elt F) (xA.view.loc (c : Thread nD τ))) (XF : Buf (Elt F) (fA.view.loc (c : Thread nD τ)))
  (XB : Buf (Elt F) (bA.view.loc (c : Thread nD τ))) (XR : Buf (Elt F) (rA.view.loc (c : Thread nD τ)))

/-- The three whole operands where the kernel finds them. -/
abbrev gA : Memref sig .tc .hbm S1x1024 .f32 := Memref.whole main_v1
abbrev wA : Memref sig .tc .hbm S1024x1024 .bf16 := Memref.whole main_v0
abbrev pA : Memref sig .tc .hbm S1x1024 .f32 := Memref.whole main_v2

variable (GA : Buf (Elt F) (gA.view.loc (c : Thread nD τ))) (WA : Buf (Elt F) (wA.view.loc (c : Thread nD τ))) (PA : Buf (Elt F) (pA.view.loc (c : Thread nD τ)))

/-- The four streamed inputs and their slots and semaphores, at rest. -/
abbrev restX : sProp 𝕄 := Ring.At₀ (inCell (F := F) c cc0_scoped1) (inSlot c xB) (inHome c xA X)
abbrev restF : sProp 𝕄 := Ring.At₀ (inCell (F := F) c cc0_scoped3) (inSlot c fB) (inHome c fA XF)
abbrev restB : sProp 𝕄 := Ring.At₀ (inCell (F := F) c cc0_scoped5) (inSlot c bB) (inHome c bA XB)
abbrev restR : sProp 𝕄 := Ring.At₀ (inCell (F := F) c cc0_scoped7) (inSlot c rB) (inHome c rA XR)

/-- What the kernel leaves in the output array. -/
abbrev outY : Buf (Elt F) (oA.view.loc (c : Thread nD τ)) :=
  outArr c X XF XB XR (gA.view.read (Elt F) GA) (wA.view.read (Elt F) WA) (pA.view.read (Elt F) PA)

/-- What is at rest before and after: the whole operands where they are found, some contents of their scratch, the one-shot
    semaphores, the four inputs. -/
abbrev still : sProp 𝕄 :=
  iprop((held c gA GA ∗ held c wA WA ∗ held c pA PA) ∗ ((∃ g, held c gB g) ∗ (∃ w, held c wB w) ∗ ∃ p, held c pB p)
    ∗ (cell0 (F := F) c cc0_scoped13 ∗ cell0 (F := F) c cc0_scoped14 ∗ cell0 (F := F) c cc0_scoped15)
    ∗ (restX c X ∗ restF c XF ∗ restB c XB ∗ restR c XR) ∗ waits (F := F) c)

/-- What a whole operand's scratch reads after the copy in. -/
theorem read_g (g0) (v) : gVal c (gB.view.writes (Elt F) g0 [⟨Rect.whole S1x1024, v⟩]) = v :=
  (View.readAt_full gB.view _ _).trans (View.read_writes_whole (Val := Elt F) gB.view g0 v)
theorem read_w (g0) (v) : wVal c (wB.view.writes (Elt F) g0 [⟨Rect.whole S1024x1024, v⟩]) = v :=
  (View.readAt_full wB.view _ _).trans (View.read_writes_whole (Val := Elt F) wB.view g0 v)
theorem read_p (g0) (v) : pVal c (pB.view.writes (Elt F) g0 [⟨Rect.whole S1x1024, v⟩]) = v :=
  (View.readAt_full pB.view _ _).trans (View.read_writes_whole (Val := Elt F) pB.view g0 v)

theorem carry_end : carry 32 = (W 32, W 32, W 32, W 32, W 32, W 32, W 32, W 32, W 1, W 1, W 1, W 32, W 31, W 0) := rfl

/-- The kernel's run: everything at rest again, the output array written. -/
theorem bodyRun (t) (Q : PUnit → sProp 𝕄) :
    iprop((still c X XF XB XR GA WA PA ∗ Ring.AtB₀ (outFree (F := F) c) (outAhead (F := F) c))
      ∗ ((still c X XF XB XR GA WA PA ∗ Ring.AtBEnd (outFree (F := F) c) (fun b => held c (rows oA b) (outY c X XF XB XR GA WA PA))) -∗ Q ⟨⟩))
      ⊢ wp frame (wpE (defs₀ (F := F)) 𝒱₀ (c : Thread nD τ) none) Set.univ (bodyAt0 t) Q := by
  have h1 := c1
  have h2 := c2
  have h3 := c3
  have h4 := c4
  have h7 := k7
  have h8 := k8
  unfold still
  iintro ⟨⟨⟨⟨HGA, HWA, HPA⟩, ⟨⟨%g0, HG⟩, ⟨%w0, HWt⟩, ⟨%p0, HP⟩⟩, ⟨H13, H14, H15⟩, ⟨HX, HF, HB, HR⟩, ⟨%W, HW⟩⟩, HO⟩, Hk⟩
  ihave HX := (of_eq (Ring.At₀_eq3 (inHome c xA X) (inCell (F := F) c cc0_scoped1) (inSlot c xB) (by decide))) $$ HX
  ihave HF := (of_eq (Ring.At₀_eq3 (inHome c fA XF) (inCell (F := F) c cc0_scoped3) (inSlot c fB) (by decide))) $$ HF
  ihave HB := (of_eq (Ring.At₀_eq3 (inHome c bA XB) (inCell (F := F) c cc0_scoped5) (inSlot c bB) (by decide))) $$ HB
  ihave HR := (of_eq (Ring.At₀_eq3 (inHome c rA XR) (inCell (F := F) c cc0_scoped7) (inSlot c rB) (by decide))) $$ HR
  icases HX with ⟨⟨X0, X1, X2, Xr⟩, ⟨Xc0, ⟨%x0, Xs0⟩⟩, ⟨Xc1, ⟨%x1, Xs1⟩⟩, Xf⟩
  icases HF with ⟨⟨F0, F1, F2, Fr⟩, ⟨Fc0, ⟨%f0, Fs0⟩⟩, ⟨Fc1, ⟨%f1, Fs1⟩⟩, Ff⟩
  icases HB with ⟨⟨B0, B1, B2, Br⟩, ⟨Bc0, ⟨%b0, Bs0⟩⟩, ⟨Bc1, ⟨%b1, Bs1⟩⟩, Bf⟩
  icases HR with ⟨⟨R0, R1, R2, Rr⟩, ⟨Rc0, ⟨%r0, Rs0⟩⟩, ⟨Rc1, ⟨%r1, Rs1⟩⟩, Rf⟩
  dsimp only [bodyAt0]
  sl_exec
  sl_for (inv c X XF XB XR (gB.view.writes (Elt F) gB.view.junk [⟨Rect.whole S1x1024, gA.view.read (Elt F) GA⟩]) (wB.view.writes (Elt F) wB.view.junk [⟨Rect.whole S1024x1024, wA.view.read (Elt F) WA⟩])
    (pB.view.writes (Elt F) pB.view.junk [⟨Rect.whole S1x1024, pA.view.read (Elt F) PA⟩])) $$ [HG HWt HP HW Xc0 Xc1 X2 Xr Xf Fc0 Fc1 F2 Fr Ff Bc0 Bc1 B2 Br Bf Rc0 Rc1 R2 Rr Rf HO]
  · intro k acc
    exact inv_step c X XF XB XR _ _ _ _ _ _ _ _ _ k acc
  · unfold inv
    isplitr; · ipureintro; rfl
    isplitl [HG HWt HP]
    · isplitl [HG]; · iexact HG
      isplitl [HWt]; · iexact HWt
      iexact HP
    isplitl [HW]; · iexists _; iexact HW
    isplitl [Xc0 Xc1 X2 Xr Xf]
    · iapply (read_start (inCell (F := F) c cc0_scoped1) (inSlot c xB) (inHome c xA X) (xFl c X) (by decide))
      isplitl [X2 Xr]
      · isplitl [X2]; · iexact X2
        iexact Xr
      isplitl [Xc0]; · iexists x0; iexact Xc0
      isplitl [Xc1]; · iexists x1; iexact Xc1
      iexact Xf
    isplitl [Fc0 Fc1 F2 Fr Ff]
    · iapply (read_start (inCell (F := F) c cc0_scoped3) (inSlot c fB) (inHome c fA XF) (fFl c XF) (by decide))
      isplitl [F2 Fr]
      · isplitl [F2]; · iexact F2
        iexact Fr
      isplitl [Fc0]; · iexists f0; iexact Fc0
      isplitl [Fc1]; · iexists f1; iexact Fc1
      iexact Ff
    isplitl [Bc0 Bc1 B2 Br Bf]
    · iapply (read_start (inCell (F := F) c cc0_scoped5) (inSlot c bB) (inHome c bA XB) (bFl c XB) (by decide))
      isplitl [B2 Br]
      · isplitl [B2]; · iexact B2
        iexact Br
      isplitl [Bc0]; · iexists b0; iexact Bc0
      isplitl [Bc1]; · iexists b1; iexact Bc1
      iexact Bf
    isplitl [Rc0 Rc1 R2 Rr Rf]
    · iapply (read_start (inCell (F := F) c cc0_scoped7) (inSlot c rB) (inHome c rA XR) (rFl c XR) (by decide))
      isplitl [R2 Rr]
      · isplitl [R2]; · iexact R2
        iexact Rr
      isplitl [Rc0]; · iexists r0; iexact Rc0
      isplitl [Rc1]; · iexists r1; iexact Rc1
      iexact Rf
    iapply (of_eq (Ring.AtB_zero 1 (outFree (F := F) c) (outFl c X XF XB XR _ _ _) (outAhead (F := F) c) (outDone c X XF XB XR _ _ _)).symm)
    iexact HO
  iintro %acc HI
  rw [show Scf.trips k0_t1_loop.lb k0_t1_loop.ub k0_t1_loop.st = 32 from trips_eq]
  unfold inv
  icases HI with ⟨%hacc, ⟨HG, HWt, HP⟩, ⟨%W', HW⟩, HX, HF, HB, HR, HO⟩
  rw [carry_end] at hacc
  subst hacc
  ihave HO := (of_eq (Ring.AtB21_end' (outFree (F := F) c) (outFl c X XF XB XR _ _ _) (outAhead (F := F) c) (outDone c X XF XB XR _ _ _) 32 rfl (by decide))) $$ HO
  icases HO with ⟨Ob, Of, ⟨%o1, HL⟩⟩
  rw [show Ring.sl 2 (32 + 1) = Ring.sl 2 33 from rfl, show (32 - 1 : ℕ) = 31 from rfl]
  sl_exec
  sl_step
  have hO : outA c X XF XB XR (gB.view.writes (Elt F) gB.view.junk [⟨Rect.whole S1x1024, gA.view.read (Elt F) GA⟩]) (wB.view.writes (Elt F) wB.view.junk [⟨Rect.whole S1024x1024, wA.view.read (Elt F) WA⟩])
      (pB.view.writes (Elt F) pB.view.junk [⟨Rect.whole S1x1024, pA.view.read (Elt F) PA⟩]) = outY c X XF XB XR GA WA PA := by
    unfold outA outY
    rw [read_g, read_w, read_p]
  have hD : outDone c X XF XB XR (gB.view.writes (Elt F) gB.view.junk [⟨Rect.whole S1x1024, gA.view.read (Elt F) GA⟩]) (wB.view.writes (Elt F) wB.view.junk [⟨Rect.whole S1024x1024, wA.view.read (Elt F) WA⟩])
      (pB.view.writes (Elt F) pB.view.junk [⟨Rect.whole S1x1024, pA.view.read (Elt F) PA⟩]) = fun b => held c (rows oA b) (outY c X XF XB XR GA WA PA) := by
    funext b
    exact congrArg (fun f => held c (rows oA b) f) hO
  rw [hD, hO]
  iapply Hk
  isplitl [HGA HWA HPA HG HWt HP H13 H14 H15 HX HF HB HR HW]
  · isplitl [HGA HWA HPA]
    · isplitl [HGA]; · iexact HGA
      isplitl [HWA]; · iexact HWA
      iexact HPA
    isplitl [HG HWt HP]
    · isplitl [HG]; · iexists _; iexact HG
      isplitl [HWt]; · iexists _; iexact HWt
      iexists _; iexact HP
    isplitl [H13 H14 H15]
    · isplitl [H13]; · iexact H13
      isplitl [H14]; · iexact H14
      iexact H15
    isplitl [HX HF HB HR]
    · isplitl [HX]; · iapply (read_end (inCell (F := F) c cc0_scoped1) (inSlot c xB) (inHome c xA X) (xFl c X)); iexact HX
      isplitl [HF]; · iapply (read_end (inCell (F := F) c cc0_scoped3) (inSlot c fB) (inHome c fA XF) (fFl c XF)); iexact HF
      isplitl [HB]; · iapply (read_end (inCell (F := F) c cc0_scoped5) (inSlot c bB) (inHome c bA XB) (bFl c XB)); iexact HB
      iapply (read_end (inCell (F := F) c cc0_scoped7) (inSlot c rB) (inHome c rA XR) (rFl c XR))
      iexact HR
    iexists _; iexact HW
  iapply (of_eq (Ring.AtB21_epilogue' (outFree (F := F) c) (fun b => held c (rows oA b) (outY c X XF XB XR GA WA PA)) 32 rfl (by decide)).symm)
  isplitl [HL_dst Ob]
  · isplitl [HL_dst]; · iexact HL_dst
    iexact Ob
  isplitl [Of]; · iexact Of
  isplitl [HL]; · iexact HL
  iexists _; iexact HL_src

end Body

end Cert.OddOut

end
-- ==== Proof.Launch.lean ====
/-
  The launch: the arrays, the scratch buffers and the semaphores as the kernel is given them are the pieces its run is stated
  over, and back; so the whole program runs, the arguments stay and the output array ends at the computed contents.
-/
module

public import proofs.«01_k».proof.Proof.Body
public import proofs.«01_k».proof.Proof.Gen.KernelIdeal.Frame
public import Idealize.ShloMosaic.Lib.Pipeline.KitQuiescent

@[expose] public section

noncomputable section

namespace Cert.OddOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## Element sets: row blocks, slots -/

abbrev rowSet (b : Fin 32) : Finset S32768x1024.Idx := (Rect.unit (s := S32768x1024) (rowOff b) S1024x1024.size (rowOff_inb b)).set
abbrev set3 (s : Fin 3) : Finset S3x1024x1024.Idx := (Rect.unit (s := S3x1024x1024) (slot3Off s) S1x1024x1024.size (slot3Off_inb s)).set
abbrev set2 (s : Fin 2) : Finset S2x1024x1024.Idx := (Rect.unit (s := S2x1024x1024) (slot2Off s) S1x1024x1024.size (slot2Off_inb s)).set

theorem mem_rowSet (b : Fin 32) (y : S32768x1024.Idx) : y ∈ rowSet b ↔ (y 0).val / 1024 = b.val := by
  rw [Rect.mem_set_unit]
  have h1 : (y 1).val < 1024 := (y 1).isLt
  constructor
  · intro H; have a0 : b.val * 1024 ≤ (y 0).val ∧ (y 0).val < b.val * 1024 + 1024 := H 0; omega
  · intro H i; fin_cases i
    · show b.val * 1024 ≤ (y 0).val ∧ (y 0).val < b.val * 1024 + 1024; omega
    · show 0 ≤ (y 1).val ∧ (y 1).val < 0 + 1024; omega
theorem mem_set3 (s : Fin 3) (y : S3x1024x1024.Idx) : y ∈ set3 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem mem_set2 (s : Fin 2) (y : S2x1024x1024.Idx) : y ∈ set2 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega

/-- Sets told apart by a number are disjoint; where every element has one, they cover. -/
theorem disjoint_of_key {α : Type} [DecidableEq α] {n : ℕ} (I : Fin n → Finset α) (key : α → ℕ) (h : ∀ b y, y ∈ I b ↔ key y = b.val) :
    ∀ b b' : Fin n, b ≠ b' → Disjoint (I b) (I b') := by
  intro b b' hne; rw [Finset.disjoint_left]; intro y hy hy'; rw [h] at hy hy'; exact hne (Fin.ext (hy.symm.trans hy'))
theorem cover_of_key {α : Type} [DecidableEq α] [Fintype α] {n : ℕ} (I : Fin n → Finset α) (key : α → ℕ) (h : ∀ b y, y ∈ I b ↔ key y = b.val)
    (hk : ∀ y, key y < n) : (Finset.univ : Finset (Fin n)).biUnion I = Finset.univ := by
  ext y; simp only [Finset.mem_biUnion, Finset.mem_univ, true_and, iff_true]; exact ⟨⟨key y, hk y⟩, by rw [h]⟩

theorem rowSet_disjoint : ∀ b b', b ≠ b' → Disjoint (rowSet b) (rowSet b') := disjoint_of_key rowSet _ mem_rowSet
theorem rowSet_cover : (Finset.univ : Finset (Fin 32)).biUnion rowSet = Finset.univ :=
  cover_of_key rowSet _ mem_rowSet fun y => by have h : (y 0).val < 32768 := (y 0).isLt; omega
theorem set3_disjoint : ∀ b b', b ≠ b' → Disjoint (set3 b) (set3 b') := disjoint_of_key set3 _ mem_set3
theorem set3_cover : (Finset.univ : Finset (Fin 3)).biUnion set3 = Finset.univ := cover_of_key set3 _ mem_set3 fun y => (y 0).isLt
theorem set2_disjoint : ∀ b b', b ≠ b' → Disjoint (set2 b) (set2 b') := disjoint_of_key set2 _ mem_set2
theorem set2_cover : (Finset.univ : Finset (Fin 2)).biUnion set2 = Finset.univ := cover_of_key set2 _ mem_set2 fun y => (y 0).isLt

section Split
variable {t : EltTy} (c : Dev nD)

/-- An array whole is its row blocks; -/
theorem whole_eq (A : Memref sig .tc .hbm S32768x1024 t) (f : Buf (Elt F) (A.view.loc (c : Thread nD τ)))
    (I : Fin 32 → Finset (Idx (A.view.loc (c : Thread nD τ)))) (hI : ∀ b, (rows A b).view.set = I b)
    (hd : ∀ b b', b ≠ b' → Disjoint (I b) (I b')) (hc : Finset.univ.biUnion I = Finset.univ) :
    (A.view.loc (c : Thread nD τ) ↦{fullShare} f : sProp 𝕄) = bigSep Finset.univ fun b => held c (rows A b) f := by
  rw [Ring.pointsTo_blocks I hd hc]
  exact bigSep_congr fun b _ => by rw [← hI]; rfl
/-- a buffer at some contents is its slots at some contents, three or two, and back. -/
theorem split3 (M : Memref sig .tc .vmem S3x1024x1024 t)
    (I : Fin 3 → Finset (Idx (M.view.loc (c : Thread nD τ)))) (hI : ∀ s, (slot3 M s).view.set = I s)
    (hd : ∀ b b', b ≠ b' → Disjoint (I b) (I b')) (hc : Finset.univ.biUnion I = Finset.univ) :
    iprop(∃ f : Buf (Elt F) (M.view.loc (c : Thread nD τ)), M.view.loc (c : Thread nD τ) ↦{fullShare} f)
      ⊢ (bigSep Finset.univ fun s => iprop(∃ f, inSlot c M s f) : sProp 𝕄) := by
  iintro ⟨%f, H⟩
  ihave H2 := (of_eq (Ring.pointsTo_blocks (Ix := Unit) (Name := ℕ) (U := UU nD τ) (Lvl := ℕ) (q := fullShare) I hd hc f)) $$ H
  irw [Ring.bigSep_fin3]
  ihave H3 := (of_eq (Ring.bigSep_fin3 _)) $$ H2
  icases H3 with ⟨H0, H1, H2⟩
  isplitl [H0]
  · iexists f; iapply (of_eq (congrArg (fun S => (_ ↦[S]{fullShare} f : sProp 𝕄)) (hI 0)).symm); iexact H0
  isplitl [H1]
  · iexists f; iapply (of_eq (congrArg (fun S => (_ ↦[S]{fullShare} f : sProp 𝕄)) (hI 1)).symm); iexact H1
  iexists f; iapply (of_eq (congrArg (fun S => (_ ↦[S]{fullShare} f : sProp 𝕄)) (hI 2)).symm); iexact H2
theorem join3 (M : Memref sig .tc .vmem S3x1024x1024 t)
    (I : Fin 3 → Finset (Idx (M.view.loc (c : Thread nD τ)))) (hI : ∀ s, (slot3 M s).view.set = I s)
    (hd : ∀ b b', b ≠ b' → Disjoint (I b) (I b')) (hc : Finset.univ.biUnion I = Finset.univ) :
    (bigSep Finset.univ fun s => iprop(∃ f, inSlot c M s f) : sProp 𝕄)
      ⊢ iprop(∃ f : Buf (Elt F) (M.view.loc (c : Thread nD τ)), M.view.loc (c : Thread nD τ) ↦{fullShare} f) := by
  rw [Ring.bigSep_fin3]
  iintro ⟨⟨%f0, H0⟩, ⟨%f1, H1⟩, ⟨%f2, H2⟩⟩
  iapply (Ring.pointsTo_blocks_join_exists (ℓ := M.view.loc (c : Thread nD τ)) I hd hc f0)
  irw [Ring.bigSep_fin3]
  isplitl [H0]
  · iexists f0; iapply (of_eq (congrArg (fun S => (_ ↦[S]{fullShare} f0 : sProp 𝕄)) (hI 0))); iexact H0
  isplitl [H1]
  · iexists f1; iapply (of_eq (congrArg (fun S => (_ ↦[S]{fullShare} f1 : sProp 𝕄)) (hI 1))); iexact H1
  iexists f2; iapply (of_eq (congrArg (fun S => (_ ↦[S]{fullShare} f2 : sProp 𝕄)) (hI 2))); iexact H2
theorem split2 (M : Memref sig .tc .vmem S2x1024x1024 t)
    (I : Fin 2 → Finset (Idx (M.view.loc (c : Thread nD τ)))) (hI : ∀ s, (slot2 M s).view.set = I s)
    (hd : ∀ b b', b ≠ b' → Disjoint (I b) (I b')) (hc : Finset.univ.biUnion I = Finset.univ) :
    iprop(∃ f : Buf (Elt F) (M.view.loc (c : Thread nD τ)), M.view.loc (c : Thread nD τ) ↦{fullShare} f)
      ⊢ (bigSep Finset.univ fun s => iprop(∃ f, held c (slot2 M s) f) : sProp 𝕄) := by
  iintro ⟨%f, H⟩
  ihave H2 := (of_eq (Ring.pointsTo_blocks (Ix := Unit) (Name := ℕ) (U := UU nD τ) (Lvl := ℕ) (q := fullShare) I hd hc f)) $$ H
  irw [Ring.bigSep_fin2]
  ihave H3 := (of_eq (Ring.bigSep_fin2 _)) $$ H2
  icases H3 with ⟨H0, H1⟩
  isplitl [H0]
  · iexists f; iapply (of_eq (congrArg (fun S => (_ ↦[S]{fullShare} f : sProp 𝕄)) (hI 0)).symm); iexact H0
  iexists f; iapply (of_eq (congrArg (fun S => (_ ↦[S]{fullShare} f : sProp 𝕄)) (hI 1)).symm); iexact H1
theorem join2 (M : Memref sig .tc .vmem S2x1024x1024 t)
    (I : Fin 2 → Finset (Idx (M.view.loc (c : Thread nD τ)))) (hI : ∀ s, (slot2 M s).view.set = I s)
    (hd : ∀ b b', b ≠ b' → Disjoint (I b) (I b')) (hc : Finset.univ.biUnion I = Finset.univ) :
    (bigSep Finset.univ fun s => iprop(∃ f, held c (slot2 M s) f) : sProp 𝕄)
      ⊢ iprop(∃ f : Buf (Elt F) (M.view.loc (c : Thread nD τ)), M.view.loc (c : Thread nD τ) ↦{fullShare} f) := by
  rw [Ring.bigSep_fin2]
  iintro ⟨⟨%f0, H0⟩, ⟨%f1, H1⟩⟩
  iapply (Ring.pointsTo_blocks_join_exists (ℓ := M.view.loc (c : Thread nD τ)) I hd hc f0)
  irw [Ring.bigSep_fin2]
  isplitl [H0]
  · iexists f0; iapply (of_eq (congrArg (fun S => (_ ↦[S]{fullShare} f0 : sProp 𝕄)) (hI 0))); iexact H0
  iexists f1; iapply (of_eq (congrArg (fun S => (_ ↦[S]{fullShare} f1 : sProp 𝕄)) (hI 1))); iexact H1
end Split

section Rest
variable {M : Type _} [URA M] {NB : ℕ}

/-- A read ring at rest from its blocks, its semaphores and its slots, and back; -/
theorem rest_in {C : Fin 3 → Type _} (cell : Fin 3 → sProp M) (slot : (s : Fin 3) → C s → sProp M) (home : Fin NB → sProp M) :
    iprop(bigSep Finset.univ home ∗ (cell 0 ∗ cell 1 ∗ cell 2) ∗ bigSep Finset.univ fun s => iprop(∃ f, slot s f)) ⊢ Ring.At₀ cell slot home := by
  unfold Ring.At₀
  rw [Ring.bigSep_fin3, Ring.bigSep_fin3]
  iintro ⟨Hh, ⟨C0, C1, C2⟩, S0, S1, S2⟩
  isplitl [Hh]; · iexact Hh
  isplitl [C0 S0]
  · isplitl [C0]; · iexact C0
    iexact S0
  isplitl [C1 S1]
  · isplitl [C1]; · iexact C1
    iexact S1
  isplitl [C2]; · iexact C2
  iexact S2
theorem rest_out {C : Fin 3 → Type _} (cell : Fin 3 → sProp M) (slot : (s : Fin 3) → C s → sProp M) (home : Fin NB → sProp M) :
    Ring.At₀ cell slot home ⊢ iprop(bigSep Finset.univ home ∗ (cell 0 ∗ cell 1 ∗ cell 2) ∗ bigSep Finset.univ fun s => iprop(∃ f, slot s f)) := by
  unfold Ring.At₀
  rw [Ring.bigSep_fin3, Ring.bigSep_fin3]
  iintro ⟨Hh, ⟨C0, S0⟩, ⟨C1, S1⟩, C2, S2⟩
  isplitl [Hh]; · iexact Hh
  isplitl [C0 C1 C2]
  · isplitl [C0]; · iexact C0
    isplitl [C1]; · iexact C1
    iexact C2
  isplitl [S0]; · iexact S0
  isplitl [S1]; · iexact S1
  iexact S2
/-- the write ring's free slots likewise. -/
theorem free_in {C : Fin 2 → Type _} (cell : Fin 2 → sProp M) (slot : (s : Fin 2) → C s → sProp M) :
    iprop((cell 0 ∗ cell 1) ∗ bigSep Finset.univ fun s => iprop(∃ f, slot s f)) ⊢ bigSep Finset.univ fun s => iprop(cell s ∗ ∃ f, slot s f) := by
  rw [Ring.bigSep_fin2, Ring.bigSep_fin2]
  iintro ⟨⟨C0, C1⟩, S0, S1⟩
  isplitl [C0 S0]
  · isplitl [C0]; · iexact C0
    iexact S0
  isplitl [C1]; · iexact C1
  iexact S1
theorem free_out {C : Fin 2 → Type _} (cell : Fin 2 → sProp M) (slot : (s : Fin 2) → C s → sProp M) :
    (bigSep Finset.univ fun s => iprop(cell s ∗ ∃ f, slot s f)) ⊢ iprop((cell 0 ∗ cell 1) ∗ bigSep Finset.univ fun s => iprop(∃ f, slot s f)) := by
  rw [Ring.bigSep_fin2, Ring.bigSep_fin2]
  iintro ⟨⟨C0, S0⟩, C1, S1⟩
  isplitl [C0 C1]
  · isplitl [C0]; · iexact C0
    iexact C1
  isplitl [S0]; · iexact S0
  iexact S1
/-- A block held at known contents is held at some. -/
theorem some_of_known {C : Fin NB → Type _} (P : (b : Fin NB) → C b → sProp M) (f : (b : Fin NB) → C b) :
    (bigSep Finset.univ fun b => P b (f b)) ⊢ bigSep Finset.univ fun b => iprop(∃ f, P b f) :=
  bigSep_mono fun b _ => show P b (f b) ⊢ iprop(∃ f, P b f) from by iintro H; iexists f b; iexact H
end Rest

/-! ## The kernel's own semaphores -/

abbrev osem : Fin 17 → SemLoc sig := fun j => .dma j
theorem ownSemFacts : Pipeline.OwnSemFacts (cfg0.spec) osem := by decide

theorem ownSems0_eq (c : Dev nD) : (Pipeline.ownSems0 (Ix := Unit) (Name := ℕ) (U := UU nD τ) (Lvl := ℕ) (Val := Elt F) (τ := τ) osem c : sProp 𝕄)
    = iprop(inCell (F := F) c cc0_scoped1 0 ∗ inCell (F := F) c cc0_scoped1 1 ∗ inCell (F := F) c cc0_scoped1 2
      ∗ inCell (F := F) c cc0_scoped3 0 ∗ inCell (F := F) c cc0_scoped3 1 ∗ inCell (F := F) c cc0_scoped3 2
      ∗ inCell (F := F) c cc0_scoped5 0 ∗ inCell (F := F) c cc0_scoped5 1 ∗ inCell (F := F) c cc0_scoped5 2
      ∗ inCell (F := F) c cc0_scoped7 0 ∗ inCell (F := F) c cc0_scoped7 1 ∗ inCell (F := F) c cc0_scoped7 2
      ∗ cell0 (F := F) c (cell2 cc0_scoped12 0) ∗ cell0 (F := F) c (cell2 cc0_scoped12 1)
      ∗ cell0 (F := F) c cc0_scoped13 ∗ cell0 (F := F) c cc0_scoped14 ∗ cell0 (F := F) c cc0_scoped15) := by
  unfold Pipeline.ownSems0
  rw [bigSep_univ_eq_bigSepL [(0 : Fin 17), 1, 2, 3, 4, 5, 6, 7, 8, 9, 10, 11, 12, 13, 14, 15, 16] (by decide) (by decide)]
  rfl

/-! ## Into the kernel's run and out of it -/

section Run
variable (m : (ℓ : Loc nD τ sig) → Buf (Elt F) ℓ) (ρ : Dev nD → PrngReg)

/-- The pieces at rest before and after the run, the output and its ring apart. -/
def idle (c : Dev nD) : sProp 𝕄 :=
  iprop((held c gA (V m c main_v1) ∗ held c wA (V m c main_v0) ∗ held c pA (V m c main_v2))
    ∗ ((∃ g, held c gB g) ∗ (∃ w, held c wB w) ∗ ∃ p, held c pB p)
    ∗ (cell0 (F := F) c cc0_scoped13 ∗ cell0 (F := F) c cc0_scoped14 ∗ cell0 (F := F) c cc0_scoped15)
    ∗ (restX c (V m c main_arg0) ∗ restF c (V m c main_arg1) ∗ restB c (V m c main_arg2) ∗ restR c (V m c main_arg3)))

/-- What the program leaves in the output array. -/
def out (c : Dev nD) : Buf (Elt F) (oA.view.loc (c : Thread nD τ)) :=
  outY c (V m c main_arg0) (V m c main_arg1) (V m c main_arg2) (V m c main_arg3) (V m c main_v1) (V m c main_v0) (V m c main_v2)

def before (c : Dev nD) : sProp 𝕄 := iprop(idle m c ∗ Ring.AtB₀ (outFree (F := F) c) (outAhead (F := F) c))
def behind (c : Dev nD) : sProp 𝕄 := iprop(idle m c ∗ Ring.AtBEnd (outFree (F := F) c) (fun b => held c (rows oA b) (out m c)))

/-- What of the arrays the kernel takes, and what it gives back. -/
def given (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_v0) ↦{fullShare} V m c main_v0) ∗ (((c : Thread nD τ).loc main_v1) ↦{fullShare} V m c main_v1)
    ∗ (((c : Thread nD τ).loc main_v2) ↦{fullShare} V m c main_v2))
def kept (c : Dev nD) : sProp 𝕄 :=
  iprop((((c : Thread nD τ).loc main_arg4) ↦{fullShare} V m c main_arg4) ∗ (((c : Thread nD τ).loc main_arg5) ↦{fullShare} V m c main_arg5)
    ∗ (((c : Thread nD τ).loc main_arg6) ↦{fullShare} V m c main_arg6))

theorem xA_set (b : Fin 32) : (rows xA b).view.set = rowSet b := View.set_slice_whole _ _
theorem fA_set (b : Fin 32) : (rows fA b).view.set = rowSet b := View.set_slice_whole _ _
theorem bA_set (b : Fin 32) : (rows bA b).view.set = rowSet b := View.set_slice_whole _ _
theorem rA_set (b : Fin 32) : (rows rA b).view.set = rowSet b := View.set_slice_whole _ _
theorem oA_set (b : Fin 32) : (rows oA b).view.set = rowSet b := View.set_slice_whole _ _
theorem xB_set (s : Fin 3) : (slot3 xB s).view.set = set3 s := (View.set_reshape _ _).trans (View.set_slice_whole _ _)
theorem fB_set (s : Fin 3) : (slot3 fB s).view.set = set3 s := (View.set_reshape _ _).trans (View.set_slice_whole _ _)
theorem bB_set (s : Fin 3) : (slot3 bB s).view.set = set3 s := (View.set_reshape _ _).trans (View.set_slice_whole _ _)
theorem rB_set (s : Fin 3) : (slot3 rB s).view.set = set3 s := (View.set_reshape _ _).trans (View.set_slice_whole _ _)
theorem oB_set (s : Fin 2) : (slot2 oB s).view.set = set2 s := (View.set_reshape _ _).trans (View.set_slice_whole _ _)

/-- A whole array or buffer held as a block is that array held. -/
theorem held_whole {sp : Space} {s : Shape} {t : EltTy} (c : Dev nD) (M : Memref sig .tc sp s t) (h : M.view.set = Finset.univ) (f : Buf (Elt F) (M.view.loc (c : Thread nD τ))) :
    (held c M f : sProp 𝕄) = (M.view.loc (c : Thread nD τ) ↦{fullShare} f) := by unfold held; rw [h]

/-- The arrays, the semaphores and the scratch buffers make up what the run starts from; -/
theorem enter (c : Dev nD) :
    iprop((given m c ∗ (∃ o : Buf (Elt F) ((c : Thread nD τ).loc main_v3), ((c : Thread nD τ).loc main_v3) ↦{fullShare} o) ∗ Pipeline.ownSems0 osem c) ∗ Pipeline.scopedRest (cfg0.spec) c) ⊢ before m c := by
  rw [scopedRest0_eq, ownSems0_eq]
  unfold given before idle
  iintro ⟨⟨⟨A0, A1, A2, A3, V0, V1, V2⟩, ⟨%o, V3⟩, X0, X1, X2, F0, F1, F2, B0, B1, B2, R0, R1, R2, O0, O1, C13, C14, C15⟩, BX, BF, BB, BR, ⟨%g, BG⟩, ⟨%w, BW⟩, ⟨%p, BP⟩, BO⟩
  isplitr [V3 BO O0 O1]
  · isplitl [V0 V1 V2]
    · isplitl [V1]; · iapply (of_eq (held_whole c gA (View.set_whole _) _).symm); iexact V1
      isplitl [V0]; · iapply (of_eq (held_whole c wA (View.set_whole _) _).symm); iexact V0
      iapply (of_eq (held_whole c pA (View.set_whole _) _).symm); iexact V2
    isplitl [BG BW BP]
    · isplitl [BG]; · iexists g; iapply (of_eq (held_whole c gB (View.set_whole _) _).symm); iexact BG
      isplitl [BW]; · iexists w; iapply (of_eq (held_whole c wB (View.set_whole _) _).symm); iexact BW
      iexists p; iapply (of_eq (held_whole c pB (View.set_whole _) _).symm); iexact BP
    isplitl [C13 C14 C15]
    · isplitl [C13]; · iexact C13
      isplitl [C14]; · iexact C14
      iexact C15
    isplitl [A0 X0 X1 X2 BX]
    · iapply (rest_in (inCell (F := F) c cc0_scoped1) (inSlot c xB) (inHome c xA (V m c main_arg0)))
      isplitl [A0]; · iapply (of_eq (whole_eq c xA (V m c main_arg0) rowSet xA_set rowSet_disjoint rowSet_cover)); iexact A0
      isplitl [X0 X1 X2]
      · isplitl [X0]; · iexact X0
        isplitl [X1]; · iexact X1
        iexact X2
      iapply (split3 c xB set3 xB_set set3_disjoint set3_cover); iexact BX
    isplitl [A1 F0 F1 F2 BF]
    · iapply (rest_in (inCell (F := F) c cc0_scoped3) (inSlot c fB) (inHome c fA (V m c main_arg1)))
      isplitl [A1]; · iapply (of_eq (whole_eq c fA (V m c main_arg1) rowSet fA_set rowSet_disjoint rowSet_cover)); iexact A1
      isplitl [F0 F1 F2]
      · isplitl [F0]; · iexact F0
        isplitl [F1]; · iexact F1
        iexact F2
      iapply (split3 c fB set3 fB_set set3_disjoint set3_cover); iexact BF
    isplitl [A2 B0 B1 B2 BB]
    · iapply (rest_in (inCell (F := F) c cc0_scoped5) (inSlot c bB) (inHome c bA (V m c main_arg2)))
      isplitl [A2]; · iapply (of_eq (whole_eq c bA (V m c main_arg2) rowSet bA_set rowSet_disjoint rowSet_cover)); iexact A2
      isplitl [B0 B1 B2]
      · isplitl [B0]; · iexact B0
        isplitl [B1]; · iexact B1
        iexact B2
      iapply (split3 c bB set3 bB_set set3_disjoint set3_cover); iexact BB
    iapply (rest_in (inCell (F := F) c cc0_scoped7) (inSlot c rB) (inHome c rA (V m c main_arg3)))
    isplitl [A3]; · iapply (of_eq (whole_eq c rA (V m c main_arg3) rowSet rA_set rowSet_disjoint rowSet_cover)); iexact A3
    isplitl [R0 R1 R2]
    · isplitl [R0]; · iexact R0
      isplitl [R1]; · iexact R1
      iexact R2
    iapply (split3 c rB set3 rB_set set3_disjoint set3_cover); iexact BR
  irw [show Ring.AtB₀ (outFree (F := F) c) (outAhead (F := F) c) = iprop(bigSep Finset.univ (outAhead (F := F) c) ∗ bigSep Finset.univ (outFree (F := F) c)) from rfl]
  isplitl [V3]
  · iapply (some_of_known (fun b f => held c (rows oA b) f) (fun _ => o))
    iapply (of_eq (whole_eq c oA o rowSet oA_set rowSet_disjoint rowSet_cover)); iexact V3
  iapply (free_in (fun s => cell0 (F := F) c (cell2 cc0_scoped12 s)) (fun s f => held c (slot2 oB s) f))
  isplitl [O0 O1]
  · isplitl [O0]; · iexact O0
    iexact O1
  iapply (split2 c oB set2 oB_set set2_disjoint set2_cover); iexact BO
/-- and what it ends with gives them back, the output at the computed contents. -/
theorem leave (c : Dev nD) :
    behind m c ⊢ iprop((given m c ∗ ((c : Thread nD τ).loc main_v3) ↦{fullShare} out m c) ∗ Pipeline.ownSems0 osem c ∗ Pipeline.scopedRest (cfg0.spec) c) := by
  rw [scopedRest0_eq, ownSems0_eq]
  unfold given behind idle
  rw [show Ring.AtBEnd (outFree (F := F) c) (fun b => held c (rows oA b) (out m c)) = iprop(bigSep Finset.univ (fun b => held c (rows oA b) (out m c)) ∗ bigSep Finset.univ (outFree (F := F) c)) from rfl]
  iintro ⟨⟨⟨V1, V0, V2⟩, ⟨⟨%g, BG⟩, ⟨%w, BW⟩, ⟨%p, BP⟩⟩, ⟨C13, C14, C15⟩, HX, HF, HB, HR⟩, V3, HO⟩
  ihave HX := (rest_out (inCell (F := F) c cc0_scoped1) (inSlot c xB) (inHome c xA (V m c main_arg0))) $$ HX
  icases HX with ⟨A0, ⟨X0, X1, X2⟩, BX⟩
  ihave HF := (rest_out (inCell (F := F) c cc0_scoped3) (inSlot c fB) (inHome c fA (V m c main_arg1))) $$ HF
  icases HF with ⟨A1, ⟨F0, F1, F2⟩, BF⟩
  ihave HB := (rest_out (inCell (F := F) c cc0_scoped5) (inSlot c bB) (inHome c bA (V m c main_arg2))) $$ HB
  icases HB with ⟨A2, ⟨B0, B1, B2⟩, BB⟩
  ihave HR := (rest_out (inCell (F := F) c cc0_scoped7) (inSlot c rB) (inHome c rA (V m c main_arg3))) $$ HR
  icases HR with ⟨A3, ⟨R0, R1, R2⟩, BR⟩
  ihave HO := (free_out (fun s => cell0 (F := F) c (cell2 cc0_scoped12 s)) (fun s f => held c (slot2 oB s) f)) $$ HO
  icases HO with ⟨⟨O0, O1⟩, BO⟩
  isplitl [A0 A1 A2 A3 V0 V1 V2 V3]
  · isplitr [V3]
    · isplitl [A0]; · iapply (of_eq (whole_eq c xA (V m c main_arg0) rowSet xA_set rowSet_disjoint rowSet_cover).symm); iexact A0
      isplitl [A1]; · iapply (of_eq (whole_eq c fA (V m c main_arg1) rowSet fA_set rowSet_disjoint rowSet_cover).symm); iexact A1
      isplitl [A2]; · iapply (of_eq (whole_eq c bA (V m c main_arg2) rowSet bA_set rowSet_disjoint rowSet_cover).symm); iexact A2
      isplitl [A3]; · iapply (of_eq (whole_eq c rA (V m c main_arg3) rowSet rA_set rowSet_disjoint rowSet_cover).symm); iexact A3
      isplitl [V0]; · iapply (of_eq (held_whole c wA (View.set_whole _) _)); iexact V0
      isplitl [V1]; · iapply (of_eq (held_whole c gA (View.set_whole _) _)); iexact V1
      iapply (of_eq (held_whole c pA (View.set_whole _) _)); iexact V2
    iapply (of_eq (whole_eq c oA (out m c) rowSet oA_set rowSet_disjoint rowSet_cover).symm); iexact V3
  isplitl [X0 X1 X2 F0 F1 F2 B0 B1 B2 R0 R1 R2 O0 O1 C13 C14 C15]
  · isplitl [X0]; · iexact X0
    isplitl [X1]; · iexact X1
    isplitl [X2]; · iexact X2
    isplitl [F0]; · iexact F0
    isplitl [F1]; · iexact F1
    isplitl [F2]; · iexact F2
    isplitl [B0]; · iexact B0
    isplitl [B1]; · iexact B1
    isplitl [B2]; · iexact B2
    isplitl [R0]; · iexact R0
    isplitl [R1]; · iexact R1
    isplitl [R2]; · iexact R2
    isplitl [O0]; · iexact O0
    isplitl [O1]; · iexact O1
    isplitl [C13]; · iexact C13
    isplitl [C14]; · iexact C14
    iexact C15
  isplitl [BX]; · iapply (join3 c xB set3 xB_set set3_disjoint set3_cover); iexact BX
  isplitl [BF]; · iapply (join3 c fB set3 fB_set set3_disjoint set3_cover); iexact BF
  isplitl [BB]; · iapply (join3 c bB set3 bB_set set3_disjoint set3_cover); iexact BB
  isplitl [BR]; · iapply (join3 c rB set3 rB_set set3_disjoint set3_cover); iexact BR
  isplitl [BG]; · iexists g; iapply (of_eq (held_whole c gB (View.set_whole _) _)); iexact BG
  isplitl [BW]; · iexists w; iapply (of_eq (held_whole c wB (View.set_whole _) _)); iexact BW
  isplitl [BP]; · iexists p; iapply (of_eq (held_whole c pB (View.set_whole _) _)); iexact BP
  iapply (join2 c oB set2 oB_set set2_disjoint set2_cover); iexact BO

/-! ## The pipeline's proof data: one point, no window -/

def dats (_ : Fin 1) (c : Dev nD) : Dat τ (Elt F) Unit ℕ (UU nD τ) ℕ cfg0 c where
  A w := w.elim0
  after w _ := w.elim0
  Φ k := if k.val = 0 then before m c else behind m c
  q _ := fullShare
  owed _ := 0

theorem body_row (t : Fin cfg0.N) : defs₀ (F := F) .tc cfg0.body (cfg0.bodyArgs t (cfg0.slots t)) = bodyAt0 t := by
  unfold defs₀; rw [Defs.onTc_tc]

/-- The run as the pipeline asks for it. -/
theorem body_obligation (c : Dev nD) : BodyObligation (dats (F := F) m 0 c) (defs₀ (F := F)) 𝒱₀ () Set.univ := fun t => by
  have ht : t.val = 0 := by have := t.isLt; have h : cfg0.N = 1 := N_0; omega
  rw [body_row]
  rw [show (dats m 0 c).Φ t.castSucc = before m c from if_pos ht, show (dats m 0 c).Φ t.succ = behind m c from (if_neg (Nat.succ_ne_zero t.val) : (if t.val + 1 = 0 then before m c else behind m c) = behind m c)]
  rw [show (Finset.univ : Finset (Fin cfg0.W)) = ∅ from rfl, bigSep_empty, bigSep_empty]
  unfold Dat.owesAt Pipeline.owesWithin
  rw [show (dats m 0 c).owed t.castSucc = 0 from rfl, show (dats m 0 c).owed t.succ = 0 from rfl]
  unfold before behind idle
  iintro ⟨⟨⟨HA, HS, HC, HR⟩, HO⟩, ⟨%W, -, HW⟩, -⟩
  iapply (bodyRun c (V m c main_arg0) (V m c main_arg1) (V m c main_arg2) (V m c main_arg3) (V m c main_v1) (V m c main_v0) (V m c main_v2) t)
  isplitl [HA HS HC HR HO HW]
  · isplitr [HO]
    · isplitl [HA]; · iexact HA
      isplitl [HS]; · iexact HS
      isplitl [HC]; · iexact HC
      isplitl [HR]; · iexact HR
      iexists W; iexact HW
    iexact HO
  iintro ⟨⟨HA, HS, HC, HR, ⟨%W', HW⟩⟩, HO⟩
  isplitr [HW]
  · isplitr [HO]
    · isplitl [HA]; · iexact HA
      isplitl [HS]; · iexact HS
      isplitl [HC]; · iexact HC
      iexact HR
    iexact HO
  isplitl [HW]
  · iexists W'; isplitr; · ipureintro; exact fun _ _ => Or.inl trivial
    iexact HW
  iempintro

/-! ## The run -/

def u₀ : UU nD τ := (initOf (Pipeline.cells cfgs Cert.KernelIdeal.Gen.cellOf_inj) (Pipeline.launchToks cfgs Cert.KernelIdeal.Gen.cellOf_inj), 1)

/-- What a final memory is: the arguments as they were, the output at the computed contents. -/
def Ends (c : Dev nD) (s : MemSt nD τ sig (Elt F)) : Prop :=
  s.mem ((c : Thread nD τ).loc main_v3) = out m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

set_option backward.isDefEq.respectTransparency.types false in
/-- For any float values, from any memory with zero counters: every execution ends, the output array at the computed contents,
    the arguments as they were, every semaphore at zero. -/
theorem run_main : θ_run defs (onTc (τ := τ) (main (F := F))) ⟨m, fun _ => 0, ρ⟩ (fun r => (∀ c, Ends m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun _ w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := fun c => iprop(given m c ∗ (∃ o : Buf (Elt F) ((c : Thread nD τ).loc main_v3), ((c : Thread nD τ).loc main_v3) ↦{fullShare} o) ∗ Pipeline.ownSems0 osem c))
    (Y := fun c => iprop(given m c ∗ ((c : Thread nD τ).loc main_v3) ↦{fullShare} out m c)) (Z := kept m)
    (hX := fun c => by
      rw [unscopedRest0_eq]
      unfold given kept
      iintro ⟨⟨A0, A1, A2, A3, A4, A5, A6, V0, V1, V2, V3⟩, HS, -, -, -⟩; imodintro
      isplitr [A4 A5 A6]
      · isplitl [A0 A1 A2 A3 V0 V1 V2]
        · isplitl [A0]; · iexact A0
          isplitl [A1]; · iexact A1
          isplitl [A2]; · iexact A2
          isplitl [A3]; · iexact A3
          isplitl [V0]; · iexact V0
          isplitl [V1]; · iexact V1
          iexact V2
        isplitl [V3]; · iexists _; iexact V3
        iexact HS
      isplitl [A4]; · iexact A4
      isplitl [A5]; · iexact A5
      iexact A6)
    (hin := fun c => enter m c)
    (hout := fun c => leave m c)
    (QY := Ends m)
    (hY := fun c s' => by
      unfold given kept
      iintro ⟨⟨⟨A0, A1, A2, A3, -, -, -⟩, V3⟩, ⟨A4, A5, A6⟩, HSI⟩
      icombine HSI V3 gives %h
      icombine HSI A0 gives %h0
      icombine HSI A1 gives %h1
      icombine HSI A2 gives %h2
      icombine HSI A3 gives %h3
      icombine HSI A4 gives %h4
      icombine HSI A5 gives %h5
      icombine HSI A6 gives %h6
      imodintro
      isplitr
      · ipureintro
        exact ⟨Buf.eq_of_forall_mem_univ h, (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), (Buf.eq_of_forall_mem_univ h5).trans (V_main_arg5 m c),
          (Buf.eq_of_forall_mem_univ h6).trans (V_main_arg6 m c)⟩
      iexact HSI)
    (hQ := fun _ hh hz => ⟨fun c => (hh c).2, hz⟩)

end Run

end Cert.OddOut

end
-- ==== Proof.Value.lean ====
/-
  The value: at the extended reals, one row of the kernel's output block and one row of the reference are the same function of
  the row's inputs.
-/
module

public import proofs.«01_k».proof.Proof.Launch
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.OddOut

open Cert.KernelIdeal Cert.KernelIdeal.Gen
open Idealize.ShloMosaic Idealize.ShloMosaic.TcCoe

/-! ## One row -/

/-- Head `h` of a 1024-long row, element `k` of its 256, divided by the head's root mean square. -/
def head (o : Fin 1024 → EReal) (h : ℕ) (hh : h < 4) (k : Fin 256) : EReal :=
  o ⟨h * 256 + k.val, by have := k.isLt; omega⟩
    * Ideal.rsqrt (Ideal.div (∑ l : Fin 256, o ⟨h * 256 + l.val, by have := l.isLt; omega⟩ * o ⟨h * 256 + l.val, by have := l.isLt; omega⟩)
      (Ideal.ofBits .f32 0x43800000#32) + Ideal.ofBits .f32 0x358637BD#32)
/-- Element `j` of the row so divided head by head. -/
def heads (o : Fin 1024 → EReal) (j : Fin 1024) : EReal :=
  o j * Ideal.rsqrt (Ideal.div (∑ l : Fin 256, o ⟨j.val / 256 * 256 + l.val, by have := l.isLt; have := j.isLt; omega⟩
        * o ⟨j.val / 256 * 256 + l.val, by have := l.isLt; have := j.isLt; omega⟩)
      (Ideal.ofBits .f32 0x43800000#32) + Ideal.ofBits .f32 0x358637BD#32)
/-- The row scaled and gated. -/
def gated (o g r : Fin 1024 → EReal) (j : Fin 1024) : EReal := heads o j * g j * (r j * Ideal.div 1 (1 + Ideal.exp (-(r j))))
/-- The row projected. -/
def proj (y : Fin 1024 → EReal) (w : Fin 1024 → Fin 1024 → EReal) (j : Fin 1024) : EReal := ∑ k, y k * w k j
/-- The projected row divided by its root mean square, scaled and added to `x`. -/
def added (x q p : Fin 1024 → EReal) (j : Fin 1024) : EReal :=
  x j + q j * Ideal.rsqrt (Ideal.div (∑ k, q k * q k) (Ideal.ofBits .f32 0x44800000#32) + Ideal.ofBits .f32 0x358637BD#32) * p j
/-- The whole row. -/
def rowOut (x o r g : Fin 1024 → EReal) (w : Fin 1024 → Fin 1024 → EReal) (p : Fin 1024 → EReal) : Fin 1024 → EReal :=
  added x (proj (gated o g r) w) p

theorem head_eq (o : Fin 1024 → EReal) (h : ℕ) (hh : h < 4) (k : Fin 256) (j : Fin 1024) (e : j.val = h * 256 + k.val) : head o h hh k = heads o j := by
  have hk := k.isLt
  obtain ⟨j, hj⟩ := j
  dsimp only at e
  subst e
  have e1 : (h * 256 + k.val) / 256 = h := by omega
  unfold head heads
  simp only [e1]

/-! ## The kernel's row -/

section Kernel
variable (x : S1024x1024.Idx → Elt Ideal .f32) (f b r : S1024x1024.Idx → Elt Ideal .bf16) (g : FVec Ideal S1x1024 .f32) (w : FVec Ideal S1024x1024 .bf16)
  (p : FVec Ideal S1x1024 .f32)

/-- The two scan halves' sum, row `i`. -/
abbrev sumRow (i : Fin 1024) : Fin 1024 → EReal := fun j => f (ix2 i j) + b (ix2 i j)

theorem pay2_at (i : Fin 1024) (k : Fin 256) : k0_pay2 (up f) (up b) (ix2 i k) = head (sumRow f b i) 0 (by decide) k := by
  pointwise [k0_pay2, k0_pay1, up]
  unfold head sumRow
  simp only [Nat.zero_mul, Nat.zero_add]
theorem pay3_at (i : Fin 1024) (k : Fin 256) : k0_pay3 (up f) (up b) (ix2 i k) = head (sumRow f b i) 1 (by decide) k := by
  pointwise [k0_pay3, k0_pay1, up]
  unfold head sumRow
  simp only [Nat.one_mul]
theorem pay4_at (i : Fin 1024) (k : Fin 256) : k0_pay4 (up f) (up b) (ix2 i k) = head (sumRow f b i) 2 (by decide) k := by
  pointwise [k0_pay4, k0_pay1, up]
  rfl
theorem pay5_at (i : Fin 1024) (k : Fin 256) : k0_pay5 (up f) (up b) (ix2 i k) = sumRow f b i ⟨3 * 256 + k.val, by have := k.isLt; omega⟩ := by
  pointwise [k0_pay5, k0_pay1, up]
theorem pay6_at (i : Fin 1024) (k : Fin 256) : k0_pay6 (up f) (up b) (ix2 i k)
    = sumRow f b i ⟨3 * 256 + k.val, by have := k.isLt; omega⟩ * sumRow f b i ⟨3 * 256 + k.val, by have := k.isLt; omega⟩ := by
  pointwise [k0_pay6, k0_pay5, k0_pay1, up]

/-- The projected row, the four heads' parts given by what they are at the row. -/
theorem pay7_of (a₀ a₁ a₂ d e : FVec Ideal S1024x256 .f32) (o : Fin 1024 → EReal) (i j : Fin 1024)
    (h0 : ∀ k, a₀ (ix2 i k) = head o 0 (by decide) k) (h1 : ∀ k, a₁ (ix2 i k) = head o 1 (by decide) k) (h2 : ∀ k, a₂ (ix2 i k) = head o 2 (by decide) k)
    (hd : ∀ k : Fin 256, d (ix2 i k) = o ⟨3 * 256 + k.val, by have := k.isLt; omega⟩)
    (he : ∀ k : Fin 256, e (ix2 i k) = o ⟨3 * 256 + k.val, by have := k.isLt; omega⟩ * o ⟨3 * 256 + k.val, by have := k.isLt; omega⟩) :
    k0_pay7 a₀ a₁ a₂ d e (up r) g w (ix2 i j) = proj (gated o (fun j => g (ix2 0 j)) (fun j => r (ix2 i j))) (fun k j => w (ix2 k j)) j := by
  pointwise [k0_pay7, up]
  unfold proj gated
  refine Finset.sum_congr rfl fun k _ => ?_
  simp only [h0, h1, h2, hd, he, zero_sub]
  have hk := k.isLt
  congr 3
  split
  · exact head_eq o 0 (by decide) ⟨k.val, by omega⟩ k (by show k.val = 0 * 256 + k.val; omega)
  split
  · exact head_eq o 1 (by decide) ⟨k.val - 256, by omega⟩ k (by show k.val = 1 * 256 + (k.val - 256); omega)
  split
  · exact head_eq o 2 (by decide) ⟨k.val - 256 - 256, by omega⟩ k (by show k.val = 2 * 256 + (k.val - 256 - 256); omega)
  exact head_eq o 3 (by decide) ⟨k.val - 256 - 256 - 256, by omega⟩ k (by show k.val = 3 * 256 + (k.val - 256 - 256 - 256); omega)

/-- The factor a projected row is divided by, the row given. -/
theorem pay9_of (a₀ a₁ a₂ d e : FVec Ideal S1024x256 .f32) (r' : Vec Ideal S1x1024x1024 .bf16) (q : Fin 1024 → EReal) (i j : Fin 1024)
    (hq : ∀ j, k0_pay7 a₀ a₁ a₂ d e r' g w (ix2 i j) = q j) :
    k0_pay9 a₀ a₁ a₂ d e r' g w (ix2 i j)
      = Ideal.rsqrt (Ideal.div (∑ k, q k * q k) (Ideal.ofBits .f32 0x44800000#32) + Ideal.ofBits .f32 0x358637BD#32) := by
  pointwise [k0_pay9]
  simp only [hq]

theorem pay10_at (q x' s : FVec Ideal S1024x1024 .f32) (i j : Fin 1024) :
    shapeCast S1024x1024 (k0_pay10 q x' s p) shapeCasts_S1x1024x1024_S1024x1024 (ix2 i j) = x' (ix2 i j) + q (ix2 i j) * s (ix2 i j) * p (ix2 0 j) := by
  pointwise [k0_pay10]

theorem pay8_at (i j : Fin 1024) : k0_pay8 (up x) (ix2 i j) = x (ix2 i j) := by
  pointwise [k0_pay8, up]

/-- A row of an output block. -/
theorem blockVal_at (i j : Fin 1024) :
    blockVal (F := Ideal) x f b r g w p (ix2 i j)
      = rowOut (fun j => x (ix2 i j)) (sumRow f b i) (fun j => r (ix2 i j)) (fun j => g (ix2 0 j)) (fun k j => w (ix2 k j)) (fun j => p (ix2 0 j)) j := by
  have hq := fun j => pay7_of r g w _ _ _ _ _ (sumRow f b i) i j (pay2_at f b i) (pay3_at f b i) (pay4_at f b i) (pay5_at f b i) (pay6_at f b i)
  unfold blockVal
  rw [pay10_at, pay8_at, hq, pay9_of g w _ _ _ _ _ _ _ i j hq]
  rfl
end Kernel

/-! ## The reference's row -/

theorem ref_at (m : (ℓ : Loc Cert.ReferenceIdeal.nD Cert.ReferenceIdeal.τ Cert.ReferenceIdeal.sig) → Buf (Elt Ideal) ℓ) (c : Dev Cert.ReferenceIdeal.nD)
    (i : Fin 32768) (j : Fin 1024) :
    Cert.ReferenceIdeal.Value.res_main_v35 m c (ix2 i j)
      = rowOut (fun j => m ((c.tc : Thread _ _).loc Cert.ReferenceIdeal.main_arg0) (ix2 i j))
        (fun j => HAdd.hAdd (α := EReal) (β := EReal) (m ((c.tc : Thread _ _).loc Cert.ReferenceIdeal.main_arg1) (ix2 i j)) (m ((c.tc : Thread _ _).loc Cert.ReferenceIdeal.main_arg2) (ix2 i j)))
        (fun j => m ((c.tc : Thread _ _).loc Cert.ReferenceIdeal.main_arg3) (ix2 i j))
        (fun j => m ((c.tc : Thread _ _).loc Cert.ReferenceIdeal.main_arg4) (ix1 j))
        (fun k j => m ((c.tc : Thread _ _).loc Cert.ReferenceIdeal.main_arg5) (ix2 k j))
        (fun j => m ((c.tc : Thread _ _).loc Cert.ReferenceIdeal.main_arg6) (ix1 j)) j := by
  pointwise [Cert.ReferenceIdeal.Value.res_main_v35]
  rfl

/-! ## The two agree -/

section Agree
variable (m : (ℓ : Loc nD τ sig) → Buf (Elt Ideal) ℓ) (c : Dev nD)

theorem V_g (j : Fin 1024) : V m c main_v1 (ix2 0 j) = m ((c : Thread nD τ).loc main_arg4) (ix1 j) := by
  unfold V
  after_reads_at
theorem V_p (j : Fin 1024) : V m c main_v2 (ix2 0 j) = m ((c : Thread nD τ).loc main_arg6) (ix1 j) := by
  unfold V
  after_reads_at
theorem V_w (k j : Fin 1024) : V m c main_v0 (ix2 k j) = m ((c : Thread nD τ).loc main_arg5) (ix2 k j) := by
  unfold V
  after_reads_at
/-- The block row `i` lies in. -/
abbrev blockOf (i : Fin 32768) : Fin 32 := ⟨i.val / 1024, by have := i.isLt; omega⟩
/-- Row `i` is row `i mod 1024` of block `i / 1024`. -/
theorem row_split (i : Fin 32768) : i.val / 1024 * 1024 + 1 * (i.val % 1024) = i.val := by omega
theorem col_split (j : Fin 1024) : 0 + 1 * j.val = j.val := by omega
theorem carried_xA (X : Buf (Elt Ideal) (xA.view.loc (c : Thread nD τ))) (i : Fin 32768) (j : Fin 1024) :
    carried c xA X (blockOf i) (ix2 ⟨i.val % 1024, Nat.mod_lt _ (by decide)⟩ j) = X (ix2 i j) := by
  have h : ((rows xA (blockOf i)).view.emb (ix2 ⟨i.val % 1024, Nat.mod_lt _ (by decide)⟩ j) : S32768x1024.Idx) = ix2 i j := by
    funext a
    fin_cases a
    · exact Fin.ext (row_split i)
    · exact Fin.ext (col_split j)
  exact congrArg X h
theorem carried_fA (X : Buf (Elt Ideal) (fA.view.loc (c : Thread nD τ))) (i : Fin 32768) (j : Fin 1024) :
    carried c fA X (blockOf i) (ix2 ⟨i.val % 1024, Nat.mod_lt _ (by decide)⟩ j) = X (ix2 i j) := by
  have h : ((rows fA (blockOf i)).view.emb (ix2 ⟨i.val % 1024, Nat.mod_lt _ (by decide)⟩ j) : S32768x1024.Idx) = ix2 i j := by
    funext a
    fin_cases a
    · exact Fin.ext (row_split i)
    · exact Fin.ext (col_split j)
  exact congrArg X h
theorem carried_bA (X : Buf (Elt Ideal) (bA.view.loc (c : Thread nD τ))) (i : Fin 32768) (j : Fin 1024) :
    carried c bA X (blockOf i) (ix2 ⟨i.val % 1024, Nat.mod_lt _ (by decide)⟩ j) = X (ix2 i j) := by
  have h : ((rows bA (blockOf i)).view.emb (ix2 ⟨i.val % 1024, Nat.mod_lt _ (by decide)⟩ j) : S32768x1024.Idx) = ix2 i j := by
    funext a
    fin_cases a
    · exact Fin.ext (row_split i)
    · exact Fin.ext (col_split j)
  exact congrArg X h
theorem carried_rA (X : Buf (Elt Ideal) (rA.view.loc (c : Thread nD τ))) (i : Fin 32768) (j : Fin 1024) :
    carried c rA X (blockOf i) (ix2 ⟨i.val % 1024, Nat.mod_lt _ (by decide)⟩ j) = X (ix2 i j) := by
  have h : ((rows rA (blockOf i)).view.emb (ix2 ⟨i.val % 1024, Nat.mod_lt _ (by decide)⟩ j) : S32768x1024.Idx) = ix2 i j := by
    funext a
    fin_cases a
    · exact Fin.ext (row_split i)
    · exact Fin.ext (col_split j)
  exact congrArg X h

/-- A row of what the kernel leaves in the output array. -/
theorem out_at (i : Fin 32768) (j : Fin 1024) :
    out m c (ix2 i j)
      = rowOut (fun j => m ((c : Thread nD τ).loc main_arg0) (ix2 i j))
        (fun j => HAdd.hAdd (α := EReal) (β := EReal) (m ((c : Thread nD τ).loc main_arg1) (ix2 i j)) (m ((c : Thread nD τ).loc main_arg2) (ix2 i j)))
        (fun j => m ((c : Thread nD τ).loc main_arg3) (ix2 i j)) (fun j => m ((c : Thread nD τ).loc main_arg4) (ix1 j))
        (fun k j => m ((c : Thread nD τ).loc main_arg5) (ix2 k j)) (fun j => m ((c : Thread nD τ).loc main_arg6) (ix1 j)) j := by
  refine (blockVal_at _ _ _ _ _ _ _ ⟨i.val % 1024, Nat.mod_lt _ (by decide)⟩ j).trans ?_
  unfold sumRow
  have h0 (j : Fin 1024) : carried c xA (V m c main_arg0) (blockOf i) (ix2 ⟨i.val % 1024, Nat.mod_lt _ (by decide)⟩ j) = m ((c : Thread nD τ).loc main_arg0) (ix2 i j) :=
    (carried_xA c _ i j).trans (congrFun (V_main_arg0 m c) _)
  have h1 (j : Fin 1024) : carried c fA (V m c main_arg1) (blockOf i) (ix2 ⟨i.val % 1024, Nat.mod_lt _ (by decide)⟩ j) = m ((c : Thread nD τ).loc main_arg1) (ix2 i j) :=
    (carried_fA c _ i j).trans (congrFun (V_main_arg1 m c) _)
  have h2 (j : Fin 1024) : carried c bA (V m c main_arg2) (blockOf i) (ix2 ⟨i.val % 1024, Nat.mod_lt _ (by decide)⟩ j) = m ((c : Thread nD τ).loc main_arg2) (ix2 i j) :=
    (carried_bA c _ i j).trans (congrFun (V_main_arg2 m c) _)
  have h3 (j : Fin 1024) : carried c rA (V m c main_arg3) (blockOf i) (ix2 ⟨i.val % 1024, Nat.mod_lt _ (by decide)⟩ j) = m ((c : Thread nD τ).loc main_arg3) (ix2 i j) :=
    (carried_rA c _ i j).trans (congrFun (V_main_arg3 m c) _)
  have hg : (fun j => (gA.view.read (Elt Ideal) (V m c main_v1)) (ix2 0 j)) = fun j => m ((c : Thread nD τ).loc main_arg4) (ix1 j) := funext fun j => V_g m c j
  have hp : (fun j => (pA.view.read (Elt Ideal) (V m c main_v2)) (ix2 0 j)) = fun j => m ((c : Thread nD τ).loc main_arg6) (ix1 j) := funext fun j => V_p m c j
  have hw : (fun k j => (wA.view.read (Elt Ideal) (V m c main_v0)) (ix2 k j)) = fun k j => m ((c : Thread nD τ).loc main_arg5) (ix2 k j) := funext fun k => funext fun j => V_w m c k j
  rw [hg, hp, hw, ← funext h0, ← funext h3]
  simp only [← h1, ← h2]
  rfl

/-- The reference, on the same arguments, ends with the same array. -/
theorem out_eq (m' : (ℓ : Loc Cert.ReferenceIdeal.nD Cert.ReferenceIdeal.τ Cert.ReferenceIdeal.sig) → Buf (Elt Ideal) ℓ)
    (h0 : m' ((c.tc : Thread _ _).loc Cert.ReferenceIdeal.main_arg0) = m ((c.tc : Thread nD τ).loc main_arg0))
    (h1 : m' ((c.tc : Thread _ _).loc Cert.ReferenceIdeal.main_arg1) = m ((c.tc : Thread nD τ).loc main_arg1))
    (h2 : m' ((c.tc : Thread _ _).loc Cert.ReferenceIdeal.main_arg2) = m ((c.tc : Thread nD τ).loc main_arg2))
    (h3 : m' ((c.tc : Thread _ _).loc Cert.ReferenceIdeal.main_arg3) = m ((c.tc : Thread nD τ).loc main_arg3))
    (h4 : m' ((c.tc : Thread _ _).loc Cert.ReferenceIdeal.main_arg4) = m ((c.tc : Thread nD τ).loc main_arg4))
    (h5 : m' ((c.tc : Thread _ _).loc Cert.ReferenceIdeal.main_arg5) = m ((c.tc : Thread nD τ).loc main_arg5))
    (h6 : m' ((c.tc : Thread _ _).loc Cert.ReferenceIdeal.main_arg6) = m ((c.tc : Thread nD τ).loc main_arg6)) :
    Cert.ReferenceIdeal.Value.res_main_v35 m' c = out m c := by
  funext i
  obtain ⟨a, b, rfl⟩ : ∃ (a : Fin 32768) (b : Fin 1024), i = ix2 a b := ⟨i 0, i 1, by funext k; fin_cases k <;> rfl⟩
  refine (ref_at m' c a b).trans (Eq.trans ?_ (out_at m c a b).symm)
  rw [h0, h1, h2, h3, h4, h5, h6]
end Agree

end Cert.OddOut

end
-- ==== Proof.FfnVals.lean ====
/-
  The feed-forward block's chunks: what one step of the kernel computes of 256 of the 2816 hidden channels, as functions
  of the normalised rows and the weights. Chunk `n` is columns `256 n …` of each half of the up-projection (`h = 0` the
  activation's half, `h = 1` the gate's) and rows `256 n …` of the down-projection.
-/
module

public import proofs.«01_k».proof.Proof.Gen.Kernel2Ideal.Skeleton
public import proofs.«01_k».proof.Proof.Gen.Kernel2Ideal.Frame
public import Idealize.ShloMosaic.Lib.VecWindow
public import Idealize.ShloMosaic.Lib.Pipeline.ValueKit

@[expose] public section

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Columns `256 n …` of half `h` of the up-projection. -/
def wuS (wu : Vec F S1024x5632 .bf16) (h n : ℕ) : Vec F S1024x256 .bf16 :=
  fun j => wu (ix2 (j 0) ⟨(2816 * h + 256 * n + (j 1).val) % 5632, Nat.mod_lt _ (by norm_num)⟩)

/-- Columns `256 n …` of half `h` of the convolution's taps. -/
def cwS (cw : Vec F S3x5632 .f32) (h n : ℕ) : Vec F S3x256 .f32 :=
  fun j => cw (ix2 (j 0) ⟨(2816 * h + 256 * n + (j 1).val) % 5632, Nat.mod_lt _ (by norm_num)⟩)

/-- Columns `256 n …` of half `h` of the convolution's bias. -/
def cbS (cb : Vec F S1x5632 .f32) (h n : ℕ) : Vec F S1x256 .f32 :=
  fun j => cb (ix2 (j 0) ⟨(2816 * h + 256 * n + (j 1).val) % 5632, Nat.mod_lt _ (by norm_num)⟩)

/-- Rows `256 n …` of the down-projection. -/
def wdS (wd : Vec F S2816x1024 .bf16) (n : ℕ) : Vec F S256x1024 .bf16 :=
  fun j => wd (ix2 ⟨(256 * n + (j 0).val) % 2816, Nat.mod_lt _ (by norm_num)⟩ (j 1))

/-- A load of a chunk's columns of the up-projection. -/
theorem read_wuS {σ : RefSig} {κ : Kind} {sp : Space} (v : View σ κ sp S1024x5632 .bf16) (f : v.ty.Contents (Elt F)) (off : Fin 2 → ℕ) (inb : ∀ a, off a + S1024x256.size a ≤ S1024x5632.size a)
    (h n : ℕ) (e : off = ![0, 2816 * h + 256 * n]) :
    v.readAt (Elt F) (Rect.unit (s := S1024x5632) off S1024x256.size inb).toLoadRect f = wuS (v.read (Elt F) f) h n := by
  subst e
  funext j
  refine congrArg (v.read (Elt F) f) (funext fun a => ?_)
  have hb : 2816 * h + 256 * n + 256 ≤ 5632 := inb 1
  have hj : (j 1).val < 256 := (j 1).isLt
  fin_cases a
  · exact Fin.ext (by show 0 + 1 * (j 0).val = (j 0).val; omega)
  · exact Fin.ext (by show 2816 * h + 256 * n + 1 * (j 1).val = (2816 * h + 256 * n + (j 1).val) % 5632; rw [Nat.mod_eq_of_lt (by omega)]; omega)

/-- A load of a chunk's columns of the taps. -/
theorem read_cwS {σ : RefSig} {κ : Kind} {sp : Space} (v : View σ κ sp S3x5632 .f32) (f : v.ty.Contents (Elt F)) (off : Fin 2 → ℕ) (inb : ∀ a, off a + S3x256.size a ≤ S3x5632.size a)
    (h n : ℕ) (e : off = ![0, 2816 * h + 256 * n]) :
    v.readAt (Elt F) (Rect.unit (s := S3x5632) off S3x256.size inb).toLoadRect f = cwS (v.read (Elt F) f) h n := by
  subst e
  funext j
  refine congrArg (v.read (Elt F) f) (funext fun a => ?_)
  have hb : 2816 * h + 256 * n + 256 ≤ 5632 := inb 1
  have hj : (j 1).val < 256 := (j 1).isLt
  fin_cases a
  · exact Fin.ext (by show 0 + 1 * (j 0).val = (j 0).val; omega)
  · exact Fin.ext (by show 2816 * h + 256 * n + 1 * (j 1).val = (2816 * h + 256 * n + (j 1).val) % 5632; rw [Nat.mod_eq_of_lt (by omega)]; omega)

/-- A load of a chunk's columns of the bias. -/
theorem read_cbS {σ : RefSig} {κ : Kind} {sp : Space} (v : View σ κ sp S1x5632 .f32) (f : v.ty.Contents (Elt F)) (off : Fin 2 → ℕ) (inb : ∀ a, off a + S1x256.size a ≤ S1x5632.size a)
    (h n : ℕ) (e : off = ![0, 2816 * h + 256 * n]) :
    v.readAt (Elt F) (Rect.unit (s := S1x5632) off S1x256.size inb).toLoadRect f = cbS (v.read (Elt F) f) h n := by
  subst e
  funext j
  refine congrArg (v.read (Elt F) f) (funext fun a => ?_)
  have hb : 2816 * h + 256 * n + 256 ≤ 5632 := inb 1
  have hj : (j 1).val < 256 := (j 1).isLt
  fin_cases a
  · exact Fin.ext (by show 0 + 1 * (j 0).val = (j 0).val; omega)
  · exact Fin.ext (by show 2816 * h + 256 * n + 1 * (j 1).val = (2816 * h + 256 * n + (j 1).val) % 5632; rw [Nat.mod_eq_of_lt (by omega)]; omega)

/-- A load of a chunk's rows of the down-projection. -/
theorem read_wdS {σ : RefSig} {κ : Kind} {sp : Space} (v : View σ κ sp S2816x1024 .bf16) (f : v.ty.Contents (Elt F)) (off : Fin 2 → ℕ) (inb : ∀ a, off a + S256x1024.size a ≤ S2816x1024.size a)
    (n : ℕ) (e : off = ![256 * n, 0]) :
    v.readAt (Elt F) (Rect.unit (s := S2816x1024) off S256x1024.size inb).toLoadRect f = wdS (v.read (Elt F) f) n := by
  subst e
  funext j
  refine congrArg (v.read (Elt F) f) (funext fun a => ?_)
  have hb : 256 * n + 256 ≤ 2816 := inb 0
  have hj : (j 0).val < 256 := (j 0).isLt
  fin_cases a
  · exact Fin.ext (by show 256 * n + 1 * (j 0).val = (256 * n + (j 0).val) % 2816; rw [Nat.mod_eq_of_lt (by omega)]; omega)
  · exact Fin.ext (by show 0 + 1 * (j 1).val = (j 1).val; omega)

/-- The up-projection of chunk `n`, half `h`, of the normalised rows `x` (halo rows and all). -/
def upV (x : Vec F S528x1024 .bf16) (wu : Vec F S1024x5632 .bf16) (h n : ℕ) : Vec F S1x1x528x256 .f32 := k0_pay2 x (wuS wu h n)

/-- One chunk's contribution added to the running sum: the convolutions of both halves, the gelu of the gate's times the
    activation's, and the down-projection. -/
def stepV (g a : Vec F S1x1x528x256 .f32) (cwg : Vec F S3x256 .f32) (cbg : Vec F S1x256 .f32) (cwa : Vec F S3x256 .f32) (cba : Vec F S1x256 .f32)
    (acc : Vec F S512x1024 .f32) (wd : Vec F S256x1024 .bf16) : Vec F S512x1024 .f32 :=
  k0_pay9 (k0_pay5 (k0_pay4 g) cwg cbg) (k0_pay6 a) cwa (k0_pay7 a) (k0_pay8 a cwa) cba acc wd

/-- The running sum after `n` chunks. -/
def accV (x : Vec F S528x1024 .bf16) (wu : Vec F S1024x5632 .bf16) (cw : Vec F S3x5632 .f32) (cb : Vec F S1x5632 .f32) (wd : Vec F S2816x1024 .bf16) : ℕ → Vec F S512x1024 .f32
  | 0 => k0_pay23
  | n + 1 => stepV (upV x wu 1 n) (upV x wu 0 n) (cwS cw 1 n) (cbS cb 1 n) (cwS cw 0 n) (cbS cb 0 n) (accV x wu cw cb wd n) (wdS wd n)

theorem accV_succ (x : Vec F S528x1024 .bf16) (wu : Vec F S1024x5632 .bf16) (cw : Vec F S3x5632 .f32) (cb : Vec F S1x5632 .f32) (wd : Vec F S2816x1024 .bf16) (n : ℕ) :
    accV x wu cw cb wd (n + 1) = stepV (upV x wu 1 n) (upV x wu 0 n) (cwS cw 1 n) (cbS cb 1 n) (cwS cw 0 n) (cbS cb 0 n) (accV x wu cw cb wd n) (wdS wd n) := rfl

/-- The other spellings of a chunk's up-projection in the kernel's text. -/
theorem up3 (x : Vec F S528x1024 .bf16) (w : Vec F S1024x256 .bf16) : k0_pay3 x w = k0_pay2 x w := rfl
theorem up10 (x : Vec F S528x1024 .bf16) (w : Vec F S1024x256 .bf16) : k0_pay11 (k0_pay10 x w) = k0_pay2 x w := rfl
theorem up12 (x : Vec F S528x1024 .bf16) (w : Vec F S1024x256 .bf16) : k0_pay12 x w = k0_pay2 x w := rfl
theorem up24 (x : Vec F S528x1024 .bf16) (w : Vec F S1024x256 .bf16) : k0_pay24 x w = k0_pay2 x w := rfl
theorem up25 (x : Vec F S528x1024 .bf16) (w : Vec F S1024x256 .bf16) : k0_pay25 x w = k0_pay2 x w := rfl

/-- The second chunk of a trip is the same step. -/
theorem step26 (g a : Vec F S1x1x528x256 .f32) (cwg : Vec F S3x256 .f32) (cbg : Vec F S1x256 .f32) (cwa : Vec F S3x256 .f32) (cba : Vec F S1x256 .f32)
    (acc : Vec F S512x1024 .f32) (wd : Vec F S256x1024 .bf16) :
    k0_pay26 (k0_pay15 (k0_pay13 g cwg) (k0_pay14 cbg) a cwa cba) acc wd = stepV g a cwg cbg cwa cba acc wd := rfl

/-- The last chunk is the same step. -/
theorem step29 (g a : Vec F S1x1x528x256 .f32) (cwg : Vec F S3x256 .f32) (cbg : Vec F S1x256 .f32) (cwa : Vec F S3x256 .f32) (cba : Vec F S1x256 .f32)
    (acc : Vec F S512x1024 .f32) (wd : Vec F S256x1024 .bf16) :
    k0_pay29 (k0_pay27 g cwg cbg) (k0_pay28 g cwg cbg) a cwa cba acc wd = stepV g a cwg cbg cwa cba acc wd := rfl

end Cert.Ffn

end
-- ==== Proof.FfnRun.lean ====
/-
  The kernel's run: at every grid point the body reads its twelve blocks and leaves `outV` of them, so the launch
  terminates with every block of the output array at that value and the argument arrays as they were.
-/
module

public import proofs.«01_k».proof.Proof.FfnBody
public import Idealize.ShloMosaic.Lib.Pipeline.Value

@[expose] public section

set_option maxHeartbeats 4000000
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The block written at grid point `t`, as a function of the arrays the region finds. -/
def out (c : Dev nD) (t : Fin cfg0.N) : Vec F S1x512x1024 .f32 := outV (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What each window's buffer holds after the body: an input's block, the output's `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- A scratch buffer whole, as the body's view of it. -/
theorem scratch_eq (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [show (Memref.whole b).view.set = Finset.univ from View.set_whole _]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, after_4, after_5, after_6, after_7, after_8, after_9, after_10, after_11, after_12]
  unfold Pipeline.ΦA out
  rw [scopedRest0_eq, scratch_eq, scratch_eq, scratch_eq]
  iintro ⟨⟨⟨S0, S1, S2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernel c (grid0.coords t) _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [S0]; · iexact S0
  isplitl [S1]; · iexact S1
  isplitl [S2]; · iexact S2
  iintro ⟨H0, H1, H2, H3, H4, H5, H6, H7, H8, H9, H10, H11, H12, S0, S1, S2⟩
  isplitl [S0 S1 S2 HP]
  · isplitr [HP]
    · isplitl [S0]; · iexact S0
      isplitl [S1]; · iexact S1
      iexact S2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it terminates, its arrays at what the bodies left, every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run m ρ))) ((θ_run defs _ _).mono (fun _ h => h.2) (run m ρ))

/-- Two grid points write different blocks of the output. -/
theorem idx_inj : ∀ t t' : Fin cfg0.N, win0_12.index t = win0_12.index t' → t = t' :=
  (by decide +kernel : ∀ t t' : Fin grid0.N, win0_12.index t = win0_12.index t' → t = t')

/-- Every block of the output array ends at `out`. -/
theorem blocks : θ_run defs (onTc (τ := τ) (main (F := F))) ⟨m, fun _ => 0, ρ⟩ (fun r => (∀ (c : Dev nD) (t : Fin cfg0.N),
      ((cfg0.win 12).blk t).view.read (Elt F) (r.2.mem ((c.tc : Thread nD τ).loc main_v7)) = out m c t) ∧ r.2.sem = fun _ => 0) := by
  refine (θ_run defs _ _).mono (fun r h => ⟨fun c t => ?_, h.2⟩) (run m ρ)
  have e : r.2.mem ((c.tc : Thread nD τ).loc main_v7) = (dats m 0 c).arrAt 12 cfg0.N := (h.1 c).1 12
  rw [e]
  refine ((dats m 0 c).read_blk_arrAt_eq_flushed 12 (fun t t' _ _ hne => (cfg0.win 12).disjoint_blk fun h => hne (idx_inj t t' h)) cfg0.N t t.isLt (flush0_12 t)).trans ?_
  show (cfg0.win 12).cut (grid0.coords t) ((dats m 0 c).after 12 t) = _
  rw [after_12]
  rfl

end Cert.Ffn

end
-- ==== Proof.FfnGelu.lean ====
/-
  The gelu of the two programs, over the extended reals. The reference writes `g · ½ · (1 + tanh (S (g + W g³)))`, the
  kernel `g / (1 + 2 ^ (g (g² A + B)))` with `A = −2 S W / log 2` and `B = −2 S / log 2`. Both are one function, at the two
  infinities too.
-/
module

public import proofs.«01_k».proof.Proof.Gen.Kernel2Ideal.Skeleton
public import Idealize.ShloMosaic.Lib.Pipeline.ValueKit

@[expose] public section

noncomputable section

namespace Cert.Ffn

open Idealize.ShloMosaic

/-- `S`, the float word the reference has for √(2/π). -/
theorem word_s : Ideal.ofBits .f32 0x3F4C422A#32 = ((6693141 / 8388608 : ℝ) : EReal) := by
  simp [Ideal.ofBits, Ideal.ieee, -EReal.coe_mul]; norm_num
/-- `W`, the float word the reference has for 0.044715. -/
theorem word_w : Ideal.ofBits .f32 0x3D372713#32 = ((12003091 / 268435456 : ℝ) : EReal) := by
  simp [Ideal.ofBits, Ideal.ieee, -EReal.coe_mul]; norm_num
/-- The float word of one half. -/
theorem word_half : Ideal.ofBits .f32 0x3F000000#32 = ((1 / 2 : ℝ) : EReal) := by
  simp [Ideal.ofBits, Ideal.ieee, -EReal.coe_mul]; norm_num

/-- What the name `gelu_cubic` stands for. -/
abbrev cubic : ℝ := -((2 * ((6693141 / 8388608) * (12003091 / 268435456))) * (Real.log 2)⁻¹)
/-- What the name `gelu_linear` stands for. -/
abbrev linear : ℝ := -((2 * (6693141 / 8388608)) * (Real.log 2)⁻¹)
/-- The name `gelu_cubic`, read. -/
theorem named_cubic : Named.named (F := Ideal) Cert.Kernel2Ideal.κ "gelu_cubic" (φ := .f32) 0xBDD2D3E8#32 = (cubic : EReal) :=
  IdealRules.named_const.ideal_named_scalar _ _ _ _ rfl
/-- The name `gelu_linear`, read. -/
theorem named_linear : Named.named (F := Ideal) Cert.Kernel2Ideal.κ "gelu_linear" (φ := .f32) 0xC0135761#32 = (linear : EReal) :=
  IdealRules.named_const.ideal_named_scalar _ _ _ _ rfl

/-- The gelu as the reference writes it. -/
def gelu (g : EReal) : EReal :=
  g * (Ideal.ofBits .f32 0x3F000000#32 * (1 + Ideal.tanh (Ideal.ofBits .f32 0x3F4C422A#32 * (g + Ideal.ofBits .f32 0x3D372713#32 * (g * g * g)))))

/-- A half of one more than the hyperbolic tangent is the logistic function of the double. -/
theorem logistic_double (y : ℝ) : (1 + Real.exp (-(2 * y)))⁻¹ = 1 / 2 * (1 + Real.tanh y) := by
  have h1 := Real.exp_pos y
  have h2 := Real.exp_pos (-y)
  rw [Real.tanh_eq_sinh_div_cosh, Real.sinh_eq, Real.cosh_eq]
  have e : Real.exp (-(2 * y)) = Real.exp (-y) * Real.exp (-y) := by rw [← Real.exp_add]; ring_nf
  have e1 : Real.exp y * Real.exp (-y) = 1 := by rw [← Real.exp_add]; simp
  rw [e]
  field_simp
  nlinarith

/-- The exponent of the kernel's power of two is minus twice the argument of the tangent. -/
theorem exp2_arg (g : ℝ) : Real.rpow 2 (g * (g * g * cubic + linear))
    = Real.exp (-(2 * ((6693141 / 8388608) * (g + (12003091 / 268435456) * (g * g * g))))) := by
  have hl : Real.log 2 ≠ 0 := (Real.log_pos (by norm_num)).ne'
  show (2 : ℝ) ^ (g * (g * g * cubic + linear)) = _
  rw [Real.rpow_def_of_pos (by norm_num)]
  congr 1
  unfold cubic linear
  field_simp
  ring

theorem cubic_neg : cubic < 0 := by
  have hl : 0 < Real.log 2 := Real.log_pos (by norm_num)
  unfold cubic
  have : 0 < (Real.log 2)⁻¹ := inv_pos.mpr hl
  nlinarith

/-- The kernel's gelu is the reference's. -/
theorem gelu_eq (g : EReal) : Ideal.div g (1 + Ideal.exp2 (g * (g * g * (cubic : EReal) + (linear : EReal)))) = gelu g := by
  unfold gelu
  rw [word_s, word_w, word_half]
  induction g with
  | bot =>
    have h : (⊥ : EReal) * ⊥ * (cubic : EReal) = ⊥ := by rw [EReal.bot_mul_bot, EReal.top_mul_coe_of_neg cubic_neg]
    have h3 : ((12003091 / 268435456 : ℝ) : EReal) * (⊥ * ⊥ * ⊥) = ⊥ := by
      rw [EReal.bot_mul_bot, EReal.top_mul_bot, EReal.coe_mul_bot_of_pos (by norm_num)]
    rw [h3, h, EReal.bot_add, EReal.bot_mul_bot, EReal.add_bot, EReal.coe_mul_bot_of_pos (by norm_num)]
    show Ideal.div ⊥ (1 + ⊤) = ⊥ * (((1 / 2 : ℝ) : EReal) * (1 + -1))
    have e : (1 : EReal) + ⊤ = ⊤ := EReal.add_top_of_ne_bot (by decide)
    have e0 : (1 : EReal) + -1 = 0 := by
      have : ((1 : ℝ) : EReal) + ((-1 : ℝ) : EReal) = ((1 + -1 : ℝ) : EReal) := (EReal.coe_add _ _).symm
      simpa using this
    rw [e, e0]
    simp [Ideal.div]
  | top =>
    have h : (⊤ : EReal) * ⊤ * (cubic : EReal) = ⊥ := by rw [EReal.top_mul_top, EReal.top_mul_coe_of_neg cubic_neg]
    have h3 : ((12003091 / 268435456 : ℝ) : EReal) * (⊤ * ⊤ * ⊤) = ⊤ := by
      rw [EReal.top_mul_top, EReal.top_mul_top, EReal.coe_mul_top_of_pos (by norm_num)]
    rw [h, EReal.bot_add, EReal.top_mul_bot, h3, EReal.top_add_top, EReal.coe_mul_top_of_pos (by norm_num)]
    show Ideal.div ⊤ (1 + 0) = ⊤ * (((1 / 2 : ℝ) : EReal) * (1 + 1))
    have e0 : ((1 / 2 : ℝ) : EReal) * (1 + 1) = 1 := by
      have : ((1 / 2 : ℝ) : EReal) * (((1 : ℝ) : EReal) + ((1 : ℝ) : EReal)) = ((1 / 2 * (1 + 1) : ℝ) : EReal) := by
        rw [← EReal.coe_add, ← EReal.coe_mul]
      rw [EReal.coe_one] at this
      rw [this]; norm_num
    rw [e0, add_zero, mul_one]
    simp [Ideal.div]
  | coe g =>
    have e1 : (g : EReal) * ((g : EReal) * g * (cubic : EReal) + (linear : EReal)) = ((g * (g * g * cubic + linear) : ℝ) : EReal) := by
      rw [← EReal.coe_mul g g, ← EReal.coe_mul, ← EReal.coe_add, ← EReal.coe_mul]
    have e2 : ((6693141 / 8388608 : ℝ) : EReal) * ((g : EReal) + ((12003091 / 268435456 : ℝ) : EReal) * ((g : EReal) * g * g))
        = ((6693141 / 8388608 * (g + 12003091 / 268435456 * (g * g * g)) : ℝ) : EReal) := by
      rw [← EReal.coe_mul g g, ← EReal.coe_mul _ g, ← EReal.coe_mul, ← EReal.coe_add, ← EReal.coe_mul]
    rw [e1, e2]
    show Ideal.div (g : EReal) (1 + ((Real.rpow 2 (g * (g * g * cubic + linear)) : ℝ) : EReal))
      = (g : EReal) * (((1 / 2 : ℝ) : EReal) * (1 + ((Real.tanh (6693141 / 8388608 * (g + 12003091 / 268435456 * (g * g * g))) : ℝ) : EReal)))
    rw [exp2_arg]
    have p := Real.exp_pos (-(2 * ((6693141 / 8388608) * (g + (12003091 / 268435456) * (g * g * g)))))
    rw [← EReal.coe_one, ← EReal.coe_add, ← EReal.coe_add, ← EReal.coe_mul, ← logistic_double, Ideal.div_coe (by positivity)]
    norm_num

end Cert.Ffn

end
-- ==== Proof.FfnRow.lean ====
/-
  One row of the feed-forward call over the extended reals: what the kernel's block body computes of a row and of its two
  neighbours, in plain sums.
-/
module

public import proofs.«01_k».proof.Proof.FfnBody
public import proofs.«01_k».proof.Proof.FfnGelu

@[expose] public section

noncomputable section

namespace Cert.Ffn

open Cert.Kernel2Ideal Cert.Kernel2Ideal.Gen
open Idealize.ShloMosaic Idealize.ShloMosaic.TcCoe

/-! ## One row -/

/-- Element `j` of a row divided by the row's root mean square and scaled. -/
def nrm (x g : Fin 1024 → EReal) (j : Fin 1024) : EReal :=
  x j * Ideal.rsqrt (Ideal.div (∑ k, x k * x k) (Ideal.ofBits .f32 0x44800000#32) + Ideal.ofBits .f32 0x358637BD#32) * g j
/-- Column `c` of a row's up-projection. -/
def upDot (u : Fin 1024 → EReal) (w : Fin 1024 → Fin 5632 → EReal) (c : Fin 5632) : EReal := ∑ k, u k * w k c
/-- Column `c` of the convolution over three rows. -/
def conv (u0 u1 u2 : Fin 1024 → EReal) (w : Fin 1024 → Fin 5632 → EReal) (cw : Fin 3 → Fin 5632 → EReal) (cb : Fin 5632 → EReal) (c : Fin 5632) : EReal :=
  upDot u0 w c * cw 0 c + upDot u1 w c * cw 1 c + upDot u2 w c * cw 2 c + cb c
/-- Column `m` of the gated product. -/
def inner (u0 u1 u2 : Fin 1024 → EReal) (w : Fin 1024 → Fin 5632 → EReal) (cw : Fin 3 → Fin 5632 → EReal) (cb : Fin 5632 → EReal) (m : Fin 2816) : EReal :=
  gelu (conv u0 u1 u2 w cw cb ⟨2816 + m.val, by have := m.isLt; omega⟩) * conv u0 u1 u2 w cw cb ⟨m.val, by have := m.isLt; omega⟩
/-- Column `e` of the down-projection. -/
def down (u0 u1 u2 : Fin 1024 → EReal) (w : Fin 1024 → Fin 5632 → EReal) (cw : Fin 3 → Fin 5632 → EReal) (cb : Fin 5632 → EReal)
    (wd : Fin 2816 → Fin 1024 → EReal) (e : Fin 1024) : EReal := ∑ m, inner u0 u1 u2 w cw cb m * wd m e
/-- The residual stream with the normalised down-projection added. -/
def mid (x d g : Fin 1024 → EReal) (e : Fin 1024) : EReal := x e + nrm d g e
/-- The row with the gated projection of `p` added. -/
def fin (x2 : Fin 1024 → EReal) (p : Fin 256 → EReal) (wp : Fin 256 → Fin 1024 → EReal) (wg : Fin 1024 → Fin 1024 → EReal) (e : Fin 1024) : EReal :=
  x2 e + (∑ k, p k * wp k e) * Ideal.div 1 (1 + Ideal.exp (-(∑ k, x2 k * wg k e)))

/-! ## The kernel's row -/

theorem upV_at (x : Vec Ideal S528x1024 .bf16) (wu : Vec Ideal S1024x5632 .bf16) (h n : ℕ) (r : Fin 528) (j : Fin 256) :
    upV x wu h n (ix4 0 0 r j) = upDot (fun k => x (ix2 r k)) (fun k c => wu (ix2 k c)) ⟨(2816 * h + 256 * n + j.val) % 5632, Nat.mod_lt _ (by norm_num)⟩ := by
  pointwise [upV, k0_pay2, wuS]
  rfl

/-- The gate of a chunk. -/
theorem pay5_at (g : Vec Ideal S1x1x528x256 .f32) (cw : Vec Ideal S3x256 .f32) (cb : Vec Ideal S1x256 .f32) (r : Fin 512) (j : Fin 256) :
    k0_pay5 (k0_pay4 g) cw cb (ix2 r j)
      = gelu (HAdd.hAdd (α := EReal) (g (ix4 0 0 ⟨(r.val + 527) % 528, Nat.mod_lt _ (by norm_num)⟩ j) * cw (ix2 0 j) + g (ix4 0 0 ⟨r.val, by have := r.isLt; omega⟩ j) * cw (ix2 1 j)
        + g (ix4 0 0 ⟨(r.val + 1) % 528, Nat.mod_lt _ (by norm_num)⟩ j) * cw (ix2 2 j)) (cb (ix2 0 j))) := by
  rw [← gelu_eq]
  pointwise [k0_pay5, k0_pay4, named_cubic, named_linear]
  rfl

/-- A chunk's contribution. -/
theorem stepV_at (g a : Vec Ideal S1x1x528x256 .f32) (cwg : Vec Ideal S3x256 .f32) (cbg : Vec Ideal S1x256 .f32) (cwa : Vec Ideal S3x256 .f32) (cba : Vec Ideal S1x256 .f32)
    (acc : Vec Ideal S512x1024 .f32) (wd : Vec Ideal S256x1024 .bf16) (r : Fin 512) (e : Fin 1024) :
    stepV g a cwg cbg cwa cba acc wd (ix2 r e)
      = HAdd.hAdd (α := EReal) (acc (ix2 r e)) (∑ j : Fin 256, k0_pay5 (k0_pay4 g) cwg cbg (ix2 r j)
        * (HAdd.hAdd (α := EReal) (a (ix4 0 0 ⟨(r.val + 527) % 528, Nat.mod_lt _ (by norm_num)⟩ j) * cwa (ix2 0 j) + a (ix4 0 0 ⟨r.val, by have := r.isLt; omega⟩ j) * cwa (ix2 1 j)
        + a (ix4 0 0 ⟨(r.val + 1) % 528, Nat.mod_lt _ (by norm_num)⟩ j) * cwa (ix2 2 j)) (cba (ix2 0 j))) * wd (ix2 j e)) := by
  pointwise [stepV, k0_pay9, k0_pay8, k0_pay7, k0_pay6]
  rfl

/-- The finished row. -/
theorem pay30_at (x acc : Vec Ideal S512x1024 .f32) (g : Vec Ideal S1x1024 .f32) (wg : Vec Ideal S1024x1024 .bf16) (p : Vec Ideal S1x1x512x256 .f32)
    (wp : Vec Ideal S256x1024 .bf16) (r : Fin 512) (e : Fin 1024) :
    k0_pay30 x acc g wg p wp (ix2 r e)
      = fin (mid (fun e => x (ix2 r e)) (fun e => acc (ix2 r e)) (fun e => g (ix2 0 e))) (fun k => p (ix4 0 0 r k)) (fun k e => wp (ix2 k e)) (fun k e => wg (ix2 k e)) e := by
  pointwise [k0_pay30, zero_sub]
  rfl
end Cert.Ffn

end
-- ==== Proof.FfnRow2.lean ====
/-
  The kernel's block at a row: the chunks' running sum is the whole down-projection, and a row of the block is the finished
  row of its own and of its two neighbours' normalised rows.
-/
module

public import proofs.«01_k».proof.Proof.FfnRow

@[expose] public section

noncomputable section

namespace Cert.Ffn

open Cert.Kernel2Ideal Cert.Kernel2Ideal.Gen
open Idealize.ShloMosaic Idealize.ShloMosaic.TcCoe

/-- What chunk `n` adds at row `r`, column `e`. -/
theorem step_at (x : Vec Ideal S528x1024 .bf16) (wu : Vec Ideal S1024x5632 .bf16) (cw : Vec Ideal S3x5632 .f32) (cb : Vec Ideal S1x5632 .f32) (wd : Vec Ideal S2816x1024 .bf16)
    (acc : Vec Ideal S512x1024 .f32) (n : ℕ) (hn : n < 11) (r : Fin 512) (e : Fin 1024) :
    stepV (upV x wu 1 n) (upV x wu 0 n) (cwS cw 1 n) (cbS cb 1 n) (cwS cw 0 n) (cbS cb 0 n) acc (wdS wd n) (ix2 r e)
      = HAdd.hAdd (α := EReal) (acc (ix2 r e)) (∑ j : Fin 256, inner (fun k => x (ix2 ⟨(r.val + 527) % 528, Nat.mod_lt _ (by norm_num)⟩ k))
          (fun k => x (ix2 ⟨r.val, by have := r.isLt; omega⟩ k)) (fun k => x (ix2 ⟨(r.val + 1) % 528, Nat.mod_lt _ (by norm_num)⟩ k))
          (fun k c => wu (ix2 k c)) (fun t c => cw (ix2 t c)) (fun c => cb (ix2 0 c)) ⟨n * 256 + j.val, by have := j.isLt; omega⟩
        * wd (ix2 ⟨n * 256 + j.val, by have := j.isLt; omega⟩ e)) := by
  rw [stepV_at]
  refine congrArg₂ (· + ·) rfl (Finset.sum_congr rfl fun j _ => ?_)
  have hj := j.isLt
  have e1 : (2816 * 1 + 256 * n + j.val) % 5632 = 2816 + (n * 256 + j.val) := by omega
  have e0 : (2816 * 0 + 256 * n + j.val) % 5632 = n * 256 + j.val := by omega
  have e2 : (256 * n + j.val) % 2816 = n * 256 + j.val := by omega
  rw [pay5_at]
  simp only [upV_at]
  simp only [cwS, cbS, wdS, ix2_0, ix2_1, e1, e0, e2]
  rfl

/-- The running sum after `n` chunks. -/
theorem accV_at (x : Vec Ideal S528x1024 .bf16) (wu : Vec Ideal S1024x5632 .bf16) (cw : Vec Ideal S3x5632 .f32) (cb : Vec Ideal S1x5632 .f32) (wd : Vec Ideal S2816x1024 .bf16)
    (r : Fin 512) (e : Fin 1024) (n : ℕ) (hn : n ≤ 11) :
    accV x wu cw cb wd n (ix2 r e)
      = ∑ s : Fin n, ∑ j : Fin 256, inner (fun k => x (ix2 ⟨(r.val + 527) % 528, Nat.mod_lt _ (by norm_num)⟩ k))
          (fun k => x (ix2 ⟨r.val, by have := r.isLt; omega⟩ k)) (fun k => x (ix2 ⟨(r.val + 1) % 528, Nat.mod_lt _ (by norm_num)⟩ k))
          (fun k c => wu (ix2 k c)) (fun t c => cw (ix2 t c)) (fun c => cb (ix2 0 c)) ⟨s.val * 256 + j.val, by have := j.isLt; have := s.isLt; omega⟩
        * wd (ix2 ⟨s.val * 256 + j.val, by have := j.isLt; have := s.isLt; omega⟩ e) := by
  induction n with
  | zero =>
    show k0_pay23 (ix2 r e) = _
    pointwise [k0_pay23]
    simp
  | succ n ih =>
    rw [accV_succ, step_at _ _ _ _ _ _ n (by omega), ih (by omega)]
    symm
    exact Fin.sum_univ_castSucc (M := EReal) _

/-- After all chunks it is the whole down-projection. -/
theorem accV_all (x : Vec Ideal S528x1024 .bf16) (wu : Vec Ideal S1024x5632 .bf16) (cw : Vec Ideal S3x5632 .f32) (cb : Vec Ideal S1x5632 .f32) (wd : Vec Ideal S2816x1024 .bf16)
    (r : Fin 512) (e : Fin 1024) :
    accV x wu cw cb wd 11 (ix2 r e)
      = down (fun k => x (ix2 ⟨(r.val + 527) % 528, Nat.mod_lt _ (by norm_num)⟩ k))
          (fun k => x (ix2 ⟨r.val, by have := r.isLt; omega⟩ k)) (fun k => x (ix2 ⟨(r.val + 1) % 528, Nat.mod_lt _ (by norm_num)⟩ k))
          (fun k c => wu (ix2 k c)) (fun t c => cw (ix2 t c)) (fun c => cb (ix2 0 c)) (fun m e => wd (ix2 m e)) e := by
  rw [accV_at _ _ _ _ _ _ _ 11 le_rfl]
  unfold down
  exact Fin.sum_mul_add_congr fun s k hl => rfl

/-! ## The normalised rows -/

/-- The flag the next block's rows are multiplied by: 0 at the sequence's last block. -/
theorem keep_next (s : ℕ) (hs : s < 16) : (Scalar.sitofp .f32 (Scalar.extui (Scalar.cmpi .slt (BitVec.ofNat 32 s) 15#32) : BitVec 32) : Ideal .f32) = (if s < 15 then (1 : EReal) else 0) := by
  rw [Ideal.scalar_sitofp_def]
  interval_cases s <;> simp [Scalar.extui, Scalar.cmpi, IntOp.cmpi]
/-- The flag the previous block's rows are multiplied by: 0 at the sequence's first block. -/
theorem keep_prev (s : ℕ) (hs : s < 16) : (Scalar.sitofp .f32 (Scalar.extui (Scalar.cmpi .sgt (BitVec.ofNat 32 s) 0#32) : BitVec 32) : Ideal .f32) = (if 0 < s then (1 : EReal) else 0) := by
  rw [Ideal.scalar_sitofp_def]
  interval_cases s <;> simp [Scalar.extui, Scalar.cmpi, IntOp.cmpi]

section Rows
variable (i : grid0.Coords) (x2 : Vec Ideal S1x512x1024 .f32) (x3 x4 : Vec Ideal S1x8x1024 .f32) (x5 : Vec Ideal S1x1024 .f32)

theorem norm_own (r : Fin 512) (k : Fin 1024) :
    normV i x2 x3 x4 x5 (ix2 ⟨r.val, by have := r.isLt; omega⟩ k) = nrm (fun k => x2 (ix3 0 r k)) (fun k => x5 (ix2 0 k)) k := by
  have hr := r.isLt
  pointwise [normV, k0_pay22, k0_pay18, k0_pay17]
  rfl
theorem norm_next (k : Fin 1024) :
    normV i x2 x3 x4 x5 (ix2 ⟨512, by norm_num⟩ k) = nrm (fun k => x3 (ix3 0 0 k)) (fun k => x5 (ix2 0 k)) k * (if (i 1).val < 15 then (1 : EReal) else 0) := by
  rw [← keep_next (i 1).val (i 1).isLt]
  pointwise [normV, k0_pay22, k0_pay19, k0_pay17]
  rfl
theorem norm_prev (k : Fin 1024) :
    normV i x2 x3 x4 x5 (ix2 ⟨527, by norm_num⟩ k) = nrm (fun k => x4 (ix3 0 7 k)) (fun k => x5 (ix2 0 k)) k * (if 0 < (i 1).val then (1 : EReal) else 0) := by
  rw [← keep_prev (i 1).val (i 1).isLt]
  pointwise [normV, k0_pay22, k0_pay20, k0_pay21, k0_pay16, k0_pay17]
  rfl
end Rows

/-- A row of a block, its own and its neighbours' normalised rows given. -/
theorem outV_at (i : grid0.Coords) (x2 : Vec Ideal S1x512x1024 .f32) (x3 x4 : Vec Ideal S1x8x1024 .f32) (x5 : Vec Ideal S1x1024 .f32) (x6 : Vec Ideal S1024x5632 .bf16)
    (x7 : Vec Ideal S3x5632 .f32) (x8 : Vec Ideal S1x5632 .f32) (x9 : Vec Ideal S2816x1024 .bf16) (x10 : Vec Ideal S1x1024 .f32) (x11 : Vec Ideal S1x1x512x256 .f32)
    (x12 : Vec Ideal S1024x1024 .bf16) (x13 : Vec Ideal S256x1024 .bf16) (r : Fin 512) (e : Fin 1024) (u0 u1 u2 : Fin 1024 → EReal)
    (h0 : ∀ k, normV i x2 x3 x4 x5 (ix2 ⟨(r.val + 527) % 528, Nat.mod_lt _ (by norm_num)⟩ k) = u0 k)
    (h1 : ∀ k, normV i x2 x3 x4 x5 (ix2 ⟨r.val, by have := r.isLt; omega⟩ k) = u1 k)
    (h2 : ∀ k, normV i x2 x3 x4 x5 (ix2 ⟨(r.val + 1) % 528, Nat.mod_lt _ (by norm_num)⟩ k) = u2 k) :
    outV i x2 x3 x4 x5 x6 x7 x8 x9 x10 x11 x12 x13 (ix3 0 r e)
      = fin (mid (fun e => x2 (ix3 0 r e)) (down u0 u1 u2 (fun k c => x6 (ix2 k c)) (fun t c => x7 (ix2 t c)) (fun c => x8 (ix2 0 c)) (fun m e => x9 (ix2 m e)))
        (fun e => x10 (ix2 0 e))) (fun k => x11 (ix4 0 0 r k)) (fun k e => x13 (ix2 k e)) (fun k e => x12 (ix2 k e)) e := by
  have e1 : outV i x2 x3 x4 x5 x6 x7 x8 x9 x10 x11 x12 x13 (ix3 0 r e)
      = k0_pay30 (k0_pay18 x2) (accV (normV i x2 x3 x4 x5) x6 x7 x8 x9 11) x10 x12 x11 x13 (ix2 r e) := by
    pointwise [outV, k0_pay1]
  have e2 (e : Fin 1024) : k0_pay18 x2 (ix2 r e) = x2 (ix3 0 r e) := by pointwise [k0_pay18]
  rw [e1, pay30_at]
  simp only [accV_all, e2]
  rw [funext h0, funext h1, funext h2]
end Cert.Ffn

end
-- ==== Proof.FfnRef.lean ====
/-
  The reference of the feed-forward call over the extended reals, a row at a time.
-/
module

public import proofs.«01_k».proof.Proof.FfnRow
public import proofs.«01_k».proof.Proof.Gen.Reference2Ideal.Run

@[expose] public section

set_option maxRecDepth 16384

noncomputable section

namespace Cert.Ffn

open Cert.Reference2Ideal Cert.Reference2Ideal.Gen Cert.Reference2Ideal.Value
open Idealize.ShloMosaic Idealize.ShloMosaic.TcCoe

/-- The normalised row `q − 1` of a sequence: no row, so zero, before the first and after the last. -/
def uRow (x : Fin 8192 → Fin 1024 → EReal) (g : Fin 1024 → EReal) (q : ℕ) : Fin 1024 → EReal :=
  if h : 1 ≤ q ∧ q ≤ 8192 then nrm (x ⟨q - 1, by omega⟩) g else fun _ => 0

theorem upDot_zero (w : Fin 1024 → Fin 5632 → EReal) (c : Fin 5632) : upDot (fun _ => 0) w c = 0 := by
  unfold upDot
  simp

section
variable (V0 : Valuation Cert.Reference2Ideal.τ Cert.Reference2Ideal.sig (Elt Ideal))

/-- The reference's arguments, by coordinates. -/
abbrev xA (b : Fin 4) : Fin 8192 → Fin 1024 → EReal := fun q k => V0 (Proc.devRef .tc main_arg0) (ix3 b q k)
abbrev gA : Fin 1024 → EReal := fun k => V0 (Proc.devRef .tc main_arg1) (ix1 k)
abbrev wuA : Fin 1024 → Fin 5632 → EReal := fun k c => V0 (Proc.devRef .tc main_arg2) (ix2 k c)
abbrev cwA : Fin 3 → Fin 5632 → EReal := fun k c => V0 (Proc.devRef .tc main_arg3) (ix2 k c)
abbrev cbA : Fin 5632 → EReal := fun c => V0 (Proc.devRef .tc main_arg4) (ix1 c)
abbrev wdA : Fin 2816 → Fin 1024 → EReal := fun k c => V0 (Proc.devRef .tc main_arg5) (ix2 k c)
abbrev pA (b : Fin 4) (q : Fin 8192) : Fin 256 → EReal := fun k => V0 (Proc.devRef .tc main_arg7) (ix4 1 b q k)
abbrev wgA : Fin 1024 → Fin 1024 → EReal := fun k c => V0 (Proc.devRef .tc main_arg8) (ix2 k c)
abbrev wpA : Fin 256 → Fin 1024 → EReal := fun k c => V0 (Proc.devRef .tc main_arg9) (ix2 k c)
abbrev gpA : Fin 1024 → EReal := fun k => V0 (Proc.devRef .tc main_arg6) (ix1 k)

theorem sitofp_zero : (FloatOps.sitofp .f32 (0#32 : BitVec 32) : Ideal .f32) = (0 : EReal) := by
  show (((0#32 : BitVec 32).toInt : ℝ) : EReal) = 0
  simp
theorem v14_at (b : Fin 4) (q : Fin 8194) (c : Fin 5632) :
    res_main_v14 V0 (ix3 b q c) = upDot (uRow (xA V0 b) (gA V0) q.val) (wuA V0) c := by
  pointwise [res_main_v14]
  unfold uRow
  have hq := q.isLt
  by_cases h : 1 ≤ q.val ∧ q.val - 1 < 8192
  · rw [dif_pos h, dif_pos ⟨h.1, by omega⟩]
    rfl
  · rw [dif_neg h, dif_neg (fun h' => h ⟨h'.1, by omega⟩), upDot_zero]
    exact sitofp_zero
theorem v37_at (b : Fin 4) (q : Fin 8192) (c : Fin 5632) :
    res_main_v37 V0 (ix3 b q c) = conv (uRow (xA V0 b) (gA V0) q.val) (uRow (xA V0 b) (gA V0) (q.val + 1)) (uRow (xA V0 b) (gA V0) (q.val + 2)) (wuA V0) (cwA V0) (cbA V0) c := by
  pointwise [res_main_v37]
  simp only [v14_at]
  rw [Nat.add_comm 1 q.val]
  have e2 : 2 + q.val = q.val + 2 := Nat.add_comm _ _
  simp only [e2]
  rfl
theorem v54_at (b : Fin 4) (q : Fin 8192) (e : Fin 1024) :
    res_main_v54 V0 (ix3 b q e) = down (uRow (xA V0 b) (gA V0) q.val) (uRow (xA V0 b) (gA V0) (q.val + 1)) (uRow (xA V0 b) (gA V0) (q.val + 2)) (wuA V0) (cwA V0) (cbA V0) (wdA V0) e := by
  pointwise [res_main_v54, res_main_v39]
  simp only [v37_at]
  rfl
theorem v68_at (b : Fin 4) (q : Fin 8192) (e : Fin 1024) :
    res_main_v68 V0 (ix3 b q e) = mid (xA V0 b q) (down (uRow (xA V0 b) (gA V0) q.val) (uRow (xA V0 b) (gA V0) (q.val + 1)) (uRow (xA V0 b) (gA V0) (q.val + 2)) (wuA V0) (cwA V0) (cbA V0) (wdA V0)) (gpA V0) e := by
  pointwise [res_main_v68]
  simp only [v54_at]
  rfl

/-- What the reference leaves in its result, of the residual stream after the feed-forward part and of the arguments. -/
def res (x2 : FVec Ideal S4x8192x1024 .f32) (p : FVec Ideal S2x4x8192x256 .f32) (wg : FVec Ideal S1024x1024 .f32) (wp : FVec Ideal S256x1024 .f32) : FVec Ideal S4x8192x1024 .f32 :=
  addf x2 (mulf (Host.dotGeneral dot_S4x8192x256_S256x1024_S4x8192x1024_2_0_01_1_n_n none (shapeCast _ (extractStridedSlice S1x4x8192x256 ![1, 0, 0, 0] p slices_S2x4x8192x256_S1x4x8192x256_1_0_0_0) shapeCasts_S1x4x8192x256_S4x8192x256) wp) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (Host.dotGeneral dot_S4x8192x1024_S1024x1024_S4x8192x1024_2_0_01_1_n_n none x2 wg))))))
/-- The reference's result at a row. -/
theorem res_at (b : Fin 4) (q : Fin 8192) (e : Fin 1024) :
    res (res_main_v68 V0) (V0 (Proc.devRef .tc main_arg7)) (V0 (Proc.devRef .tc main_arg8)) (V0 (Proc.devRef .tc main_arg9)) (ix3 b q e) = fin (mid (xA V0 b q) (down (uRow (xA V0 b) (gA V0) q.val) (uRow (xA V0 b) (gA V0) (q.val + 1)) (uRow (xA V0 b) (gA V0) (q.val + 2)) (wuA V0) (cwA V0) (cbA V0) (wdA V0)) (gpA V0))
      (pA V0 b q) (wpA V0) (wgA V0) e := by
  pointwise [res]
  simp only [v68_at]
  rfl
end
end Cert.Ffn

end
-- ==== Proof.FfnValue.lean ====
/-
  The feed-forward call's value: the kernel's output array at an index is the reference's.
-/
module

public import proofs.«01_k».proof.Proof.FfnRun
public import proofs.«01_k».proof.Proof.FfnRow2
public import proofs.«01_k».proof.Proof.FfnRef
public import Idealize.ShloMosaic.Lib.StableHlo.ReadAt

@[expose] public section

set_option maxRecDepth 16384

noncomputable section

namespace Cert.Ffn

open Cert.Kernel2Ideal Cert.Kernel2Ideal.Gen
open Idealize.ShloMosaic Idealize.ShloMosaic.TcCoe
open Idealize.SL.Sem

/-- Where each window's block lies at a grid point. -/
theorem idx : ∀ t : Fin cfg0.N, win0_0.index t = ![t.val / 16, t.val % 16, 0] ∧ win0_1.index t = ![t.val / 16, min ((t.val % 16 + 1) * 64) 1023, 0]
    ∧ win0_2.index t = ![t.val / 16, t.val % 16 * 64 - 1, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![1, t.val / 16, t.val % 16, 0] ∧ win0_10.index t = ![0, 0] ∧ win0_11.index t = ![0, 0]
    ∧ win0_12.index t = ![t.val / 16, t.val % 16, 0] ∧ (grid0.coords t 1).val = t.val % 16 :=
  (by decide +kernel : ∀ t : Fin grid0.N, win0_0.index t = ![t.val / 16, t.val % 16, 0] ∧ win0_1.index t = ![t.val / 16, min ((t.val % 16 + 1) * 64) 1023, 0]
    ∧ win0_2.index t = ![t.val / 16, t.val % 16 * 64 - 1, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![1, t.val / 16, t.val % 16, 0] ∧ win0_10.index t = ![0, 0] ∧ win0_11.index t = ![0, 0]
    ∧ win0_12.index t = ![t.val / 16, t.val % 16, 0] ∧ (grid0.coords t 1).val = t.val % 16)

section
variable (m : (ℓ : Loc nD τ sig) → Buf (Elt Ideal) ℓ) (c : Dev nD)

/-- The grid point row `q` of sequence `b` is computed at. -/
def pointOf (b : Fin 4) (q : Fin 8192) : Fin cfg0.N := ⟨b.val * 16 + q.val / 512, by have := b.isLt; have := q.isLt; show _ < grid0.N; rw [N_0]; omega⟩
theorem pointOf_val (b : Fin 4) (q : Fin 8192) : (pointOf b q).val = b.val * 16 + q.val / 512 := rfl
/-- Its row within the block. -/
abbrev rowOf (q : Fin 8192) : Fin 512 := ⟨q.val % 512, Nat.mod_lt _ (by norm_num)⟩

theorem blk_x (b : Fin 4) (q q' : Fin 8192) (r : Fin 512) (k : Fin 1024) (e : q'.val = q.val / 512 * 512 + r.val) :
    iblk m c 0 (pointOf b q) (ix3 0 r k) = V m c main_arg0 (ix3 b q' k) := by
  have hb := b.isLt
  have hq := q.isLt
  have h := pointOf_val b q
  blk_ext [iblk, idx (pointOf b q)]
theorem blk_n (b : Fin 4) (q q' : Fin 8192) (k : Fin 1024) (e : q'.val = q.val / 512 * 512 + 512) :
    iblk m c 1 (pointOf b q) (ix3 0 0 k) = V m c main_arg0 (ix3 b q' k) := by
  have hb := b.isLt
  have hq := q.isLt
  have hq' := q'.isLt
  have h := pointOf_val b q
  blk_ext [iblk, idx (pointOf b q)]
theorem blk_p (b : Fin 4) (q q' : Fin 8192) (k : Fin 1024) (e : q'.val + 1 = q.val / 512 * 512) :
    iblk m c 2 (pointOf b q) (ix3 0 7 k) = V m c main_arg0 (ix3 b q' k) := by
  have hb := b.isLt
  have hq := q.isLt
  have hq' := q'.isLt
  have h := pointOf_val b q
  blk_ext [iblk, idx (pointOf b q)]
theorem blk_3 (t : Fin cfg0.N) (i : Fin 1) (j : Fin 1024) : iblk m c 3 t (ix2 i j) = V m c main_v4 (ix2 i j) := by blk_ext [iblk, idx t]
theorem blk_4 (t : Fin cfg0.N) (i : Fin 1024) (j : Fin 5632) : iblk m c 4 t (ix2 i j) = V m c main_v0 (ix2 i j) := by blk_ext [iblk, idx t]
theorem blk_5 (t : Fin cfg0.N) (i : Fin 3) (j : Fin 5632) : iblk m c 5 t (ix2 i j) = V m c main_arg3 (ix2 i j) := by blk_ext [iblk, idx t]
theorem blk_6 (t : Fin cfg0.N) (i : Fin 1) (j : Fin 5632) : iblk m c 6 t (ix2 i j) = V m c main_v5 (ix2 i j) := by blk_ext [iblk, idx t]
theorem blk_7 (t : Fin cfg0.N) (i : Fin 2816) (j : Fin 1024) : iblk m c 7 t (ix2 i j) = V m c main_v1 (ix2 i j) := by blk_ext [iblk, idx t]
theorem blk_8 (t : Fin cfg0.N) (i : Fin 1) (j : Fin 1024) : iblk m c 8 t (ix2 i j) = V m c main_v6 (ix2 i j) := by blk_ext [iblk, idx t]
theorem blk_9 (b : Fin 4) (q : Fin 8192) (k : Fin 256) : iblk m c 9 (pointOf b q) (ix4 0 0 (rowOf q) k) = V m c main_arg7 (ix4 1 b q k) := by
  have hb := b.isLt
  have hq := q.isLt
  have h := pointOf_val b q
  blk_ext [iblk, idx (pointOf b q)]
theorem blk_10 (t : Fin cfg0.N) (i : Fin 1024) (j : Fin 1024) : iblk m c 10 t (ix2 i j) = V m c main_v2 (ix2 i j) := by blk_ext [iblk, idx t]
theorem blk_11 (t : Fin cfg0.N) (i : Fin 256) (j : Fin 1024) : iblk m c 11 t (ix2 i j) = V m c main_v3 (ix2 i j) := by blk_ext [iblk, idx t]

/-- An element of the output array is in its block. -/
theorem blk_out (X : Buf (Elt Ideal) ((c.tc : Thread nD τ).loc main_v7)) (b : Fin 4) (q : Fin 8192) (e : Fin 1024) :
    ((cfg0.win 12).blk (pointOf b q)).view.read (Elt Ideal) X (ix3 0 (rowOf q) e) = X (ix3 b q e) := by
  have hb := b.isLt
  have hq := q.isLt
  have h := pointOf_val b q
  blk_ext [idx (pointOf b q)]

theorem V_v0 (k : Fin 1024) (j : Fin 5632) : V m c main_v0 (ix2 k j) = m ((c : Thread nD τ).loc main_arg2) (ix2 k j) := by
  unfold V
  after_reads_at
theorem V_v1 (k : Fin 2816) (j : Fin 1024) : V m c main_v1 (ix2 k j) = m ((c : Thread nD τ).loc main_arg5) (ix2 k j) := by
  unfold V
  after_reads_at
theorem V_v2 (k : Fin 1024) (j : Fin 1024) : V m c main_v2 (ix2 k j) = m ((c : Thread nD τ).loc main_arg8) (ix2 k j) := by
  unfold V
  after_reads_at
theorem V_v3 (k : Fin 256) (j : Fin 1024) : V m c main_v3 (ix2 k j) = m ((c : Thread nD τ).loc main_arg9) (ix2 k j) := by
  unfold V
  after_reads_at
theorem V_v4 (j : Fin 1024) : V m c main_v4 (ix2 0 j) = m ((c : Thread nD τ).loc main_arg1) (ix1 j) := by
  unfold V
  after_reads_at
theorem V_v5 (j : Fin 5632) : V m c main_v5 (ix2 0 j) = m ((c : Thread nD τ).loc main_arg4) (ix1 j) := by
  unfold V
  after_reads_at
theorem V_v6 (j : Fin 1024) : V m c main_v6 (ix2 0 j) = m ((c : Thread nD τ).loc main_arg6) (ix1 j) := by
  unfold V
  after_reads_at

/-! ## The two agree -/

/-- The kernel's arguments, by coordinates. -/
abbrev xK (b : Fin 4) : Fin 8192 → Fin 1024 → EReal := fun q k => m ((c : Thread nD τ).loc main_arg0) (ix3 b q k)
abbrev gK : Fin 1024 → EReal := fun k => m ((c : Thread nD τ).loc main_arg1) (ix1 k)
abbrev wuK : Fin 1024 → Fin 5632 → EReal := fun k j => m ((c : Thread nD τ).loc main_arg2) (ix2 k j)
abbrev cwK : Fin 3 → Fin 5632 → EReal := fun k j => m ((c : Thread nD τ).loc main_arg3) (ix2 k j)
abbrev cbK : Fin 5632 → EReal := fun j => m ((c : Thread nD τ).loc main_arg4) (ix1 j)
abbrev wdK : Fin 2816 → Fin 1024 → EReal := fun k j => m ((c : Thread nD τ).loc main_arg5) (ix2 k j)
abbrev gpK : Fin 1024 → EReal := fun k => m ((c : Thread nD τ).loc main_arg6) (ix1 k)
abbrev pK (b : Fin 4) (q : Fin 8192) : Fin 256 → EReal := fun k => m ((c : Thread nD τ).loc main_arg7) (ix4 1 b q k)
abbrev wgK : Fin 1024 → Fin 1024 → EReal := fun k j => m ((c : Thread nD τ).loc main_arg8) (ix2 k j)
abbrev wpK : Fin 256 → Fin 1024 → EReal := fun k j => m ((c : Thread nD τ).loc main_arg9) (ix2 k j)

/-- A block's normalised rows. -/
abbrev lhs (t : Fin cfg0.N) : FVec Ideal S528x1024 .bf16 := normV (grid0.coords t) (iblk m c 0 t) (iblk m c 1 t) (iblk m c 2 t) (iblk m c 3 t)

theorem gain (t : Fin cfg0.N) : (fun k => (iblk m c 3 t : Vec Ideal S1x1024 .f32) (ix2 0 k)) = gK m c :=
  funext fun k => (blk_3 m c t 0 k).trans (V_v4 m c k)

/-- A row of the block's own is the array's row, normalised. -/
theorem lhs_own (b : Fin 4) (q : Fin 8192) (r : Fin 512) (n : ℕ) (hn : n = q.val / 512 * 512 + r.val + 1) (k : Fin 1024) :
    lhs m c (pointOf b q) (ix2 ⟨r.val, by have := r.isLt; omega⟩ k) = uRow (xK m c b) (gK m c) n k := by
  have hq := q.isLt
  have hr := r.isLt
  refine (norm_own _ _ _ _ _ r k).trans ?_
  have hx : (fun k => (iblk m c 0 (pointOf b q) : Vec Ideal S1x512x1024 .f32) (ix3 0 r k)) = xK m c b ⟨n - 1, by omega⟩ :=
    funext fun k => (blk_x m c b q ⟨n - 1, by omega⟩ r k (by show n - 1 = _; omega)).trans (congrFun (V_main_arg0 m c) _)
  rw [gain, hx, uRow, dif_pos ⟨by omega, by omega⟩]

/-- The row after the block is the array's next row, normalised, or zero at the sequence's end. -/
theorem lhs_next (b : Fin 4) (q : Fin 8192) (k : Fin 1024) :
    lhs m c (pointOf b q) (ix2 ⟨512, by norm_num⟩ k) = uRow (xK m c b) (gK m c) (q.val / 512 * 512 + 513) k := by
  have hb := b.isLt
  have hq := q.isLt
  refine (norm_next _ _ _ _ _ k).trans ?_
  have hs : (grid0.coords (pointOf b q) 1).val = q.val / 512 := by
    rw [(idx (pointOf b q)).2.2.2.2.2.2.2.2.2.2.2.2.2, pointOf_val]; omega
  rw [hs, gain]
  by_cases h : q.val / 512 < 15
  · have hx : (fun k => (iblk m c 1 (pointOf b q) : Vec Ideal S1x8x1024 .f32) (ix3 0 0 k)) = xK m c b ⟨q.val / 512 * 512 + 513 - 1, by omega⟩ :=
      funext fun k => (blk_n m c b q ⟨q.val / 512 * 512 + 513 - 1, by omega⟩ k (by show q.val / 512 * 512 + 513 - 1 = _; omega)).trans (congrFun (V_main_arg0 m c) _)
    rw [if_pos h, mul_one, hx, uRow, dif_pos ⟨by omega, by omega⟩]
  · rw [if_neg h, mul_zero, uRow, dif_neg (by omega)]

/-- The row before the block is the array's previous row, normalised, or zero at the sequence's start. -/
theorem lhs_prev (b : Fin 4) (q : Fin 8192) (k : Fin 1024) :
    lhs m c (pointOf b q) (ix2 ⟨527, by norm_num⟩ k) = uRow (xK m c b) (gK m c) (q.val / 512 * 512) k := by
  have hb := b.isLt
  have hq := q.isLt
  refine (norm_prev _ _ _ _ _ k).trans ?_
  have hs : (grid0.coords (pointOf b q) 1).val = q.val / 512 := by
    rw [(idx (pointOf b q)).2.2.2.2.2.2.2.2.2.2.2.2.2, pointOf_val]; omega
  rw [hs, gain]
  by_cases h : 0 < q.val / 512
  · have hx : (fun k => (iblk m c 2 (pointOf b q) : Vec Ideal S1x8x1024 .f32) (ix3 0 7 k)) = xK m c b ⟨q.val / 512 * 512 - 1, by omega⟩ :=
      funext fun k => (blk_p m c b q ⟨q.val / 512 * 512 - 1, by omega⟩ k (by show q.val / 512 * 512 - 1 + 1 = _; omega)).trans (congrFun (V_main_arg0 m c) _)
    rw [if_pos h, mul_one, hx, uRow, dif_pos ⟨by omega, by omega⟩]
  · rw [if_neg h, mul_zero, uRow, dif_neg (by omega)]

/-- What the kernel leaves at a row is the finished row. -/
theorem out_at (b : Fin 4) (q : Fin 8192) (e : Fin 1024) :
    out m c (pointOf b q) (ix3 0 (rowOf q) e)
      = fin (mid (xK m c b q) (down (uRow (xK m c b) (gK m c) q.val) (uRow (xK m c b) (gK m c) (q.val + 1)) (uRow (xK m c b) (gK m c) (q.val + 2)) (wuK m c) (cwK m c) (cbK m c) (wdK m c)) (gpK m c))
        (pK m c b q) (wpK m c) (wgK m c) e := by
  have hq := q.isLt
  refine (outV_at _ _ _ _ _ _ _ _ _ _ _ _ _ (rowOf q) e (uRow (xK m c b) (gK m c) q.val) (uRow (xK m c b) (gK m c) (q.val + 1)) (uRow (xK m c b) (gK m c) (q.val + 2)) ?_ ?_ ?_).trans ?_
  · intro k
    by_cases h : q.val % 512 = 0
    · have e : (⟨((rowOf q).val + 527) % 528, Nat.mod_lt _ (by norm_num)⟩ : Fin 528) = ⟨527, by norm_num⟩ := Fin.ext (by show (q.val % 512 + 527) % 528 = 527; omega)
      rw [e]
      refine (lhs_prev m c b q k).trans ?_
      rw [show q.val / 512 * 512 = q.val by omega]
    · have e : (⟨((rowOf q).val + 527) % 528, Nat.mod_lt _ (by norm_num)⟩ : Fin 528) = ⟨(⟨q.val % 512 - 1, by omega⟩ : Fin 512).val, by show q.val % 512 - 1 < 528; omega⟩ :=
        Fin.ext (by show (q.val % 512 + 527) % 528 = q.val % 512 - 1; omega)
      rw [e]
      exact lhs_own m c b q ⟨q.val % 512 - 1, by omega⟩ _ (by show q.val = q.val / 512 * 512 + (q.val % 512 - 1) + 1; omega) k
  · intro k
    exact lhs_own m c b q (rowOf q) _ (by show q.val + 1 = q.val / 512 * 512 + q.val % 512 + 1; omega) k
  · intro k
    by_cases h : q.val % 512 = 511
    · have e : (⟨((rowOf q).val + 1) % 528, Nat.mod_lt _ (by norm_num)⟩ : Fin 528) = ⟨512, by norm_num⟩ := Fin.ext (by show (q.val % 512 + 1) % 528 = 512; omega)
      rw [e]
      refine (lhs_next m c b q k).trans ?_
      rw [show q.val / 512 * 512 + 513 = q.val + 2 by omega]
    · have e : (⟨((rowOf q).val + 1) % 528, Nat.mod_lt _ (by norm_num)⟩ : Fin 528) = ⟨(⟨q.val % 512 + 1, by omega⟩ : Fin 512).val, by show q.val % 512 + 1 < 528; omega⟩ :=
        Fin.ext (by show (q.val % 512 + 1) % 528 = q.val % 512 + 1; omega)
      rw [e]
      exact lhs_own m c b q ⟨q.val % 512 + 1, by omega⟩ _ (by show q.val + 2 = q.val / 512 * 512 + (q.val % 512 + 1) + 1; omega) k
  · have h0 : (fun e => (iblk m c 0 (pointOf b q) : Vec Ideal S1x512x1024 .f32) (ix3 0 (rowOf q) e)) = xK m c b q :=
      funext fun k => (blk_x m c b q q (rowOf q) k (by show q.val = q.val / 512 * 512 + q.val % 512; omega)).trans (congrFun (V_main_arg0 m c) _)
    have h4 : (fun k j => (iblk m c 4 (pointOf b q) : Vec Ideal S1024x5632 .bf16) (ix2 k j)) = wuK m c := funext fun k => funext fun j => (blk_4 m c _ k j).trans (V_v0 m c k j)
    have h5 : (fun k j => (iblk m c 5 (pointOf b q) : Vec Ideal S3x5632 .f32) (ix2 k j)) = cwK m c := funext fun k => funext fun j => (blk_5 m c _ k j).trans (congrFun (V_main_arg3 m c) _)
    have h6 : (fun j => (iblk m c 6 (pointOf b q) : Vec Ideal S1x5632 .f32) (ix2 0 j)) = cbK m c := funext fun j => (blk_6 m c _ 0 j).trans (V_v5 m c j)
    have h7 : (fun k j => (iblk m c 7 (pointOf b q) : Vec Ideal S2816x1024 .bf16) (ix2 k j)) = wdK m c := funext fun k => funext fun j => (blk_7 m c _ k j).trans (V_v1 m c k j)
    have h8 : (fun j => (iblk m c 8 (pointOf b q) : Vec Ideal S1x1024 .f32) (ix2 0 j)) = gpK m c := funext fun j => (blk_8 m c _ 0 j).trans (V_v6 m c j)
    have h9 : (fun k => (iblk m c 9 (pointOf b q) : Vec Ideal S1x1x512x256 .f32) (ix4 0 0 (rowOf q) k)) = pK m c b q := funext fun k => (blk_9 m c b q k).trans (congrFun (V_main_arg7 m c) _)
    have h10 : (fun k j => (iblk m c 10 (pointOf b q) : Vec Ideal S1024x1024 .bf16) (ix2 k j)) = wgK m c := funext fun k => funext fun j => (blk_10 m c _ k j).trans (V_v2 m c k j)
    have h11 : (fun k j => (iblk m c 11 (pointOf b q) : Vec Ideal S256x1024 .bf16) (ix2 k j)) = wpK m c := funext fun k => funext fun j => (blk_11 m c _ k j).trans (V_v3 m c k j)
    rw [h0, h4, h5, h6, h7, h8, h9, h10, h11]

/-- The output array, its blocks what the grid points leave, is the reference's result on the same arguments. -/
theorem array_eq (X : Buf (Elt Ideal) ((c.tc : Thread nD τ).loc main_v7))
    (h : ∀ t : Fin cfg0.N, ((cfg0.win 12).blk t).view.read (Elt Ideal) X = out m c t)
    (V0 : Valuation Cert.Reference2Ideal.τ Cert.Reference2Ideal.sig (Elt Ideal))
    (h0 : V0 (Proc.devRef .tc Cert.Reference2Ideal.main_arg0) = m ((c.tc : Thread nD τ).loc main_arg0))
    (h1 : V0 (Proc.devRef .tc Cert.Reference2Ideal.main_arg1) = m ((c.tc : Thread nD τ).loc main_arg1))
    (h2 : V0 (Proc.devRef .tc Cert.Reference2Ideal.main_arg2) = m ((c.tc : Thread nD τ).loc main_arg2))
    (h3 : V0 (Proc.devRef .tc Cert.Reference2Ideal.main_arg3) = m ((c.tc : Thread nD τ).loc main_arg3))
    (h4 : V0 (Proc.devRef .tc Cert.Reference2Ideal.main_arg4) = m ((c.tc : Thread nD τ).loc main_arg4))
    (h5 : V0 (Proc.devRef .tc Cert.Reference2Ideal.main_arg5) = m ((c.tc : Thread nD τ).loc main_arg5))
    (h6 : V0 (Proc.devRef .tc Cert.Reference2Ideal.main_arg6) = m ((c.tc : Thread nD τ).loc main_arg6))
    (h7 : V0 (Proc.devRef .tc Cert.Reference2Ideal.main_arg7) = m ((c.tc : Thread nD τ).loc main_arg7))
    (h8 : V0 (Proc.devRef .tc Cert.Reference2Ideal.main_arg8) = m ((c.tc : Thread nD τ).loc main_arg8))
    (h9 : V0 (Proc.devRef .tc Cert.Reference2Ideal.main_arg9) = m ((c.tc : Thread nD τ).loc main_arg9)) :
    X = res (Cert.Reference2Ideal.Value.res_main_v68 V0) (V0 (Proc.devRef .tc Cert.Reference2Ideal.main_arg7)) (V0 (Proc.devRef .tc Cert.Reference2Ideal.main_arg8)) (V0 (Proc.devRef .tc Cert.Reference2Ideal.main_arg9)) := by
  funext i
  obtain ⟨b, q, e, rfl⟩ : ∃ (b : Fin 4) (q : Fin 8192) (e : Fin 1024), i = ix3 b q e := ⟨i 0, i 1, i 2, by funext k; fin_cases k <;> rfl⟩
  refine ((blk_out c X b q e).symm.trans (congrFun (h (pointOf b q)) _)).trans ((out_at m c b q e).trans (Eq.trans ?_ (res_at V0 b q e).symm))
  have e0 : xA V0 = xK m c := by unfold xA xK; rw [h0]
  have e1 : gA V0 = gK m c := by unfold gA gK; rw [h1]
  have e2 : wuA V0 = wuK m c := by unfold wuA wuK; rw [h2]
  have e3 : cwA V0 = cwK m c := by unfold cwA cwK; rw [h3]
  have e4 : cbA V0 = cbK m c := by unfold cbA cbK; rw [h4]
  have e5 : wdA V0 = wdK m c := by unfold wdA wdK; rw [h5]
  have e6 : gpA V0 = gpK m c := by unfold gpA gpK; rw [h6]
  have e7 : pA V0 = pK m c := by unfold pA pK; rw [h7]
  have e8 : wgA V0 = wgK m c := by unfold wgA wgK; rw [h8]
  have e9 : wpA V0 = wpK m c := by unfold wpA wpK; rw [h9]
  rw [e0, e1, e2, e3, e4, e5, e6, e7, e8, e9]
end
end Cert.Ffn

end
-- ==== Proof.FfnWords.lean ====
/-
  The feed-forward kernel at the machine's words. Its program and the ideal reading's differ in two named constants alone;
  with each name read as the word it was printed from the two are one program, and the run of the one is the run of the other.
-/
module

public import proofs.«01_k».proof.Defs
public import proofs.«01_k».proof.Proof.Gen.Kernel2
public import proofs.«01_k».proof.Proof.FfnRun

@[expose] public section

set_option maxRecDepth 16384

noncomputable section

namespace Cert.Ffn

open Idealize.ShloMosaic Idealize.ShloMosaic.TcCoe Idealize.SL.Sem

/-- At the machine's words a named constant is the word it was printed from. -/
@[reducible] def words : Named Bits := ⟨fun _ _ {φ} b => Scalar.ofBits φ b⟩

attribute [local instance] words

/-- The two bodies are one. -/
theorem body_words : Cert.Kernel2.cc0_ffn (F := Bits) = Cert.Kernel2Ideal.cc0_ffn (F := Bits) := rfl

/-- The two body tables are one. -/
theorem bodies_words : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl
  | ⟨n + 1, h⟩, _ => exact absurd h (Nat.not_lt.2 (Nat.le_add_left _ _))

/-- The two programs' definitions are one. -/
theorem defs_words : Cert.Kernel2.defs (F := Bits) = Cert.Kernel2Ideal.defs (F := Bits) := by
  unfold Cert.Kernel2.defs Cert.Kernel2Ideal.defs
  exact congrArg (Pipeline.defs (Cert.Kernel2.pcfgs (F := Bits))) bodies_words

/-- The kernel at the machine's words terminates, its arguments unchanged and every counter at zero. -/
theorem frame_words : Cert.quiescent_Kernel2 := fun m ρ _ =>
  (congrArg (fun d => θ_run d (onTc (τ := Cert.Kernel2.τ) (Cert.Kernel2.main (F := Bits))) ⟨m, fun _ => 0, ρ⟩ _) defs_words).mpr (frame (F := Bits) m ρ)

end Cert.Ffn

end
-- ==== Proof.InRow.lean ====
/-
  One element of an input projection over the extended reals, and the references' arrays for it.
-/
module

public import proofs.«01_k».proof.Proof.Gen.Reference3Ideal
public import proofs.«01_k».proof.Proof.Gen.Reference4Ideal
public import Idealize.ShloMosaic.Lib.Pipeline.ValueKit

@[expose] public section

set_option maxRecDepth 16384

noncomputable section

open Idealize.ShloMosaic Idealize.ShloMosaic.TcCoe

namespace Cert.InProj

/-- The integer zero as a float. -/
theorem int_zero : (FloatOps.sitofp (F := Ideal) FTy.f32 (0#32 : BitVec 32) : EReal) = 0 := by
  show (((0#32 : BitVec 32).toInt : ℝ) : EReal) = 0
  simp

/-- A row divided by its root mean square and scaled, then multiplied by one column. -/
def dotRow (x g w : Fin 1024 → EReal) : EReal :=
  ∑ j, x j * Ideal.rsqrt (Ideal.div (∑ k, x k * x k) (Ideal.ofBits .f32 0x44800000#32) + Ideal.ofBits .f32 0x358637BD#32) * g j * w j

/-- Against a column of zeros it is zero. -/
theorem dotRow_zero (x g w : Fin 1024 → EReal) (h : ∀ k, w k = 0) : dotRow x g w = 0 :=
  Finset.sum_eq_zero fun k _ => by rw [h, mul_zero]

end Cert.InProj

namespace Cert.InOdd.Ref

open Cert.Reference3Ideal Cert.Reference3Ideal.Gen Cert.InProj

/-- The odd layer's projected rows. -/
abbrev product (X : FVec Ideal S32768x1024 .f32) (G : FVec Ideal S1024 .f32) (W : FVec Ideal S1024x3104 .f32) : FVec Ideal S32768x3104 .f32 :=
  Host.dotGeneral dot_S32768x1024_S1024x3104_S32768x3104_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 G))) W
/-- Queries and keys. -/
abbrev qk (X : FVec Ideal S32768x1024 .f32) (G : FVec Ideal S1024 .f32) (W : FVec Ideal S1024x3104 .f32) : FVec Ideal S32768x1024 .bf16 :=
  truncf .bf16 (extractStridedSlice S32768x1024 ![0, 0] (product X G W) slices_S32768x3104_S32768x1024_0_0) bitsLt_bf16_f32
/-- Values. -/
abbrev val (X : FVec Ideal S32768x1024 .f32) (G : FVec Ideal S1024 .f32) (W : FVec Ideal S1024x3104 .f32) : FVec Ideal S32768x1024 .bf16 :=
  truncf .bf16 (extractStridedSlice S32768x1024 ![0, 1024] (product X G W) slices_S32768x3104_S32768x1024_0_1024) bitsLt_bf16_f32
/-- The output gate. -/
abbrev gate (X : FVec Ideal S32768x1024 .f32) (G : FVec Ideal S1024 .f32) (W : FVec Ideal S1024x3104 .f32) : FVec Ideal S32768x1024 .bf16 :=
  truncf .bf16 (extractStridedSlice S32768x1024 ![0, 2048] (product X G W) slices_S32768x3104_S32768x1024_0_2048) bitsLt_bf16_f32
/-- The decay's low-rank part, on 128 lanes. -/
abbrev low (X : FVec Ideal S32768x1024 .f32) (G : FVec Ideal S1024 .f32) (W : FVec Ideal S1024x3104 .f32) : FVec Ideal S32768x128 .f32 :=
  pad S32768x128 ![0, 0] ![0, 96] ![0, 0] (extractStridedSlice S32768x32 ![0, 3072] (product X G W) slices_S32768x3104_S32768x32_0_3072) (sitofp .f32 (constantI S_ 32 0#32)) pads_S32768x32_S32768x128_000_0960 h_S_

variable (X : FVec Ideal S32768x1024 .f32) (G : FVec Ideal S1024 .f32) (W : FVec Ideal S1024x3104 .f32)

/-- An entry of the queries and keys. -/
theorem qk_at (q : Fin 32768) (j : Fin 1024) (k : Fin 3104) (e : k.val = j.val) :
    qk X G W (ix2 q j) = dotRow (fun a => X (ix2 q a)) (fun a => G (ix1 a)) (fun a => W (ix2 a k)) := by
  unfold dotRow
  pointwise [qk]
  blk_point []
/-- An entry of the values. -/
theorem val_at (q : Fin 32768) (j : Fin 1024) (k : Fin 3104) (e : k.val = 1024 + j.val) :
    val X G W (ix2 q j) = dotRow (fun a => X (ix2 q a)) (fun a => G (ix1 a)) (fun a => W (ix2 a k)) := by
  unfold dotRow
  pointwise [val]
  blk_point []
/-- An entry of the output gate. -/
theorem gate_at (q : Fin 32768) (j : Fin 1024) (k : Fin 3104) (e : k.val = 2048 + j.val) :
    gate X G W (ix2 q j) = dotRow (fun a => X (ix2 q a)) (fun a => G (ix1 a)) (fun a => W (ix2 a k)) := by
  unfold dotRow
  pointwise [gate]
  blk_point []
/-- An entry of the low-rank part, in its 32 columns. -/
theorem low_at (q : Fin 32768) (j : Fin 128) (k : Fin 3104) (e : k.val = 3072 + j.val) :
    low X G W (ix2 q j) = dotRow (fun a => X (ix2 q a)) (fun a => G (ix1 a)) (fun a => W (ix2 a k)) := by
  unfold dotRow
  pointwise [low]
  have hk := k.isLt
  rw [dif_pos (by omega)]
  blk_point []
/-- Past its 32 columns the low-rank part is zero. -/
theorem low_pad (q : Fin 32768) (j : Fin 128) (h : 32 ≤ j.val) : low X G W (ix2 q j) = (0 : EReal) := by
  pointwise [low]
  rw [dif_neg (by omega)]
  exact int_zero

/-! Equal arguments give equal arrays. -/

section
variable {X X' : FVec Ideal S32768x1024 .f32} {G G' : FVec Ideal S1024 .f32} {W W' : FVec Ideal S1024x3104 .f32} (hX : X' = X) (hG : G' = G) (hW : W' = W)
include hX hG hW
/-- Equal arguments give equal queries and keys. -/
theorem qk_congr : qk X' G' W' = qk X G W := by rw [hX, hG, hW]
/-- Equal arguments give equal values. -/
theorem val_congr : val X' G' W' = val X G W := by rw [hX, hG, hW]
/-- Equal arguments give equal output gates. -/
theorem gate_congr : gate X' G' W' = gate X G W := by rw [hX, hG, hW]
/-- Equal arguments give equal low-rank parts. -/
theorem low_congr : low X' G' W' = low X G W := by rw [hX, hG, hW]
end

end Cert.InOdd.Ref

namespace Cert.InEven.Ref

open Cert.Reference4Ideal Cert.Reference4Ideal.Gen Cert.InProj

/-- The even layer's projected rows. -/
abbrev product (X : FVec Ideal S32768x1024 .f32) (G : FVec Ideal S1024 .f32) (W : FVec Ideal S1024x3600 .f32) : FVec Ideal S32768x3600 .f32 :=
  Host.dotGeneral dot_S32768x1024_S1024x3600_S32768x3600_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 G))) W
/-- Queries, keys and values of the neighbourhood attention. -/
abbrev att (X : FVec Ideal S32768x1024 .f32) (G : FVec Ideal S1024 .f32) (W : FVec Ideal S1024x3600 .f32) : FVec Ideal S32768x1536 .bf16 :=
  truncf .bf16 (extractStridedSlice S32768x1536 ![0, 0] (product X G W) slices_S32768x3600_S32768x1536_0_0) bitsLt_bf16_f32
/-- Queries, keys, values and output gate of the mLSTM. -/
abbrev mem (X : FVec Ideal S32768x1024 .f32) (G : FVec Ideal S1024 .f32) (W : FVec Ideal S1024x3600 .f32) : FVec Ideal S32768x2048 .bf16 :=
  truncf .bf16 (extractStridedSlice S32768x2048 ![0, 1536] (product X G W) slices_S32768x3600_S32768x2048_0_1536) bitsLt_bf16_f32
/-- The mLSTM's input and forget gates, one row for each. -/
abbrev gates (X : FVec Ideal S32768x1024 .f32) (G : FVec Ideal S1024 .f32) (W : FVec Ideal S1024x3600 .f32) : FVec Ideal S16x32768 .f32 :=
  transpose S16x32768 [1, 0] (extractStridedSlice S32768x16 ![0, 3584] (product X G W) slices_S32768x3600_S32768x16_0_3584) transposes_S32768x16_S16x32768_1_0

variable (X : FVec Ideal S32768x1024 .f32) (G : FVec Ideal S1024 .f32) (W : FVec Ideal S1024x3600 .f32)

/-- An entry of the attention's columns. -/
theorem att_at (q : Fin 32768) (j : Fin 1536) (k : Fin 3600) (e : k.val = j.val) :
    att X G W (ix2 q j) = dotRow (fun a => X (ix2 q a)) (fun a => G (ix1 a)) (fun a => W (ix2 a k)) := by
  unfold dotRow
  pointwise [att]
  blk_point []
/-- An entry of the mLSTM's columns. -/
theorem mem_at (q : Fin 32768) (j : Fin 2048) (k : Fin 3600) (e : k.val = 1536 + j.val) :
    mem X G W (ix2 q j) = dotRow (fun a => X (ix2 q a)) (fun a => G (ix1 a)) (fun a => W (ix2 a k)) := by
  unfold dotRow
  pointwise [mem]
  blk_point []
/-- An entry of the gates. -/
theorem gates_at (j : Fin 16) (q : Fin 32768) (k : Fin 3600) (e : k.val = 3584 + j.val) :
    gates X G W (ix2 j q) = dotRow (fun a => X (ix2 q a)) (fun a => G (ix1 a)) (fun a => W (ix2 a k)) := by
  unfold dotRow
  pointwise [gates]
  blk_point []

/-! Equal arguments give equal arrays. -/

section
variable {X X' : FVec Ideal S32768x1024 .f32} {G G' : FVec Ideal S1024 .f32} {W W' : FVec Ideal S1024x3600 .f32} (hX : X' = X) (hG : G' = G) (hW : W' = W)
include hX hG hW
/-- Equal arguments give equal columns of the attention. -/
theorem att_congr : att X' G' W' = att X G W := by rw [hX, hG, hW]
/-- Equal arguments give equal columns of the mLSTM. -/
theorem mem_congr : mem X' G' W' = mem X G W := by rw [hX, hG, hW]
/-- Equal arguments give equal gates. -/
theorem gates_congr : gates X' G' W' = gates X G W := by rw [hX, hG, hW]
end

end Cert.InEven.Ref

end
-- ==== Proof.InOdd.lean ====
/-
  The odd layer's input projection: what the kernel leaves in its four result arrays.
-/
module

public import proofs.«01_k».proof.Proof.Gen.Kernel3Ideal.Value
public import proofs.«01_k».proof.Proof.InRow
public import Idealize.ShloMosaic.Lib.StableHlo.ReadAt

@[expose] public section

set_option maxRecDepth 16384

noncomputable section

namespace Cert.InOdd

open Cert.Kernel3Ideal Cert.Kernel3Ideal.Gen Cert.InProj
open Idealize.ShloMosaic Idealize.ShloMosaic.TcCoe
open Idealize.SL.Sem

/-! ## What a grid point stores -/

section
variable (a : Vec Ideal S512x1024 .f32) (g : Vec Ideal S1x1024 .f32) (w : Vec Ideal S1024x3200 .bf16)

/-- An entry of the first output block: a normalised row against a column. -/
theorem out3_at (y : S512x1024.Idx) (r : Fin 512) (k : Fin 3200) (e0 : (y 0 : ℕ) = r) (e1 : k.val = (y 1 : ℕ)) :
    out0_3 a g w y = dotRow (fun c => a (ix2 r c)) (fun c => g (ix2 0 c)) (fun c => w (ix2 c k)) := by
  unfold dotRow out0_3
  canon_tiles x h
  all_goals
    open_payloads
    pointwise
    blk_point []
/-- The same for the second. -/
theorem out4_at (y : S512x1024.Idx) (r : Fin 512) (k : Fin 3200) (e0 : (y 0 : ℕ) = r) (e1 : k.val = 1024 + (y 1 : ℕ)) :
    out0_4 a g w y = dotRow (fun c => a (ix2 r c)) (fun c => g (ix2 0 c)) (fun c => w (ix2 c k)) := by
  unfold dotRow out0_4 k0_pay9
  canon_tiles x h
  all_goals
    open_payloads
    pointwise
    blk_point []
/-- The same for the third. -/
theorem out5_at (y : S512x1024.Idx) (r : Fin 512) (k : Fin 3200) (e0 : (y 0 : ℕ) = r) (e1 : k.val = 2048 + (y 1 : ℕ)) :
    out0_5 a g w y = dotRow (fun c => a (ix2 r c)) (fun c => g (ix2 0 c)) (fun c => w (ix2 c k)) := by
  unfold dotRow out0_5 k0_pay9
  canon_tiles x h
  all_goals
    open_payloads
    pointwise
    blk_point []
/-- The same for the fourth. -/
theorem out6_at (y : S512x128.Idx) (r : Fin 512) (k : Fin 3200) (e0 : (y 0 : ℕ) = r) (e1 : k.val = 3072 + (y 1 : ℕ)) :
    out0_6 a g w y = dotRow (fun c => a (ix2 r c)) (fun c => g (ix2 0 c)) (fun c => w (ix2 c k)) := by
  unfold dotRow out0_6 k0_pay9
  canon_tiles x h
  all_goals
    open_payloads
    pointwise
    blk_point []
end

/-! ## The blocks of the arguments -/

/-- Where each window's block lies at a grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0])

variable (m : (ℓ : Loc nD τ sig) → Buf (Elt Ideal) ℓ) (c : Dev nD)

/-- A block of rows is those rows of the array. -/
theorem blk_x (t : Fin cfg0.N) (r : Fin 512) (q : Fin 32768) (e : q.val = t.val * 512 + r.val) (k : Fin 1024) :
    iblk m c 0 t (ix2 r k) = m ((c : Thread nD τ).loc main_arg0) (ix2 q k) := by
  rw [← V_main_arg0 m c]
  blk_ext [iblk, idx t]
/-- The gain, as the call has it. -/
theorem V_g (j : Fin 1024) : V m c main_v2 (ix2 0 j) = m ((c : Thread nD τ).loc main_arg1) (ix1 j) := by
  unfold V
  after_reads_at
/-- The gain's block is the gain. -/
theorem blk_g (t : Fin cfg0.N) (j : Fin 1024) : iblk m c 1 t (ix2 0 j) = m ((c : Thread nD τ).loc main_arg1) (ix1 j) := by
  rw [← V_g m c]
  blk_ext [iblk, idx t]
/-- The padded weights, in the columns of the weights. -/
theorem V_w (a : Fin 1024) (k : Fin 3200) (j : Fin 3104) (e : j.val = k.val) : V m c main_v1 (ix2 a k) = m ((c : Thread nD τ).loc main_arg2) (ix2 a j) := by
  unfold V
  after_reads_at
  have hj := j.isLt
  rw [dif_pos (by omega)]
  blk_ext []
/-- The padded weights past them: zero. -/
theorem V_w0 (a : Fin 1024) (k : Fin 3200) (h : 3104 ≤ k.val) : V m c main_v1 (ix2 a k) = (0 : EReal) := by
  unfold V
  after_reads_at
  rw [dif_neg (by omega)]
  exact int_zero
/-- The weights' block is the weights as the call has them. -/
theorem blk_w (t : Fin cfg0.N) (a : Fin 1024) (k : Fin 3200) : iblk m c 2 t (ix2 a k) = V m c main_v1 (ix2 a k) := by
  blk_ext [iblk, idx t]

/-! ## The result arrays -/

/-- The kernel's rows. -/
abbrev X : FVec Ideal S32768x1024 .f32 := m ((c : Thread nD τ).loc main_arg0)
/-- The gain. -/
abbrev G : FVec Ideal S1024 .f32 := m ((c : Thread nD τ).loc main_arg1)
/-- The weights. -/
abbrev W : FVec Ideal S1024x3104 .f32 := m ((c : Thread nD τ).loc main_arg2)

/-- A row of a block against a column of the padded weights is the array's row against the column of the weights. -/
theorem row_eq (t : Fin cfg0.N) (r : Fin 512) (q : Fin 32768) (e : q.val = t.val * 512 + r.val) (k : Fin 3200) (j : Fin 3104) (h : j.val = k.val) :
    dotRow (fun a => (iblk m c 0 t : Vec Ideal S512x1024 .f32) (ix2 r a)) (fun a => (iblk m c 1 t : Vec Ideal S1x1024 .f32) (ix2 0 a))
        (fun a => (iblk m c 2 t : Vec Ideal S1024x3200 .bf16) (ix2 a k))
      = dotRow (fun a => X m c (ix2 q a)) (fun a => G m c (ix1 a)) (fun a => W m c (ix2 a j)) := by
  have h0 : (fun a => (iblk m c 0 t : Vec Ideal S512x1024 .f32) (ix2 r a)) = fun a => X m c (ix2 q a) := funext fun a => blk_x m c t r q e a
  have h1 : (fun a => (iblk m c 1 t : Vec Ideal S1x1024 .f32) (ix2 0 a)) = fun a => G m c (ix1 a) := funext fun a => blk_g m c t a
  have h2 : (fun a => (iblk m c 2 t : Vec Ideal S1024x3200 .bf16) (ix2 a k)) = fun a => W m c (ix2 a j) :=
    funext fun a => (blk_w m c t a k).trans (V_w m c a k j h)
  rw [h0, h1, h2]

/-- There are 64 grid points. -/
theorem t_lt (t : Fin cfg0.N) : t.val < 64 := lt_of_lt_of_eq t.isLt N_0

/-- What a grid point leaves of the queries and keys is the reference's. -/
theorem point3 (t : Fin cfg0.N) (y : S512x1024.Idx) :
    out0_3 (iblk m c 0 t) (iblk m c 1 t) (iblk m c 2 t) y = Ref.qk (X m c) (G m c) (W m c) (((cfg0.win 3).blk t).view.emb y) := by
  have ht := t_lt t
  have hy : (y 0 : ℕ) < 512 := (y 0).isLt
  have hy' : (y 1 : ℕ) < 1024 := (y 1).isLt
  have e : (((cfg0.win 3).blk t).view.emb y) = ix2 ⟨t.val * 512 + (y 0).val, by omega⟩ ⟨(y 1).val, by omega⟩ := by blk_ext [idx t]
  rw [e]
  refine Eq.trans ?_ (Ref.qk_at _ _ _ _ _ ⟨(y 1).val, by omega⟩ rfl).symm
  exact (out3_at _ _ _ y ⟨(y 0).val, by omega⟩ ⟨(y 1).val, by omega⟩ rfl rfl).trans (row_eq m c t _ _ rfl _ _ rfl)

/-- What a grid point leaves of the values is the reference's. -/
theorem point4 (t : Fin cfg0.N) (y : S512x1024.Idx) :
    out0_4 (iblk m c 0 t) (iblk m c 1 t) (iblk m c 2 t) y = Ref.val (X m c) (G m c) (W m c) (((cfg0.win 4).blk t).view.emb y) := by
  have ht := t_lt t
  have hy : (y 0 : ℕ) < 512 := (y 0).isLt
  have hy' : (y 1 : ℕ) < 1024 := (y 1).isLt
  have e : (((cfg0.win 4).blk t).view.emb y) = ix2 ⟨t.val * 512 + (y 0).val, by omega⟩ ⟨(y 1).val, by omega⟩ := by blk_ext [idx t]
  rw [e]
  refine Eq.trans ?_ (Ref.val_at _ _ _ _ _ ⟨1024 + (y 1).val, by omega⟩ rfl).symm
  exact (out4_at _ _ _ y ⟨(y 0).val, by omega⟩ ⟨1024 + (y 1).val, by omega⟩ rfl rfl).trans (row_eq m c t _ _ rfl _ _ rfl)

/-- What a grid point leaves of the output gate is the reference's. -/
theorem point5 (t : Fin cfg0.N) (y : S512x1024.Idx) :
    out0_5 (iblk m c 0 t) (iblk m c 1 t) (iblk m c 2 t) y = Ref.gate (X m c) (G m c) (W m c) (((cfg0.win 5).blk t).view.emb y) := by
  have ht := t_lt t
  have hy : (y 0 : ℕ) < 512 := (y 0).isLt
  have hy' : (y 1 : ℕ) < 1024 := (y 1).isLt
  have e : (((cfg0.win 5).blk t).view.emb y) = ix2 ⟨t.val * 512 + (y 0).val, by omega⟩ ⟨(y 1).val, by omega⟩ := by blk_ext [idx t]
  rw [e]
  refine Eq.trans ?_ (Ref.gate_at _ _ _ _ _ ⟨2048 + (y 1).val, by omega⟩ rfl).symm
  exact (out5_at _ _ _ y ⟨(y 0).val, by omega⟩ ⟨2048 + (y 1).val, by omega⟩ rfl rfl).trans (row_eq m c t _ _ rfl _ _ rfl)

/-- What a grid point leaves of the decay's low-rank part is the reference's; past its 32 columns both are zero. -/
theorem point6 (t : Fin cfg0.N) (y : S512x128.Idx) :
    out0_6 (iblk m c 0 t) (iblk m c 1 t) (iblk m c 2 t) y = Ref.low (X m c) (G m c) (W m c) (((cfg0.win 6).blk t).view.emb y) := by
  have ht := t_lt t
  have hy : (y 0 : ℕ) < 512 := (y 0).isLt
  have hy' : (y 1 : ℕ) < 128 := (y 1).isLt
  have e : (((cfg0.win 6).blk t).view.emb y) = ix2 ⟨t.val * 512 + (y 0).val, by omega⟩ ⟨(y 1).val, by omega⟩ := by blk_ext [idx t]
  rw [e]
  refine (out6_at _ _ _ y ⟨(y 0).val, by omega⟩ ⟨3072 + (y 1).val, by omega⟩ rfl rfl).trans ?_
  by_cases h : (y 1 : ℕ) < 32
  · refine Eq.trans ?_ (Ref.low_at _ _ _ _ _ ⟨3072 + (y 1).val, by omega⟩ rfl).symm
    exact row_eq m c t _ _ rfl _ _ rfl
  · refine Eq.trans ?_ (Ref.low_pad _ _ _ _ _ (by show 32 ≤ (y 1).val; omega)).symm
    exact dotRow_zero _ _ _ fun a => (blk_w m c t a _).trans (V_w0 m c a _ (by show 3104 ≤ 3072 + (y 1).val; omega))

/-- The queries and keys are the reference's. -/
theorem final3 : (dats m 0 c).arrAt 3 cfg0.N = Ref.qk (X m c) (G m c) (W m c) := by
  refine (dats m 0 c).arrAt_eq_of_covers 3 _ (by decide +kernel) fun t _ y => ?_
  blk_simp
  rw [after0_3]
  exact point3 m c t y
/-- The values are the reference's. -/
theorem final4 : (dats m 0 c).arrAt 4 cfg0.N = Ref.val (X m c) (G m c) (W m c) := by
  refine (dats m 0 c).arrAt_eq_of_covers 4 _ (by decide +kernel) fun t _ y => ?_
  blk_simp
  rw [after0_4]
  exact point4 m c t y
/-- The output gate is the reference's. -/
theorem final5 : (dats m 0 c).arrAt 5 cfg0.N = Ref.gate (X m c) (G m c) (W m c) := by
  refine (dats m 0 c).arrAt_eq_of_covers 5 _ (by decide +kernel) fun t _ y => ?_
  blk_simp
  rw [after0_5]
  exact point5 m c t y
/-- The low-rank part is the reference's. -/
theorem final6 : (dats m 0 c).arrAt 6 cfg0.N = Ref.low (X m c) (G m c) (W m c) := by
  refine (dats m 0 c).arrAt_eq_of_covers 6 _ (by decide +kernel) fun t _ y => ?_
  blk_simp
  rw [after0_6]
  exact point6 m c t y

end Cert.InOdd

end
-- ==== Proof.InEven.lean ====
/-
  The even layer's input projection: what the kernel leaves in its three result arrays.
-/
module

public import proofs.«01_k».proof.Proof.Gen.Kernel4Ideal.Value
public import proofs.«01_k».proof.Proof.InRow
public import Idealize.ShloMosaic.Lib.StableHlo.ReadAt

@[expose] public section

set_option maxRecDepth 16384

noncomputable section

namespace Cert.InEven

open Cert.Kernel4Ideal Cert.Kernel4Ideal.Gen Cert.InProj
open Idealize.ShloMosaic Idealize.ShloMosaic.TcCoe
open Idealize.SL.Sem

/-! ## What a grid point stores -/

section
variable (a : Vec Ideal S512x1024 .f32) (g : Vec Ideal S1x1024 .f32) (w : Vec Ideal S1024x3584 .bf16) (v : Vec Ideal S16x1024 .bf16)

/-- An entry of the first output block: a normalised row against a column. -/
theorem out4_at (y : S512x1536.Idx) (r : Fin 512) (k : Fin 3584) (e0 : (y 0 : ℕ) = r) (e1 : k.val = (y 1 : ℕ)) :
    out0_4 a g w v y = dotRow (fun c => a (ix2 r c)) (fun c => g (ix2 0 c)) (fun c => w (ix2 c k)) := by
  unfold dotRow out0_4
  canon_tiles x h
  all_goals
    open_payloads
    pointwise
    blk_point []
/-- The same for the second. -/
theorem out5_at (y : S512x2048.Idx) (r : Fin 512) (k : Fin 3584) (e0 : (y 0 : ℕ) = r) (e1 : k.val = 1536 + (y 1 : ℕ)) :
    out0_5 a g w v y = dotRow (fun c => a (ix2 r c)) (fun c => g (ix2 0 c)) (fun c => w (ix2 c k)) := by
  unfold dotRow out0_5 k0_pay10
  canon_tiles x h
  all_goals
    open_payloads
    pointwise
    blk_point []
/-- The same for the third, whose rows are the columns. -/
theorem out6_at (y : S16x512.Idx) (r : Fin 512) (k : Fin 16) (e0 : (y 1 : ℕ) = r) (e1 : k.val = (y 0 : ℕ)) :
    out0_6 a g w v y = dotRow (fun c => a (ix2 r c)) (fun c => g (ix2 0 c)) (fun c => v (ix2 k c)) := by
  unfold dotRow out0_6 k0_pay10
  canon_tiles x h
  all_goals
    open_payloads
    pointwise
    blk_point []
end

/-! ## The blocks of the arguments -/

/-- Where each window's block lies at a grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![0, t.val])

variable (m : (ℓ : Loc nD τ sig) → Buf (Elt Ideal) ℓ) (c : Dev nD)

/-- A block of rows is those rows of the array. -/
theorem blk_x (t : Fin cfg0.N) (r : Fin 512) (q : Fin 32768) (e : q.val = t.val * 512 + r.val) (k : Fin 1024) :
    iblk m c 0 t (ix2 r k) = m ((c : Thread nD τ).loc main_arg0) (ix2 q k) := by
  rw [← V_main_arg0 m c]
  blk_ext [iblk, idx t]
/-- The gain, as the call has it. -/
theorem V_g (j : Fin 1024) : V m c main_v4 (ix2 0 j) = m ((c : Thread nD τ).loc main_arg1) (ix1 j) := by
  unfold V
  after_reads_at
/-- The gain's block is the gain. -/
theorem blk_g (t : Fin cfg0.N) (j : Fin 1024) : iblk m c 1 t (ix2 0 j) = m ((c : Thread nD τ).loc main_arg1) (ix1 j) := by
  rw [← V_g m c]
  blk_ext [iblk, idx t]
/-- The first 3584 columns, as the call has them. -/
theorem V_w (a : Fin 1024) (k : Fin 3584) (j : Fin 3600) (e : j.val = k.val) : V m c main_v1 (ix2 a k) = m ((c : Thread nD τ).loc main_arg2) (ix2 a j) := by
  unfold V
  after_reads_at
  blk_ext []
/-- The last sixteen columns, as the call has them: as rows. -/
theorem V_v (a : Fin 1024) (k : Fin 16) (j : Fin 3600) (e : j.val = 3584 + k.val) : V m c main_v3 (ix2 k a) = m ((c : Thread nD τ).loc main_arg2) (ix2 a j) := by
  unfold V
  after_reads_at
  blk_ext []
/-- The weights' block is the weights as the call has them. -/
theorem blk_w (t : Fin cfg0.N) (a : Fin 1024) (k : Fin 3584) : iblk m c 2 t (ix2 a k) = V m c main_v1 (ix2 a k) := by
  blk_ext [iblk, idx t]
/-- Their block is the whole of them. -/
theorem blk_v (t : Fin cfg0.N) (a : Fin 1024) (k : Fin 16) : iblk m c 3 t (ix2 k a) = V m c main_v3 (ix2 k a) := by
  blk_ext [iblk, idx t]

/-! ## The result arrays -/

/-- The kernel's rows. -/
abbrev X : FVec Ideal S32768x1024 .f32 := m ((c : Thread nD τ).loc main_arg0)
/-- The gain. -/
abbrev G : FVec Ideal S1024 .f32 := m ((c : Thread nD τ).loc main_arg1)
/-- The weights. -/
abbrev W : FVec Ideal S1024x3600 .f32 := m ((c : Thread nD τ).loc main_arg2)

/-- A row of a block is the array's row. -/
theorem row_x (t : Fin cfg0.N) (r : Fin 512) (q : Fin 32768) (e : q.val = t.val * 512 + r.val) :
    (fun a => (iblk m c 0 t : Vec Ideal S512x1024 .f32) (ix2 r a)) = fun a => X m c (ix2 q a) := funext fun a => blk_x m c t r q e a
/-- The gain's row. -/
theorem row_g (t : Fin cfg0.N) : (fun a => (iblk m c 1 t : Vec Ideal S1x1024 .f32) (ix2 0 a)) = fun a => G m c (ix1 a) := funext fun a => blk_g m c t a

/-- A row of a block against a column of the weights is the array's row against it. -/
theorem row_eq (t : Fin cfg0.N) (r : Fin 512) (q : Fin 32768) (e : q.val = t.val * 512 + r.val) (k : Fin 3584) (j : Fin 3600) (h : j.val = k.val) :
    dotRow (fun a => (iblk m c 0 t : Vec Ideal S512x1024 .f32) (ix2 r a)) (fun a => (iblk m c 1 t : Vec Ideal S1x1024 .f32) (ix2 0 a))
        (fun a => (iblk m c 2 t : Vec Ideal S1024x3584 .bf16) (ix2 a k))
      = dotRow (fun a => X m c (ix2 q a)) (fun a => G m c (ix1 a)) (fun a => W m c (ix2 a j)) := by
  have h2 : (fun a => (iblk m c 2 t : Vec Ideal S1024x3584 .bf16) (ix2 a k)) = fun a => W m c (ix2 a j) :=
    funext fun a => (blk_w m c t a k).trans (V_w m c a k j h)
  rw [row_x m c t r q e, row_g, h2]
/-- The same for the last sixteen columns, which the kernel has as rows. -/
theorem row_eq' (t : Fin cfg0.N) (r : Fin 512) (q : Fin 32768) (e : q.val = t.val * 512 + r.val) (k : Fin 16) (j : Fin 3600) (h : j.val = 3584 + k.val) :
    dotRow (fun a => (iblk m c 0 t : Vec Ideal S512x1024 .f32) (ix2 r a)) (fun a => (iblk m c 1 t : Vec Ideal S1x1024 .f32) (ix2 0 a))
        (fun a => (iblk m c 3 t : Vec Ideal S16x1024 .bf16) (ix2 k a))
      = dotRow (fun a => X m c (ix2 q a)) (fun a => G m c (ix1 a)) (fun a => W m c (ix2 a j)) := by
  have h2 : (fun a => (iblk m c 3 t : Vec Ideal S16x1024 .bf16) (ix2 k a)) = fun a => W m c (ix2 a j) :=
    funext fun a => (blk_v m c t a k).trans (V_v m c a k j h)
  rw [row_x m c t r q e, row_g, h2]

/-- There are 64 grid points. -/
theorem t_lt (t : Fin cfg0.N) : t.val < 64 := lt_of_lt_of_eq t.isLt N_0

/-- What a grid point leaves of the attention's queries, keys and values is the reference's. -/
theorem point4 (t : Fin cfg0.N) (y : S512x1536.Idx) :
    out0_4 (iblk m c 0 t) (iblk m c 1 t) (iblk m c 2 t) (iblk m c 3 t) y = Ref.att (X m c) (G m c) (W m c) (((cfg0.win 4).blk t).view.emb y) := by
  have ht := t_lt t
  have hy : (y 0 : ℕ) < 512 := (y 0).isLt
  have hy' : (y 1 : ℕ) < 1536 := (y 1).isLt
  have e : (((cfg0.win 4).blk t).view.emb y) = ix2 ⟨t.val * 512 + (y 0).val, by omega⟩ ⟨(y 1).val, by omega⟩ := by blk_ext [idx t]
  rw [e]
  refine Eq.trans ?_ (Ref.att_at _ _ _ _ _ ⟨(y 1).val, by omega⟩ rfl).symm
  exact (out4_at _ _ _ _ y ⟨(y 0).val, by omega⟩ ⟨(y 1).val, by omega⟩ rfl rfl).trans (row_eq m c t _ _ rfl _ _ rfl)

/-- What a grid point leaves of the mLSTM's columns is the reference's. -/
theorem point5 (t : Fin cfg0.N) (y : S512x2048.Idx) :
    out0_5 (iblk m c 0 t) (iblk m c 1 t) (iblk m c 2 t) (iblk m c 3 t) y = Ref.mem (X m c) (G m c) (W m c) (((cfg0.win 5).blk t).view.emb y) := by
  have ht := t_lt t
  have hy : (y 0 : ℕ) < 512 := (y 0).isLt
  have hy' : (y 1 : ℕ) < 2048 := (y 1).isLt
  have e : (((cfg0.win 5).blk t).view.emb y) = ix2 ⟨t.val * 512 + (y 0).val, by omega⟩ ⟨(y 1).val, by omega⟩ := by blk_ext [idx t]
  rw [e]
  refine Eq.trans ?_ (Ref.mem_at _ _ _ _ _ ⟨1536 + (y 1).val, by omega⟩ rfl).symm
  exact (out5_at _ _ _ _ y ⟨(y 0).val, by omega⟩ ⟨1536 + (y 1).val, by omega⟩ rfl rfl).trans (row_eq m c t _ _ rfl _ _ rfl)

/-- What a grid point leaves of the mLSTM's gates is the reference's. -/
theorem point6 (t : Fin cfg0.N) (y : S16x512.Idx) :
    out0_6 (iblk m c 0 t) (iblk m c 1 t) (iblk m c 2 t) (iblk m c 3 t) y = Ref.gates (X m c) (G m c) (W m c) (((cfg0.win 6).blk t).view.emb y) := by
  have ht := t_lt t
  have hy : (y 0 : ℕ) < 16 := (y 0).isLt
  have hy' : (y 1 : ℕ) < 512 := (y 1).isLt
  have e : (((cfg0.win 6).blk t).view.emb y) = ix2 ⟨(y 0).val, by omega⟩ ⟨t.val * 512 + (y 1).val, by omega⟩ := by blk_ext [idx t]
  rw [e]
  refine Eq.trans ?_ (Ref.gates_at _ _ _ _ _ ⟨3584 + (y 0).val, by omega⟩ rfl).symm
  exact (out6_at _ _ _ _ y ⟨(y 1).val, by omega⟩ ⟨(y 0).val, by omega⟩ rfl rfl).trans (row_eq' m c t _ _ rfl _ _ rfl)

/-- The attention's columns are the reference's. -/
theorem final4 : (dats m 0 c).arrAt 4 cfg0.N = Ref.att (X m c) (G m c) (W m c) := by
  refine (dats m 0 c).arrAt_eq_of_covers 4 _ (by decide +kernel) fun t _ y => ?_
  blk_simp
  rw [after0_4]
  exact point4 m c t y
/-- The mLSTM's columns are the reference's. -/
theorem final5 : (dats m 0 c).arrAt 5 cfg0.N = Ref.mem (X m c) (G m c) (W m c) := by
  refine (dats m 0 c).arrAt_eq_of_covers 5 _ (by decide +kernel) fun t _ y => ?_
  blk_simp
  rw [after0_5]
  exact point5 m c t y
/-- The gates are the reference's. -/
theorem final6 : (dats m 0 c).arrAt 6 cfg0.N = Ref.gates (X m c) (G m c) (W m c) := by
  refine (dats m 0 c).arrAt_eq_of_covers 6 _ (by decide +kernel) fun t _ y => ?_
  blk_simp
  rw [after0_6]
  exact point6 m c t y

end Cert.InEven

end
-- ==== Proof.InWords.lean ====
/-
  The two input projections at the machine's words. Each program and its ideal reading are printed from one text;
  their body tables are one, and the run of the one is the run of the other.
-/
module

public import proofs.«01_k».proof.Defs
public import proofs.«01_k».proof.Proof.Gen.Kernel3
public import proofs.«01_k».proof.Proof.Gen.Kernel4
public import proofs.«01_k».proof.Proof.Gen.Kernel3Ideal.Frame
public import proofs.«01_k».proof.Proof.Gen.Kernel4Ideal.Frame

@[expose] public section

set_option maxRecDepth 16384

noncomputable section

open Idealize.ShloMosaic Idealize.ShloMosaic.TcCoe Idealize.SL.Sem

namespace Cert.InOdd

/-- The two body tables are one. -/
theorem bodies_words : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl
  | ⟨n + 1, h⟩, _ => exact absurd h (Nat.not_lt.2 (Nat.le_add_left _ _))

/-- The two programs' definitions are one. -/
theorem defs_words : Cert.Kernel3.defs (F := Bits) = Cert.Kernel3Ideal.defs (F := Bits) := by
  unfold Cert.Kernel3.defs Cert.Kernel3Ideal.defs
  exact congrArg (Pipeline.defs (Cert.Kernel3.pcfgs (F := Bits))) bodies_words

/-- The odd layer's input projection at the machine's words terminates, its arguments unchanged and every counter at zero. -/
theorem frame_words : Cert.quiescent_Kernel3 := fun m ρ _ =>
  (congrArg (fun d => θ_run d (onTc (τ := Cert.Kernel3.τ) (Cert.Kernel3.main (F := Bits))) ⟨m, fun _ => 0, ρ⟩ _) defs_words).mpr
    (Cert.Kernel3Ideal.Gen.frame (F := Bits) m ρ)

end Cert.InOdd

namespace Cert.InEven

/-- The two body tables are one. -/
theorem bodies_words : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => rfl
  | ⟨n + 1, h⟩, _ => exact absurd h (Nat.not_lt.2 (Nat.le_add_left _ _))

/-- The two programs' definitions are one. -/
theorem defs_words : Cert.Kernel4.defs (F := Bits) = Cert.Kernel4Ideal.defs (F := Bits) := by
  unfold Cert.Kernel4.defs Cert.Kernel4Ideal.defs
  exact congrArg (Pipeline.defs (Cert.Kernel4.pcfgs (F := Bits))) bodies_words

/-- The even layer's input projection at the machine's words terminates, its arguments unchanged and every counter at zero. -/
theorem frame_words : Cert.quiescent_Kernel4 := fun m ρ _ =>
  (congrArg (fun d => θ_run d (onTc (τ := Cert.Kernel4.τ) (Cert.Kernel4.main (F := Bits))) ⟨m, fun _ => 0, ρ⟩ _) defs_words).mpr
    (Cert.Kernel4Ideal.Gen.frame (F := Bits) m ρ)

end Cert.InEven

end
-- ==== Proof.Even.lean ====
/-
  The even layer's output projection: one row of the kernel's output block and one row of the reference are the same function
  of the row's inputs.
-/
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.StableHlo.ReadAt

@[expose] public section

set_option maxRecDepth 16384

noncomputable section

namespace Cert.EvenOut

open Cert.Kernel5Ideal Cert.Kernel5Ideal.Gen
open Idealize.ShloMosaic Idealize.ShloMosaic.TcCoe Idealize.SL.Sem

/-! ## One row -/

/-- Head `h` of a 512-long row, element `k` of its 128, divided by the head's root mean square. -/
def head (o : Fin 512 → EReal) (h : ℕ) (hh : h < 4) (k : Fin 128) : EReal :=
  o ⟨h * 128 + k.val, by have := k.isLt; omega⟩
    * Ideal.rsqrt (Ideal.div (∑ l : Fin 128, o ⟨h * 128 + l.val, by have := l.isLt; omega⟩ * o ⟨h * 128 + l.val, by have := l.isLt; omega⟩)
      (Ideal.ofBits .f32 0x43000000#32) + Ideal.ofBits .f32 0x358637BD#32)
/-- Element `j` of the row so divided head by head. -/
def heads (o : Fin 512 → EReal) (j : Fin 512) : EReal :=
  o j * Ideal.rsqrt (Ideal.div (∑ l : Fin 128, o ⟨j.val / 128 * 128 + l.val, by have := l.isLt; have := j.isLt; omega⟩
        * o ⟨j.val / 128 * 128 + l.val, by have := l.isLt; have := j.isLt; omega⟩)
      (Ideal.ofBits .f32 0x43000000#32) + Ideal.ofBits .f32 0x358637BD#32)
/-- The row scaled and gated. -/
def gated (o g r : Fin 512 → EReal) (j : Fin 512) : EReal := Ideal.div 1 (1 + Ideal.exp (-(r j))) * (heads o j * g j)
/-- The attention's columns and these, projected. -/
def proj (n y : Fin 512 → EReal) (w : Fin 1024 → Fin 1024 → EReal) (j : Fin 1024) : EReal :=
  (∑ k : Fin 512, n k * w ⟨k.val, by have := k.isLt; omega⟩ j) + ∑ k : Fin 512, y k * w ⟨512 + k.val, by have := k.isLt; omega⟩ j
/-- The projected row divided by its root mean square, scaled and added to `x`. -/
def added (x q p : Fin 1024 → EReal) (j : Fin 1024) : EReal :=
  x j + q j * Ideal.rsqrt (Ideal.div (∑ k, q k * q k) (Ideal.ofBits .f32 0x44800000#32) + Ideal.ofBits .f32 0x358637BD#32) * p j
/-- The whole row. -/
def rowOut (x : Fin 1024 → EReal) (n o r g : Fin 512 → EReal) (w : Fin 1024 → Fin 1024 → EReal) (p : Fin 1024 → EReal) : Fin 1024 → EReal :=
  added x (proj n (gated o g r) w) p

/-- A head by its number and an element by its column are one. -/
theorem head_eq (o : Fin 512 → EReal) (h : ℕ) (hh : h < 4) (k : Fin 128) (j : Fin 512) (e : j.val = h * 128 + k.val) : head o h hh k = heads o j := by
  have hk := k.isLt
  obtain ⟨j, hj⟩ := j
  dsimp only at e
  subst e
  have e1 : (h * 128 + k.val) / 128 = h := by omega
  unfold head heads
  simp only [e1]

/-! ## The kernel's row -/

section Kernel
variable (x : Vec Ideal S1024x1024 .f32) (n f b r : Vec Ideal S1024x512 .bf16) (g : Vec Ideal S1x512 .f32) (w : Vec Ideal S1024x1024 .bf16)
  (p : Vec Ideal S1x1024 .f32)

/-- The two directions' sum, row `i`. -/
abbrev sumRow (i : Fin 1024) : Fin 512 → EReal := fun j => HAdd.hAdd (α := EReal) (β := EReal) (f (ix2 i j)) (b (ix2 i j))

/-- The first head. -/
theorem pay3_at (i : Fin 1024) (k : Fin 128) : k0_pay3 (F := Ideal) f b (ix2 i k) = head (sumRow f b i) 0 (by decide) k := by
  pointwise [k0_pay3, k0_pay2]
  unfold head sumRow
  simp only [Nat.zero_mul, Nat.zero_add]
/-- The second head. -/
theorem pay4_at (i : Fin 1024) (k : Fin 128) : k0_pay4 (F := Ideal) f b (ix2 i k) = head (sumRow f b i) 1 (by decide) k := by
  pointwise [k0_pay4, k0_pay2]
  unfold head sumRow
  simp only [Nat.one_mul]
/-- The third head. -/
theorem pay5_at (i : Fin 1024) (k : Fin 128) : k0_pay5 (F := Ideal) f b (ix2 i k) = head (sumRow f b i) 2 (by decide) k := by
  pointwise [k0_pay5, k0_pay2]
  rfl
/-- The fourth head's elements. -/
theorem pay6_at (i : Fin 1024) (k : Fin 128) : k0_pay6 (F := Ideal) f b (ix2 i k) = sumRow f b i ⟨3 * 128 + k.val, by have := k.isLt; omega⟩ := by
  pointwise [k0_pay6, k0_pay2]
/-- The fourth head's mean square. -/
theorem pay7_at (i : Fin 1024) : k0_pay7 (F := Ideal) f b (ix2 i 0)
    = Ideal.div (∑ l : Fin 128, sumRow f b i ⟨3 * 128 + l.val, by have := l.isLt; omega⟩ * sumRow f b i ⟨3 * 128 + l.val, by have := l.isLt; omega⟩)
      (Ideal.ofBits .f32 0x43000000#32) := by
  pointwise [k0_pay7, k0_pay6, k0_pay2]

/-- The projected row, the four heads' parts given by what they are at the row. -/
theorem pay8_of (a₀ a₁ a₂ d : FVec Ideal S1024x128 .f32) (e : FVec Ideal S1024x1 .f32) (u v : Vec Ideal S512x1024 .bf16) (o : Fin 512 → EReal) (i j : Fin 1024)
    (h0 : ∀ k, a₀ (ix2 i k) = head o 0 (by decide) k) (h1 : ∀ k, a₁ (ix2 i k) = head o 1 (by decide) k) (h2 : ∀ k, a₂ (ix2 i k) = head o 2 (by decide) k)
    (hd : ∀ k : Fin 128, d (ix2 i k) = o ⟨3 * 128 + k.val, by have := k.isLt; omega⟩)
    (he : e (ix2 i 0) = Ideal.div (∑ l : Fin 128, o ⟨3 * 128 + l.val, by have := l.isLt; omega⟩ * o ⟨3 * 128 + l.val, by have := l.isLt; omega⟩)
      (Ideal.ofBits .f32 0x43000000#32))
    (hu : ∀ k : Fin 512, u (ix2 k j) = w (ix2 ⟨k.val, by have := k.isLt; omega⟩ j))
    (hv : ∀ k : Fin 512, v (ix2 k j) = w (ix2 ⟨512 + k.val, by have := k.isLt; omega⟩ j)) :
    k0_pay8 a₀ a₁ a₂ d e r g n u v (ix2 i j) = proj (fun k => n (ix2 i k)) (gated o (fun j => g (ix2 0 j)) (fun j => r (ix2 i j))) (fun k j => w (ix2 k j)) j := by
  pointwise [k0_pay8]
  unfold proj gated
  simp only [hu, hv]
  congr 1
  refine Finset.sum_congr rfl fun k _ => ?_
  simp only [h0, h1, h2, hd, he, zero_sub]
  have hk := k.isLt
  congr 3
  split
  · exact head_eq o 0 (by decide) ⟨k.val, by omega⟩ k (by show k.val = 0 * 128 + k.val; omega)
  split
  · exact head_eq o 1 (by decide) ⟨k.val - 128, by omega⟩ k (by show k.val = 1 * 128 + (k.val - 128); omega)
  split
  · exact head_eq o 2 (by decide) ⟨k.val - 128 - 128, by omega⟩ k (by show k.val = 2 * 128 + (k.val - 128 - 128); omega)
  exact head_eq o 3 (by decide) ⟨k.val - 128 - 128 - 128, by omega⟩ k (by show k.val = 3 * 128 + (k.val - 128 - 128 - 128); omega)

/-- The factor a projected row is divided by, the row given. -/
theorem pay9_of (a₀ a₁ a₂ d : FVec Ideal S1024x128 .f32) (e : FVec Ideal S1024x1 .f32) (u v : Vec Ideal S512x1024 .bf16) (q : Fin 1024 → EReal) (i j : Fin 1024)
    (hq : ∀ j, k0_pay8 a₀ a₁ a₂ d e r g n u v (ix2 i j) = q j) :
    k0_pay9 a₀ a₁ a₂ d e r g n u v (ix2 i j)
      = Ideal.rsqrt (Ideal.div (∑ k, q k * q k) (Ideal.ofBits .f32 0x44800000#32) + Ideal.ofBits .f32 0x358637BD#32) := by
  pointwise [k0_pay9]
  simp only [hq]

/-- The last step. -/
theorem pay1_at (q x' s : FVec Ideal S1024x1024 .f32) (i j : Fin 1024) :
    k0_pay1 q x' s p (ix2 i j) = x' (ix2 i j) + q (ix2 i j) * s (ix2 i j) * p (ix2 0 j) := by
  pointwise [k0_pay1]

/-- Both offsets of a load of a whole buffer are zero. -/
theorem offs : (![0, 0] : Fin 2 → ℕ) = fun _ => 0 := by funext k; fin_cases k <;> rfl
/-- A load of a whole block of rows. -/
theorem ld_half (v : Vec Ideal S1024x512 .bf16) : View.ld v r0_0 = v := View.ld_unit_zero offs _ v
/-- A load of the whole gain of the heads. -/
theorem ld_g : View.ld g r0_1 = g := View.ld_unit_zero offs _ g
/-- A load of a whole block of the residual stream. -/
theorem ld_x : View.ld x r0_4 = x := View.ld_unit_zero offs _ x
/-- A load of the whole gain of the last norm. -/
theorem ld_p : View.ld p r0_5 = p := View.ld_unit_zero offs _ p
/-- A load of the upper half of the weights. -/
theorem ld_top (k : Fin 512) (j : Fin 1024) : View.ld w r0_2 (ix2 k j) = w (ix2 ⟨k.val, by have := k.isLt; omega⟩ j) := by
  pointwise
/-- A load of the lower half of the weights. -/
theorem ld_bot (k : Fin 512) (j : Fin 1024) : View.ld w r0_3 (ix2 k j) = w (ix2 ⟨512 + k.val, by have := k.isLt; omega⟩ j) := by
  pointwise

/-- A row of an output block. -/
theorem out8_at (y : S1024x1024.Idx) (i j : Fin 1024) (e : y = ix2 i j) :
    out0_8 (F := Ideal) x n f b r g w p y
      = rowOut (fun j => x (ix2 i j)) (fun j => n (ix2 i j)) (sumRow f b i) (fun j => r (ix2 i j)) (fun j => g (ix2 0 j)) (fun k j => w (ix2 k j)) (fun j => p (ix2 0 j)) j := by
  subst e
  unfold out0_8
  canon_tiles y h
  have ey : y = ix2 i j := by
    funext k
    fin_cases k
    · exact Fin.ext h0.symm
    · exact Fin.ext h1.symm
  rw [ey]
  unfold k0_pay10 k0_pay11 k0_pay12 k0_pay13 k0_pay14
  simp only [ld_half, ld_g, ld_x, ld_p]
  have hq := fun j => pay8_of n r g w _ _ _ _ _ (View.ld w r0_2) (View.ld w r0_3) (sumRow f b i) i j (pay3_at f b i) (pay4_at f b i) (pay5_at f b i) (pay6_at f b i) (pay7_at f b i)
    (fun k => ld_top w k j) (fun k => ld_bot w k j)
  rw [pay1_at, hq, pay9_of n r g _ _ _ _ _ _ _ _ i j hq]
  rfl
end Kernel

/-! ## The reference's row -/

/-- A row of the reference. -/
theorem ref_at (m : (ℓ : Loc Cert.Reference5Ideal.nD Cert.Reference5Ideal.τ Cert.Reference5Ideal.sig) → Buf (Elt Ideal) ℓ) (c : Dev Cert.Reference5Ideal.nD)
    (i : Fin 32768) (j : Fin 1024) :
    Cert.Reference5Ideal.Value.res_main_v46 m c (ix2 i j)
      = rowOut (fun j => m ((c.tc : Thread _ _).loc Cert.Reference5Ideal.main_arg0) (ix2 i j))
        (fun j => m ((c.tc : Thread _ _).loc Cert.Reference5Ideal.main_arg1) (ix2 i j))
        (fun j => HAdd.hAdd (α := EReal) (β := EReal) (m ((c.tc : Thread _ _).loc Cert.Reference5Ideal.main_arg2) (ix2 i j)) (m ((c.tc : Thread _ _).loc Cert.Reference5Ideal.main_arg3) (ix2 i j)))
        (fun j => m ((c.tc : Thread _ _).loc Cert.Reference5Ideal.main_arg4) (ix2 i ⟨1536 + j.val, by have := j.isLt; omega⟩))
        (fun j => m ((c.tc : Thread _ _).loc Cert.Reference5Ideal.main_arg5) (ix1 j))
        (fun k j => m ((c.tc : Thread _ _).loc Cert.Reference5Ideal.main_arg6) (ix2 k j))
        (fun j => m ((c.tc : Thread _ _).loc Cert.Reference5Ideal.main_arg7) (ix1 j)) j := by
  pointwise [Cert.Reference5Ideal.Value.res_main_v46]
  simp only [Nat.div_add_mod']
  rfl

/-- The reference's array, as a function of the arguments. -/
abbrev refOut (A0 : FVec Ideal S32768x1024 .f32) (A1 A2 A3 : FVec Ideal S32768x512 .bf16) (A4 : FVec Ideal S32768x2048 .bf16) (A5 : FVec Ideal S512 .f32)
    (A6 : FVec Ideal S1024x1024 .f32) (A7 : FVec Ideal S1024 .f32) : FVec Ideal S32768x1024 .f32 := fun q =>
  rowOut (fun j => A0 (ix2 (q 0) j)) (fun j => A1 (ix2 (q 0) j)) (fun j => HAdd.hAdd (α := EReal) (β := EReal) (A2 (ix2 (q 0) j)) (A3 (ix2 (q 0) j)))
    (fun j => A4 (ix2 (q 0) ⟨1536 + j.val, by have := j.isLt; omega⟩)) (fun j => A5 (ix1 j)) (fun k j => A6 (ix2 k j)) (fun j => A7 (ix1 j)) (q 1)

/-- The reference ends with that array. -/
theorem ref_eq (m : (ℓ : Loc Cert.Reference5Ideal.nD Cert.Reference5Ideal.τ Cert.Reference5Ideal.sig) → Buf (Elt Ideal) ℓ) (c : Dev Cert.Reference5Ideal.nD)
    {A0 : FVec Ideal S32768x1024 .f32} {A1 A2 A3 : FVec Ideal S32768x512 .bf16} {A4 : FVec Ideal S32768x2048 .bf16} {A5 : FVec Ideal S512 .f32}
    {A6 : FVec Ideal S1024x1024 .f32} {A7 : FVec Ideal S1024 .f32}
    (h0 : m ((c.tc : Thread _ _).loc Cert.Reference5Ideal.main_arg0) = A0) (h1 : m ((c.tc : Thread _ _).loc Cert.Reference5Ideal.main_arg1) = A1)
    (h2 : m ((c.tc : Thread _ _).loc Cert.Reference5Ideal.main_arg2) = A2) (h3 : m ((c.tc : Thread _ _).loc Cert.Reference5Ideal.main_arg3) = A3)
    (h4 : m ((c.tc : Thread _ _).loc Cert.Reference5Ideal.main_arg4) = A4) (h5 : m ((c.tc : Thread _ _).loc Cert.Reference5Ideal.main_arg5) = A5)
    (h6 : m ((c.tc : Thread _ _).loc Cert.Reference5Ideal.main_arg6) = A6) (h7 : m ((c.tc : Thread _ _).loc Cert.Reference5Ideal.main_arg7) = A7) :
    Cert.Reference5Ideal.Value.res_main_v46 m c = refOut A0 A1 A2 A3 A4 A5 A6 A7 := by
  subst h0 h1 h2 h3 h4 h5 h6 h7
  funext i
  obtain ⟨a, b, rfl⟩ : ∃ (a : Fin 32768) (b : Fin 1024), i = ix2 a b := ⟨i 0, i 1, by funext k; fin_cases k <;> rfl⟩
  exact ref_at m c a b

/-! ## The blocks of the arguments -/

/-- Where each window's block lies at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 3] ∧ win0_5.index t = ![0, 0] ∧ win0_6.index t = ![0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 3] ∧ win0_5.index t = ![0, 0] ∧ win0_6.index t = ![0, 0] ∧ win0_7.index t = ![0, 0] ∧ win0_8.index t = ![t.val, 0])

variable (m : (ℓ : Loc nD τ sig) → Buf (Elt Ideal) ℓ) (c : Dev nD)

/-- A block of the residual stream is those rows of it. -/
theorem blk_0 (t : Fin cfg0.N) (r : Fin 1024) (q : Fin 32768) (e : q.val = t.val * 1024 + r.val) (k : Fin 1024) :
    iblk m c 0 t (ix2 r k) = m ((c : Thread nD τ).loc main_arg0) (ix2 q k) := by
  rw [← V_main_arg0 m c]
  blk_ext [iblk, idx t]
/-- The same for the attention's columns. -/
theorem blk_1 (t : Fin cfg0.N) (r : Fin 1024) (q : Fin 32768) (e : q.val = t.val * 1024 + r.val) (k : Fin 512) :
    iblk m c 1 t (ix2 r k) = m ((c : Thread nD τ).loc main_arg1) (ix2 q k) := by
  rw [← V_main_arg1 m c]
  blk_ext [iblk, idx t]
/-- The same for the first direction. -/
theorem blk_2 (t : Fin cfg0.N) (r : Fin 1024) (q : Fin 32768) (e : q.val = t.val * 1024 + r.val) (k : Fin 512) :
    iblk m c 2 t (ix2 r k) = m ((c : Thread nD τ).loc main_arg2) (ix2 q k) := by
  rw [← V_main_arg2 m c]
  blk_ext [iblk, idx t]
/-- The same for the second direction. -/
theorem blk_3 (t : Fin cfg0.N) (r : Fin 1024) (q : Fin 32768) (e : q.val = t.val * 1024 + r.val) (k : Fin 512) :
    iblk m c 3 t (ix2 r k) = m ((c : Thread nD τ).loc main_arg3) (ix2 q k) := by
  rw [← V_main_arg3 m c]
  blk_ext [iblk, idx t]
/-- A block of the output gate is those rows, in the last quarter of the columns. -/
theorem blk_4 (t : Fin cfg0.N) (r : Fin 1024) (q : Fin 32768) (e : q.val = t.val * 1024 + r.val) (k : Fin 512) :
    iblk m c 4 t (ix2 r k) = m ((c : Thread nD τ).loc main_arg4) (ix2 q ⟨1536 + k.val, by have := k.isLt; omega⟩) := by
  rw [← V_main_arg4 m c]
  blk_ext [iblk, idx t]
/-- The heads' gain, as the call has it. -/
theorem V_g (j : Fin 512) : V m c main_v1 (ix2 0 j) = m ((c : Thread nD τ).loc main_arg5) (ix1 j) := by
  unfold V
  after_reads_at
/-- The weights, as the call has them. -/
theorem V_w (k j : Fin 1024) : V m c main_v0 (ix2 k j) = m ((c : Thread nD τ).loc main_arg6) (ix2 k j) := by
  unfold V
  after_reads_at
/-- The last norm's gain, as the call has it. -/
theorem V_p (j : Fin 1024) : V m c main_v2 (ix2 0 j) = m ((c : Thread nD τ).loc main_arg7) (ix1 j) := by
  unfold V
  after_reads_at
/-- The heads' gain's block is the gain. -/
theorem blk_5 (t : Fin cfg0.N) (j : Fin 512) : iblk m c 5 t (ix2 0 j) = m ((c : Thread nD τ).loc main_arg5) (ix1 j) := by
  rw [← V_g m c]
  blk_ext [iblk, idx t]
/-- The weights' block is the weights. -/
theorem blk_6 (t : Fin cfg0.N) (k j : Fin 1024) : iblk m c 6 t (ix2 k j) = m ((c : Thread nD τ).loc main_arg6) (ix2 k j) := by
  rw [← V_w m c]
  blk_ext [iblk, idx t]
/-- The last norm's gain's block is the gain. -/
theorem blk_7 (t : Fin cfg0.N) (j : Fin 1024) : iblk m c 7 t (ix2 0 j) = m ((c : Thread nD τ).loc main_arg7) (ix1 j) := by
  rw [← V_p m c]
  blk_ext [iblk, idx t]

/-! ## The result array -/

/-- The array that the reference has of the kernel's arguments. -/
abbrev res : FVec Ideal S32768x1024 .f32 :=
  refOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- There are 32 grid points. -/
theorem t_lt (t : Fin cfg0.N) : t.val < 32 := lt_of_lt_of_eq t.isLt N_0

/-- What a grid point leaves is the reference's. -/
theorem point (t : Fin cfg0.N) (y : S1024x1024.Idx) :
    out0_8 (iblk m c 0 t) (iblk m c 1 t) (iblk m c 2 t) (iblk m c 3 t) (iblk m c 4 t) (iblk m c 5 t) (iblk m c 6 t) (iblk m c 7 t) y
      = res m c (((cfg0.win 8).blk t).view.emb y) := by
  have ht := t_lt t
  have hy : (y 0 : ℕ) < 1024 := (y 0).isLt
  have hy' : (y 1 : ℕ) < 1024 := (y 1).isLt
  obtain ⟨q, eq⟩ : ∃ q : Fin 32768, q.val = t.val * 1024 + (y 0).val := ⟨⟨t.val * 1024 + (y 0).val, by omega⟩, rfl⟩
  have e : (((cfg0.win 8).blk t).view.emb y) = ix2 q (y 1) := by blk_ext [idx t]
  rw [e]
  refine (out8_at _ _ _ _ _ _ _ _ y (y 0) (y 1) (by funext k; fin_cases k <;> rfl)).trans ?_
  unfold sumRow
  have h0 := funext fun k => blk_0 m c t (y 0) q eq k
  have h1 := funext fun k => blk_1 m c t (y 0) q eq k
  have h2 := fun k => blk_2 m c t (y 0) q eq k
  have h3 := fun k => blk_3 m c t (y 0) q eq k
  have h4 := funext fun k => blk_4 m c t (y 0) q eq k
  have h5 := funext fun k => blk_5 m c t k
  have h6 := funext fun k => funext fun j => blk_6 m c t k j
  have h7 := funext fun k => blk_7 m c t k
  simp only [h0, h1, h2, h3, h4, h5, h6, h7]
  rfl

/-- The kernel's array is the reference's. -/
theorem final : (dats m 0 c).arrAt 8 cfg0.N = res m c := by
  refine (dats m 0 c).arrAt_eq_of_covers 8 _ (by decide +kernel) fun t _ y => ?_
  blk_simp
  rw [after0_8]
  exact point m c t y

/-! ## The machine's words -/

/-- The two body tables are one. -/
theorem bodies_words : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => rfl
  | ⟨n + 1, h⟩, _ => exact absurd h (Nat.not_lt.2 (Nat.le_add_left _ _))

/-- The two programs' definitions are one. -/
theorem defs_words : Cert.Kernel5.defs (F := Bits) = Cert.Kernel5Ideal.defs (F := Bits) := by
  unfold Cert.Kernel5.defs Cert.Kernel5Ideal.defs
  exact congrArg (Pipeline.defs (Cert.Kernel5.pcfgs (F := Bits))) bodies_words

/-- The even layer's output projection at the machine's words terminates, its arguments unchanged and every counter at zero. -/
theorem frame_words : Cert.quiescent_Kernel5 := fun m ρ _ =>
  (congrArg (fun d => θ_run d (onTc (τ := Cert.Kernel5.τ) (Cert.Kernel5.main (F := Bits))) ⟨m, fun _ => 0, ρ⟩ _) defs_words).mpr
    (Cert.Kernel5Ideal.Gen.frame (F := Bits) m ρ)

end Cert.EvenOut

end
-- ==== Proof.SampleTrip.lean ====
/-
  The feed-forward call at the sample's rows: one trip of its chunk loop. The text of the body is the one of the prompt's
  call, over the buffers of another program, so what a trip computes is stated by the same functions (Proof/FfnVals.lean).
-/
module

public import proofs.«01_k».proof.Proof.Gen.Kernel6Ideal.Skeleton
public import proofs.«01_k».proof.Proof.Gen.Kernel6Ideal.Frame
public import proofs.«01_k».proof.Proof.FfnBody

@[expose] public section

set_option maxHeartbeats 4000000

noncomputable section

namespace Cert.FfnSample

open Cert.Kernel6Ideal Cert.Kernel6Ideal.Gen
open Cert.Ffn (wuS cwS cbS wdS upV stepV accV accV_succ read_wuS read_cwS read_cbS read_wdS step26 slab slab_hit slab_miss vec0 vec1)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

section Trip

variable (c : Dev nD) (i : grid0.Coords)
variable (arg2 : Memref sig .tc .vmem S1x512x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1x1x512x256 .f32) (harg11 : arg11.IsWhole)
variable (arg12 : Memref sig .tc .vmem S1024x1024 .bf16) (harg12 : arg12.IsWhole)
variable (arg13 : Memref sig .tc .vmem S256x1024 .bf16) (harg13 : arg13.IsWhole)
variable (arg14 : Memref sig .tc .vmem S1x512x1024 .f32) (harg14 : arg14.IsWhole)
variable (arg15 : Memref sig .tc .vmem S528x1024 .bf16) (harg15 : arg15.IsWhole)
variable (arg16 : Memref sig .tc .vmem S2x2x528x256 .f32) (harg16 : arg16.IsWhole)
variable (arg17 : Memref sig .tc .vmem S512x1024 .f32) (harg17 : arg17.IsWhole)
variable (v65 : Vec F S528x1024 .bf16) (v76 : Vec F S1024x256 .bf16)
variable (X6 : BufTy.Contents (Elt F) arg6.view.ty) (X7 : BufTy.Contents (Elt F) arg7.view.ty) (X8 : BufTy.Contents (Elt F) arg8.view.ty) (X9 : BufTy.Contents (Elt F) arg9.view.ty) (X15 : BufTy.Contents (Elt F) arg15.view.ty)

/-- Before trip `k`: the weights and the normalised rows as given, the up-projections of chunk `2 k` in the buffer's first
    half, and the sum of the first `2 k` chunks. -/
def inv (k : ℕ) (_u : Unit) : sProp 𝕄 :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg15.view.loc (c : Thread nD τ) ↦[arg15.view.set]{fullShare} X15)
    ∗ (∃ f16, ⌜arg16.view.readAt (Elt F) (slab ![0, 0, 0, 0] inb_S2x2x528x256_S1x1x528x256_0_0_0_0).toLoadRect f16 = upV (arg15.view.read (Elt F) X15) (arg6.view.read (Elt F) X6) 1 (2 * k)
        ∧ arg16.view.readAt (Elt F) (slab ![0, 1, 0, 0] inb_S2x2x528x256_S1x1x528x256_0_1_0_0).toLoadRect f16 = upV (arg15.view.read (Elt F) X15) (arg6.view.read (Elt F) X6) 0 (2 * k)⌝ ∗ (arg16.view.loc (c : Thread nD τ) ↦[arg16.view.set]{fullShare} f16))
    ∗ (∃ f17, ⌜arg17.view.read (Elt F) f17 = accV (arg15.view.read (Elt F) X15) (arg6.view.read (Elt F) X6) (arg7.view.read (Elt F) X7) (arg8.view.read (Elt F) X8) (arg9.view.read (Elt F) X9) (2 * k)⌝ ∗ (arg17.view.loc (c : Thread nD τ) ↦[arg17.view.set]{fullShare} f17)))

/-- One trip keeps the invariant. -/
theorem trip (k : Fin k0_t1_loop.trips) (u : Unit) :
    inv c arg6 arg7 arg8 arg9 arg15 arg16 arg17 X6 X7 X8 X9 X15 k.val u
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v65 v76 k u)
          (fun u' => inv c arg6 arg7 arg8 arg9 arg15 arg16 arg17 X6 X7 X8 X9 X15 (k.val + 1) u') := by
  have hk : k.val < 5 := Nat.lt_of_lt_of_le k.isLt k0_t1_abs.2.1
  unfold inv k0_t1_body
  iintro ⟨H6, H7, H8, H9, H15, ⟨%f16, %h16, H16⟩, ⟨%f17, %h17, H17⟩⟩
  sl_exec
  sl_step
  -- the trip's offsets
  have o1 : ∀ (h r : Fin 2), k0_off1 k (BitVec.ofNat 32 (2816 * h.val)) (BitVec.ofNat 32 (1 + r.val)) = ![0, 2816 * h.val + 256 * (2 * k.val + 1 + r.val)] :=
    fun h r => (k0_off1_eq k h r).trans (vec0 (by omega))
  have o2 : ∀ h : Fin 2, k0_off2 k (BitVec.ofNat 32 (2816 * h.val)) = ![0, 2816 * h.val + 256 * (2 * k.val)] := fun h => (k0_off2_eq k h).trans (vec0 (by omega))
  have o3 : ∀ h : Fin 2, k0_off3 k (BitVec.ofNat 32 (2816 * h.val)) = ![0, 2816 * h.val + 256 * (2 * k.val)] := fun h => (k0_off3_eq k h).trans (vec0 (by omega))
  have o4 : k0_off4 k = ![256 * (2 * k.val), 0] := (k0_off4_eq k).trans (vec1 (by omega))
  have o5 : ∀ h : Fin 2, k0_off5 k (BitVec.ofNat 32 (2816 * h.val)) = ![0, 2816 * h.val + 256 * (2 * k.val + 1)] := fun h => (k0_off5_eq k h).trans (vec0 (by omega))
  have o6 : ∀ h : Fin 2, k0_off6 k (BitVec.ofNat 32 (2816 * h.val)) = ![0, 2816 * h.val + 256 * (2 * k.val + 1)] := fun h => (k0_off6_eq k h).trans (vec0 (by omega))
  have o7 : k0_off7 k = ![256 * (2 * k.val + 1), 0] := (k0_off7_eq k).trans (vec1 (by omega))
  -- the up-projections stored
  have e15 : trip.sl.r_6 arg15 X15 = arg15.view.read (Elt F) X15 := View.readAt_full arg15.view X15 _
  have u319 : trip.sl.v319 arg6 arg15 X6 X15 k = upV (arg15.view.read (Elt F) X15) (arg6.view.read (Elt F) X6) 0 (2 * k.val + 2) :=
    congrArg₂ k0_pay2 e15 (read_wuS arg6.view X6 _ _ 0 (2 * k.val + 2) (o1 0 1))
  have u309 : trip.sl.v309 arg6 arg15 X6 X15 k = upV (arg15.view.read (Elt F) X15) (arg6.view.read (Elt F) X6) 1 (2 * k.val + 2) :=
    congrArg₂ k0_pay2 e15 (read_wuS arg6.view X6 _ _ 1 (2 * k.val + 2) (o1 1 1))
  have u217 : trip.sl.v217 arg6 arg15 X6 X15 k = upV (arg15.view.read (Elt F) X15) (arg6.view.read (Elt F) X6) 0 (2 * k.val + 1) :=
    congrArg₂ k0_pay2 e15 (read_wuS arg6.view X6 _ _ 0 (2 * k.val + 1) (o1 0 0))
  have u207 : trip.sl.v207 arg6 arg15 X6 X15 k = upV (arg15.view.read (Elt F) X15) (arg6.view.read (Elt F) X6) 1 (2 * k.val + 1) :=
    congrArg₂ k0_pay2 e15 (read_wuS arg6.view X6 _ _ 1 (2 * k.val + 1) (o1 1 0))
  -- what the trip loads of the buffer's second half, and what it leaves in the first
  have l321 : trip.sl.v321 arg6 arg15 arg16 X6 X15 k = upV (arg15.view.read (Elt F) X15) (arg6.view.read (Elt F) X6) 1 (2 * k.val + 1) :=
    (slab_miss arg16.view _ _ _ _ _ _ _ 0 (by decide)).trans ((slab_miss arg16.view _ _ _ _ _ _ _ 0 (by decide)).trans
      ((slab_miss arg16.view _ _ _ _ _ _ _ 1 (by decide)).trans ((slab_hit arg16.view _ _ _ _ _ _).trans u207)))
  have l359 : trip.sl.v359 arg6 arg15 arg16 X6 X15 k = upV (arg15.view.read (Elt F) X15) (arg6.view.read (Elt F) X6) 0 (2 * k.val + 1) :=
    (slab_miss arg16.view _ _ _ _ _ _ _ 0 (by decide)).trans ((slab_miss arg16.view _ _ _ _ _ _ _ 0 (by decide)).trans
      ((slab_hit arg16.view _ _ _ _ _ _).trans u217))
  have g0 : arg16.view.readAt (Elt F) (slab ![0, 0, 0, 0] inb_S2x2x528x256_S1x1x528x256_0_0_0_0).toLoadRect (arg16.view.writes (Elt F) f16 (trip.sl.H16_4 arg6 arg15 X6 X15 k))
      = upV (arg15.view.read (Elt F) X15) (arg6.view.read (Elt F) X6) 1 (2 * k.val + 2) :=
    (slab_miss arg16.view _ _ _ _ _ _ _ 1 (by decide)).trans ((slab_hit arg16.view _ _ _ _ _ _).trans u309)
  have g1 : arg16.view.readAt (Elt F) (slab ![0, 1, 0, 0] inb_S2x2x528x256_S1x1x528x256_0_1_0_0).toLoadRect (arg16.view.writes (Elt F) f16 (trip.sl.H16_4 arg6 arg15 X6 X15 k))
      = upV (arg15.view.read (Elt F) X15) (arg6.view.read (Elt F) X6) 0 (2 * k.val + 2) :=
    (slab_hit arg16.view _ _ _ _ _ _).trans u319
  -- the running sum after the first chunk of the trip, then after the second
  have a1 : trip.sl.v297 arg7 arg8 arg9 arg16 arg17 X7 X8 X9 k f16 f17 = accV (arg15.view.read (Elt F) X15) (arg6.view.read (Elt F) X6) (arg7.view.read (Elt F) X7) (arg8.view.read (Elt F) X8) (arg9.view.read (Elt F) X9) (2 * k.val + 1) := by
    rw [accV_succ, ← h16.1, ← h16.2, ← h17, ← read_cwS arg7.view X7 _ (k0_off2_inb k 1) 1 (2 * k.val) (o2 1), ← read_cwS arg7.view X7 _ (k0_off2_inb k 0) 0 (2 * k.val) (o2 0),
      ← read_cbS arg8.view X8 _ (k0_off3_inb k 1) 1 (2 * k.val) (o3 1), ← read_cbS arg8.view X8 _ (k0_off3_inb k 0) 0 (2 * k.val) (o3 0),
      ← read_wdS arg9.view X9 _ (k0_off4_inb k) (2 * k.val) o4, ← View.readAt_full arg17.view f17 inb_S512x1024_S512x1024_0_0]
    rfl
  have a389 : trip.sl.v389 arg7 arg8 arg9 arg16 arg17 X7 X8 X9 k f16 f17 = accV (arg15.view.read (Elt F) X15) (arg6.view.read (Elt F) X6) (arg7.view.read (Elt F) X7) (arg8.view.read (Elt F) X8) (arg9.view.read (Elt F) X9) (2 * k.val + 1) :=
    (View.readCov_full arg17.view _ _ _ _).trans a1
  have a2 : k0_pay26 (trip.sl.r_7 arg6 arg7 arg8 arg15 arg16 X6 X7 X8 X15 k) (trip.sl.v389 arg7 arg8 arg9 arg16 arg17 X7 X8 X9 k f16 f17)
      (View.readAt (Elt F) arg9.view (Rect.unit (s := S2816x1024) (k0_off7 k) S256x1024.size (k0_off7_inb k)).toLoadRect X9) = accV (arg15.view.read (Elt F) X15) (arg6.view.read (Elt F) X6) (arg7.view.read (Elt F) X7) (arg8.view.read (Elt F) X8) (arg9.view.read (Elt F) X9) (2 * k.val + 1 + 1) := by
    rw [accV_succ, ← l321, ← l359, ← a389, ← read_cwS arg7.view X7 _ (k0_off5_inb k 1) 1 (2 * k.val + 1) (o5 1), ← read_cwS arg7.view X7 _ (k0_off5_inb k 0) 0 (2 * k.val + 1) (o5 0),
      ← read_cbS arg8.view X8 _ (k0_off6_inb k 1) 1 (2 * k.val + 1) (o6 1), ← read_cbS arg8.view X8 _ (k0_off6_inb k 0) 0 (2 * k.val + 1) (o6 0),
      ← read_wdS arg9.view X9 _ (k0_off7_inb k) (2 * k.val + 1) o7]
    exact step26 _ _ _ _ _ _ _ _
  rw [show 2 * (k.val + 1) = 2 * k.val + 2 from by omega]
  isplitl [H6]; · iexact H6
  isplitl [H7]; · iexact H7
  isplitl [H8]; · iexact H8
  isplitl [H9]; · iexact H9
  isplitl [H15]; · iexact H15
  isplitl [H16]
  · iexists _
    isplitr; swap; · iexact H16
    ipureintro
    exact ⟨g0, g1⟩
  iexists _
  isplitr; swap; · iexact H17
  ipureintro
  exact (View.read_writes_full arg17.view f17 _ _ _).trans a2

end Trip

end Cert.FfnSample

end
-- ==== Proof.SampleBody.lean ====
/-
  The feed-forward call's body at the sample's rows: the block it leaves at a grid point is the function of the twelve
  blocks read that the prompt's call leaves (`outV` of Proof/FfnBody.lean).
-/
module

public import proofs.«01_k».proof.Proof.SampleTrip

@[expose] public section

set_option maxHeartbeats 4000000
set_option maxRecDepth 16384

noncomputable section

namespace Cert.FfnSample

open Cert.Kernel6Ideal Cert.Kernel6Ideal.Gen
open Cert.Ffn (wuS cwS cbS wdS upV stepV accV accV_succ normV outV read_wuS read_cwS read_cbS read_wdS step29 slab_hit slab_miss)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- A grid point of the sample's call as one of the prompt's: the same sequence, the same block of it. -/
def lift (i : grid0.Coords) : Cert.Kernel2Ideal.grid0.Coords := fun a => ⟨(i a).val, Nat.lt_of_lt_of_le (i a).isLt (by fin_cases a <;> decide)⟩

section Body

variable (c : Dev nD) (i : grid0.Coords)
variable (arg2 : Memref sig .tc .vmem S1x512x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x1024 .f32) (harg5 : arg5.IsWhole)
variable (arg6 : Memref sig .tc .vmem S1024x5632 .bf16) (harg6 : arg6.IsWhole)
variable (arg7 : Memref sig .tc .vmem S3x5632 .f32) (harg7 : arg7.IsWhole)
variable (arg8 : Memref sig .tc .vmem S1x5632 .f32) (harg8 : arg8.IsWhole)
variable (arg9 : Memref sig .tc .vmem S2816x1024 .bf16) (harg9 : arg9.IsWhole)
variable (arg10 : Memref sig .tc .vmem S1x1024 .f32) (harg10 : arg10.IsWhole)
variable (arg11 : Memref sig .tc .vmem S1x1x512x256 .f32) (harg11 : arg11.IsWhole)
variable (arg12 : Memref sig .tc .vmem S1024x1024 .bf16) (harg12 : arg12.IsWhole)
variable (arg13 : Memref sig .tc .vmem S256x1024 .bf16) (harg13 : arg13.IsWhole)
variable (arg14 : Memref sig .tc .vmem S1x512x1024 .f32) (harg14 : arg14.IsWhole)
variable (arg15 : Memref sig .tc .vmem S528x1024 .bf16) (harg15 : arg15.IsWhole)
variable (arg16 : Memref sig .tc .vmem S2x2x528x256 .f32) (harg16 : arg16.IsWhole)
variable (arg17 : Memref sig .tc .vmem S512x1024 .f32) (harg17 : arg17.IsWhole)

/-- The body's run: the twelve blocks stay, the output's buffer ends at `outV` of them. -/
theorem kernel (K : PUnit → sProp 𝕄) (x2 : Vec F S1x512x1024 .f32) (x3 : Vec F S1x8x1024 .f32) (x4 : Vec F S1x8x1024 .f32) (x5 : Vec F S1x1024 .f32) (x6 : Vec F S1024x5632 .bf16) (x7 : Vec F S3x5632 .f32) (x8 : Vec F S1x5632 .f32) (x9 : Vec F S2816x1024 .bf16) (x10 : Vec F S1x1024 .f32) (x11 : Vec F S1x1x512x256 .f32) (x12 : Vec F S1024x1024 .bf16) (x13 : Vec F S256x1024 .bf16) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (∃ d, owns (c : Thread nD τ) arg14 fullShare d)
      ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
        ∗ owns (c : Thread nD τ) arg14 fullShare (outV (lift i) x2 x3 x4 x5 x6 x7 x8 x9 x10 x11 x12 x13)
        ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
      ⊢ wp frame (wpE (defs₀ (F := F)) Variants.none (c : Thread nD τ) none) Set.univ (cc0_ffn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%d14, %f14, %h14, H14⟩, ⟨%f15, H15⟩, ⟨%f16, H16⟩, ⟨%f17, H17⟩, Hk⟩
  subst h2 h3 h4 h5 h6 h7 h8 h9 h10 h11 h12 h13
  unfold cc0_ffn
  sl_exec
  sl_for (inv c arg6 arg7 arg8 arg9 arg15 arg16 arg17 f6 f7 f8 f9 (arg15.view.writes (Elt F) arg15.view.junk (kernel.sl.H15_1 c i arg2 arg3 arg4 arg5 f2 f3 f4 f5))) $$ [H6 H7 H8 H9 H15 H16 H17]
  · intro k u
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ k u
  · unfold inv
    isplitl [H6]; · iexact H6
    isplitl [H7]; · iexact H7
    isplitl [H8]; · iexact H8
    isplitl [H9]; · iexact H9
    isplitl [H15]; · iexact H15
    isplitl [H16]
    · iexists _
      isplitr; swap; · iexact H16
      ipureintro
      exact ⟨(slab_miss arg16.view _ _ _ _ _ _ _ 1 (by decide)).trans ((slab_hit arg16.view _ _ _ _ _ _).trans (congrArg₂ k0_pay2 (View.readAt_full arg15.view _ _) (read_wuS arg6.view f6 _ _ 1 0 rfl))),
        (slab_hit arg16.view _ _ _ _ _ _).trans (congrArg₂ k0_pay2 (View.readAt_full arg15.view _ _) (read_wuS arg6.view f6 _ _ 0 0 rfl))⟩
    iexists _
    isplitr; swap; · iexact H17
    ipureintro
    exact View.read_writes_full arg17.view _ _ _ _
  iintro %acc HI
  rw [show Scf.trips k0_t1_loop.lb k0_t1_loop.ub k0_t1_loop.st = 5 from by decide]
  unfold inv
  icases HI with ⟨H6, H7, H8, H9, H15, ⟨%g16, %h16, H16⟩, ⟨%g17, %h17, H17⟩⟩
  sl_exec
  sl_step
  have e15 : arg15.view.read (Elt F) (arg15.view.writes (Elt F) arg15.view.junk (kernel.sl.H15_1 c i arg2 arg3 arg4 arg5 f2 f3 f4 f5)) = normV (lift i) (arg2.view.read (Elt F) f2) (arg3.view.read (Elt F) f3) (arg4.view.read (Elt F) f4) (arg5.view.read (Elt F) f5) := by
    refine (View.read_writes_full arg15.view _ _ _ _).trans ?_
    rw [← View.readAt_full arg2.view f2 inb_S1x512x1024_S1x512x1024_0_0_0, ← View.readAt_full arg3.view f3 inb_S1x8x1024_S1x8x1024_0_0_0,
      ← View.readAt_full arg4.view f4 inb_S1x8x1024_S1x8x1024_0_0_0, ← View.readAt_full arg5.view f5 inb_S1x1024_S1x1024_0_0]
    rfl
  rw [e15] at h16 h17
  have a11 : arg17.view.readCov (kernel.sl.H17_1_1 c arg7 arg8 arg9 arg16 arg17 f7 f8 f9 g16 g17) (Rect.unit (s := S512x1024) ![0, 0] S512x1024.size inb_S512x1024_S512x1024_0_0).toLoadRect
      = accV (normV (lift i) (arg2.view.read (Elt F) f2) (arg3.view.read (Elt F) f3) (arg4.view.read (Elt F) f4) (arg5.view.read (Elt F) f5)) (arg6.view.read (Elt F) f6) (arg7.view.read (Elt F) f7) (arg8.view.read (Elt F) f8) (arg9.view.read (Elt F) f9) (10 + 1) := by
    refine (View.readCov_full arg17.view _ _ _ _).trans ?_
    rw [accV_succ, show (10 : ℕ) = 2 * 5 from rfl, ← h16.1, ← h16.2, ← h17,
      ← read_cwS arg7.view f7 _ inb_S3x5632_S3x256_0_5376 1 (2 * 5) rfl, ← read_cwS arg7.view f7 _ inb_S3x5632_S3x256_0_2560 0 (2 * 5) rfl,
      ← read_cbS arg8.view f8 _ inb_S1x5632_S1x256_0_5376 1 (2 * 5) rfl, ← read_cbS arg8.view f8 _ inb_S1x5632_S1x256_0_2560 0 (2 * 5) rfl,
      ← read_wdS arg9.view f9 _ inb_S2816x1024_S256x1024_2560_0 (2 * 5) rfl, ← View.readAt_full arg17.view g17 inb_S512x1024_S512x1024_0_0]
    exact step29 _ _ _ _ _ _ _ _
  have eo : kernel.sl.v194 c arg2 arg7 arg8 arg9 arg10 arg11 arg12 arg13 arg16 arg17 f2 f7 f8 f9 f10 f11 f12 f13 g16 g17
      = outV (lift i) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) := by
    unfold outV
    rw [← a11, ← View.readAt_full arg2.view f2 inb_S1x512x1024_S1x512x1024_0_0_0, ← View.readAt_full arg10.view f10 inb_S1x1024_S1x1024_0_0,
      ← View.readAt_full arg12.view f12 inb_S1024x1024_S1024x1024_0_0, ← View.readAt_full arg11.view f11 inb_S1x1x512x256_S1x1x512x256_0_0_0_0,
      ← View.readAt_full arg13.view f13 inb_S256x1024_S256x1024_0_0]
    rfl
  iapply Hk
  isplitl [H2]
  · iexists f2
    isplitr; · ipureintro; rfl
    iexact H2
  isplitl [H3]
  · iexists f3
    isplitr; · ipureintro; rfl
    iexact H3
  isplitl [H4]
  · iexists f4
    isplitr; · ipureintro; rfl
    iexact H4
  isplitl [H5]
  · iexists f5
    isplitr; · ipureintro; rfl
    iexact H5
  isplitl [H6]
  · iexists f6
    isplitr; · ipureintro; rfl
    iexact H6
  isplitl [H7]
  · iexists f7
    isplitr; · ipureintro; rfl
    iexact H7
  isplitl [H8]
  · iexists f8
    isplitr; · ipureintro; rfl
    iexact H8
  isplitl [H9]
  · iexists f9
    isplitr; · ipureintro; rfl
    iexact H9
  isplitl [H10]
  · iexists f10
    isplitr; · ipureintro; rfl
    iexact H10
  isplitl [H11]
  · iexists f11
    isplitr; · ipureintro; rfl
    iexact H11
  isplitl [H12]
  · iexists f12
    isplitr; · ipureintro; rfl
    iexact H12
  isplitl [H13]
  · iexists f13
    isplitr; · ipureintro; rfl
    iexact H13
  isplitl [H14]
  · iexists _
    isplitr; swap; · iexact H14
    ipureintro
    exact (View.read_writes_full arg14.view _ _ _ _).trans eo
  isplitl [H15]; · iexists _; iexact H15
  isplitl [H16]; · iexists _; iexact H16
  iexists _; iexact H17

end Body

end Cert.FfnSample

end
-- ==== Proof.SampleRun.lean ====
/-
  The feed-forward call's run at the sample's rows: the launch terminates with every block of the output array at `outV`
  of the twelve blocks read, and the argument arrays as they were.
-/
module

public import proofs.«01_k».proof.Proof.SampleBody
public import Idealize.ShloMosaic.Lib.Pipeline.Value

@[expose] public section

set_option maxHeartbeats 4000000
set_option maxRecDepth 16384

noncomputable section

namespace Cert.FfnSample

open Cert.Kernel6Ideal Cert.Kernel6Ideal.Gen
open Cert.Ffn (outV)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The block written at grid point `t`, as a function of the arrays the region finds. -/
def out (c : Dev nD) (t : Fin cfg0.N) : Vec F S1x512x1024 .f32 := outV (lift (grid0.coords t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What each window's buffer holds after the body: an input's block, the output's `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- A scratch buffer whole, as the body's view of it. -/
theorem scratch_eq (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [show (Memref.whole b).view.set = Finset.univ from View.set_whole _]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, after_4, after_5, after_6, after_7, after_8, after_9, after_10, after_11, after_12]
  unfold Pipeline.ΦA out
  rw [scopedRest0_eq, scratch_eq, scratch_eq, scratch_eq]
  iintro ⟨⟨⟨S0, S1, S2⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (kernel c (grid0.coords t) _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [S0]; · iexact S0
  isplitl [S1]; · iexact S1
  isplitl [S2]; · iexact S2
  iintro ⟨H0, H1, H2, H3, H4, H5, H6, H7, H8, H9, H10, H11, H12, S0, S1, S2⟩
  isplitl [S0 S1 S2 HP]
  · isplitr [HP]
    · isplitl [S0]; · iexact S0
      isplitl [S1]; · iexact S1
      iexact S2
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it terminates, its arrays at what the bodies left, every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run m ρ))) ((θ_run defs _ _).mono (fun _ h => h.2) (run m ρ))

/-- Two grid points write different blocks of the output. -/
theorem idx_inj : ∀ t t' : Fin cfg0.N, win0_12.index t = win0_12.index t' → t = t' :=
  (by decide +kernel : ∀ t t' : Fin grid0.N, win0_12.index t = win0_12.index t' → t = t')

/-- Every block of the output array ends at `out`. -/
theorem blocks : θ_run defs (onTc (τ := τ) (main (F := F))) ⟨m, fun _ => 0, ρ⟩ (fun r => (∀ (c : Dev nD) (t : Fin cfg0.N),
      ((cfg0.win 12).blk t).view.read (Elt F) (r.2.mem ((c.tc : Thread nD τ).loc main_v7)) = out m c t) ∧ r.2.sem = fun _ => 0) := by
  refine (θ_run defs _ _).mono (fun r h => ⟨fun c t => ?_, h.2⟩) (run m ρ)
  have e : r.2.mem ((c.tc : Thread nD τ).loc main_v7) = (dats m 0 c).arrAt 12 cfg0.N := (h.1 c).1 12
  rw [e]
  refine ((dats m 0 c).read_blk_arrAt_eq_flushed 12 (fun t t' _ _ hne => (cfg0.win 12).disjoint_blk fun h => hne (idx_inj t t' h)) cfg0.N t t.isLt (flush0_12 t)).trans ?_
  show (cfg0.win 12).cut (grid0.coords t) ((dats m 0 c).after 12 t) = _
  rw [after_12]
  rfl

end Cert.FfnSample

end
-- ==== Proof.SampleRef.lean ====
/-
  The reference of the feed-forward call at the sample's rows, over the extended reals, a row at a time: the row is the
  same function of the row's inputs as the prompt's (Proof/FfnRef.lean).
-/
module

public import proofs.«01_k».proof.Proof.FfnRef
public import proofs.«01_k».proof.Proof.Gen.Reference6Ideal.Run

@[expose] public section

set_option maxRecDepth 16384

noncomputable section

namespace Cert.FfnSample

open Cert.Reference6Ideal Cert.Reference6Ideal.Gen Cert.Reference6Ideal.Value
open Cert.Ffn (nrm upDot conv down mid fin uRow upDot_zero sitofp_zero)
open Idealize.ShloMosaic Idealize.ShloMosaic.TcCoe

section
variable (V0 : Valuation Cert.Reference6Ideal.τ Cert.Reference6Ideal.sig (Elt Ideal))

/-- The reference's arguments, by coordinates. -/
abbrev xA (b : Fin 2) : Fin 8192 → Fin 1024 → EReal := fun q k => V0 (Proc.devRef .tc main_arg0) (ix3 b q k)
abbrev gA : Fin 1024 → EReal := fun k => V0 (Proc.devRef .tc main_arg1) (ix1 k)
abbrev wuA : Fin 1024 → Fin 5632 → EReal := fun k c => V0 (Proc.devRef .tc main_arg2) (ix2 k c)
abbrev cwA : Fin 3 → Fin 5632 → EReal := fun k c => V0 (Proc.devRef .tc main_arg3) (ix2 k c)
abbrev cbA : Fin 5632 → EReal := fun c => V0 (Proc.devRef .tc main_arg4) (ix1 c)
abbrev wdA : Fin 2816 → Fin 1024 → EReal := fun k c => V0 (Proc.devRef .tc main_arg5) (ix2 k c)
abbrev pA (b : Fin 2) (q : Fin 8192) : Fin 256 → EReal := fun k => V0 (Proc.devRef .tc main_arg7) (ix4 1 b q k)
abbrev wgA : Fin 1024 → Fin 1024 → EReal := fun k c => V0 (Proc.devRef .tc main_arg8) (ix2 k c)
abbrev wpA : Fin 256 → Fin 1024 → EReal := fun k c => V0 (Proc.devRef .tc main_arg9) (ix2 k c)
abbrev gpA : Fin 1024 → EReal := fun k => V0 (Proc.devRef .tc main_arg6) (ix1 k)

theorem v14_at (b : Fin 2) (q : Fin 8194) (c : Fin 5632) :
    res_main_v14 V0 (ix3 b q c) = upDot (uRow (xA V0 b) (gA V0) q.val) (wuA V0) c := by
  pointwise [res_main_v14]
  unfold uRow
  have hq := q.isLt
  by_cases h : 1 ≤ q.val ∧ q.val - 1 < 8192
  · rw [dif_pos h, dif_pos ⟨h.1, by omega⟩]
    rfl
  · rw [dif_neg h, dif_neg (fun h' => h ⟨h'.1, by omega⟩), upDot_zero]
    exact sitofp_zero
theorem v37_at (b : Fin 2) (q : Fin 8192) (c : Fin 5632) :
    res_main_v37 V0 (ix3 b q c) = conv (uRow (xA V0 b) (gA V0) q.val) (uRow (xA V0 b) (gA V0) (q.val + 1)) (uRow (xA V0 b) (gA V0) (q.val + 2)) (wuA V0) (cwA V0) (cbA V0) c := by
  pointwise [res_main_v37]
  simp only [v14_at]
  rw [Nat.add_comm 1 q.val]
  have e2 : 2 + q.val = q.val + 2 := Nat.add_comm _ _
  simp only [e2]
  rfl
theorem v54_at (b : Fin 2) (q : Fin 8192) (e : Fin 1024) :
    res_main_v54 V0 (ix3 b q e) = down (uRow (xA V0 b) (gA V0) q.val) (uRow (xA V0 b) (gA V0) (q.val + 1)) (uRow (xA V0 b) (gA V0) (q.val + 2)) (wuA V0) (cwA V0) (cbA V0) (wdA V0) e := by
  pointwise [res_main_v54, res_main_v39]
  simp only [v37_at]
  rfl
theorem v68_at (b : Fin 2) (q : Fin 8192) (e : Fin 1024) :
    res_main_v68 V0 (ix3 b q e) = mid (xA V0 b q) (down (uRow (xA V0 b) (gA V0) q.val) (uRow (xA V0 b) (gA V0) (q.val + 1)) (uRow (xA V0 b) (gA V0) (q.val + 2)) (wuA V0) (cwA V0) (cbA V0) (wdA V0)) (gpA V0) e := by
  pointwise [res_main_v68]
  simp only [v54_at]
  rfl

/-- What the reference leaves in its result, of the residual stream after the feed-forward part and of the arguments. -/
def res (x2 : FVec Ideal S2x8192x1024 .f32) (p : FVec Ideal S2x2x8192x256 .f32) (wg : FVec Ideal S1024x1024 .f32) (wp : FVec Ideal S256x1024 .f32) : FVec Ideal S2x8192x1024 .f32 :=
  addf x2 (mulf (Host.dotGeneral dot_S2x8192x256_S256x1024_S2x8192x1024_2_0_01_1_n_n none (shapeCast _ (extractStridedSlice S1x2x8192x256 ![1, 0, 0, 0] p slices_S2x2x8192x256_S1x2x8192x256_1_0_0_0) shapeCasts_S1x2x8192x256_S2x8192x256) wp) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none x2 wg))))))
/-- The reference's result at a row. -/
theorem res_at (b : Fin 2) (q : Fin 8192) (e : Fin 1024) :
    res (res_main_v68 V0) (V0 (Proc.devRef .tc main_arg7)) (V0 (Proc.devRef .tc main_arg8)) (V0 (Proc.devRef .tc main_arg9)) (ix3 b q e) = fin (mid (xA V0 b q) (down (uRow (xA V0 b) (gA V0) q.val) (uRow (xA V0 b) (gA V0) (q.val + 1)) (uRow (xA V0 b) (gA V0) (q.val + 2)) (wuA V0) (cwA V0) (cbA V0) (wdA V0)) (gpA V0))
      (pA V0 b q) (wpA V0) (wgA V0) e := by
  pointwise [res]
  simp only [v68_at]
  rfl
end
end Cert.FfnSample

end
-- ==== Proof.SampleValue.lean ====
/-
  The value of the feed-forward call at the sample's rows: the kernel's output array at an index is the reference's.
-/
module

public import proofs.«01_k».proof.Proof.SampleRun
public import proofs.«01_k».proof.Proof.FfnRow2
public import proofs.«01_k».proof.Proof.SampleRef
public import Idealize.ShloMosaic.Lib.StableHlo.ReadAt

@[expose] public section

set_option maxRecDepth 16384

noncomputable section

namespace Cert.FfnSample

open Cert.Kernel6Ideal Cert.Kernel6Ideal.Gen
open Cert.Ffn (nrm upDot conv down mid fin uRow normV outV_at norm_own norm_next norm_prev)
open Idealize.ShloMosaic Idealize.ShloMosaic.TcCoe
open Idealize.SL.Sem

/-- Where each window's block lies at a grid point. -/
theorem idx : ∀ t : Fin cfg0.N, win0_0.index t = ![t.val / 16, t.val % 16, 0] ∧ win0_1.index t = ![t.val / 16, min ((t.val % 16 + 1) * 64) 1023, 0]
    ∧ win0_2.index t = ![t.val / 16, t.val % 16 * 64 - 1, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![1, t.val / 16, t.val % 16, 0] ∧ win0_10.index t = ![0, 0] ∧ win0_11.index t = ![0, 0]
    ∧ win0_12.index t = ![t.val / 16, t.val % 16, 0] ∧ (grid0.coords t 1).val = t.val % 16 :=
  (by decide +kernel : ∀ t : Fin grid0.N, win0_0.index t = ![t.val / 16, t.val % 16, 0] ∧ win0_1.index t = ![t.val / 16, min ((t.val % 16 + 1) * 64) 1023, 0]
    ∧ win0_2.index t = ![t.val / 16, t.val % 16 * 64 - 1, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![1, t.val / 16, t.val % 16, 0] ∧ win0_10.index t = ![0, 0] ∧ win0_11.index t = ![0, 0]
    ∧ win0_12.index t = ![t.val / 16, t.val % 16, 0] ∧ (grid0.coords t 1).val = t.val % 16)

section
variable (m : (ℓ : Loc nD τ sig) → Buf (Elt Ideal) ℓ) (c : Dev nD)

/-- The grid point row `q` of sequence `b` is computed at. -/
def pointOf (b : Fin 2) (q : Fin 8192) : Fin cfg0.N := ⟨b.val * 16 + q.val / 512, by have := b.isLt; have := q.isLt; show _ < grid0.N; rw [N_0]; omega⟩
theorem pointOf_val (b : Fin 2) (q : Fin 8192) : (pointOf b q).val = b.val * 16 + q.val / 512 := rfl
/-- Its row within the block. -/
abbrev rowOf (q : Fin 8192) : Fin 512 := ⟨q.val % 512, Nat.mod_lt _ (by norm_num)⟩

theorem blk_x (b : Fin 2) (q q' : Fin 8192) (r : Fin 512) (k : Fin 1024) (e : q'.val = q.val / 512 * 512 + r.val) :
    iblk m c 0 (pointOf b q) (ix3 0 r k) = V m c main_arg0 (ix3 b q' k) := by
  have hb := b.isLt
  have hq := q.isLt
  have h := pointOf_val b q
  blk_ext [iblk, idx (pointOf b q)]
theorem blk_n (b : Fin 2) (q q' : Fin 8192) (k : Fin 1024) (e : q'.val = q.val / 512 * 512 + 512) :
    iblk m c 1 (pointOf b q) (ix3 0 0 k) = V m c main_arg0 (ix3 b q' k) := by
  have hb := b.isLt
  have hq := q.isLt
  have hq' := q'.isLt
  have h := pointOf_val b q
  blk_ext [iblk, idx (pointOf b q)]
theorem blk_p (b : Fin 2) (q q' : Fin 8192) (k : Fin 1024) (e : q'.val + 1 = q.val / 512 * 512) :
    iblk m c 2 (pointOf b q) (ix3 0 7 k) = V m c main_arg0 (ix3 b q' k) := by
  have hb := b.isLt
  have hq := q.isLt
  have hq' := q'.isLt
  have h := pointOf_val b q
  blk_ext [iblk, idx (pointOf b q)]
theorem blk_3 (t : Fin cfg0.N) (i : Fin 1) (j : Fin 1024) : iblk m c 3 t (ix2 i j) = V m c main_v4 (ix2 i j) := by blk_ext [iblk, idx t]
theorem blk_4 (t : Fin cfg0.N) (i : Fin 1024) (j : Fin 5632) : iblk m c 4 t (ix2 i j) = V m c main_v0 (ix2 i j) := by blk_ext [iblk, idx t]
theorem blk_5 (t : Fin cfg0.N) (i : Fin 3) (j : Fin 5632) : iblk m c 5 t (ix2 i j) = V m c main_arg3 (ix2 i j) := by blk_ext [iblk, idx t]
theorem blk_6 (t : Fin cfg0.N) (i : Fin 1) (j : Fin 5632) : iblk m c 6 t (ix2 i j) = V m c main_v5 (ix2 i j) := by blk_ext [iblk, idx t]
theorem blk_7 (t : Fin cfg0.N) (i : Fin 2816) (j : Fin 1024) : iblk m c 7 t (ix2 i j) = V m c main_v1 (ix2 i j) := by blk_ext [iblk, idx t]
theorem blk_8 (t : Fin cfg0.N) (i : Fin 1) (j : Fin 1024) : iblk m c 8 t (ix2 i j) = V m c main_v6 (ix2 i j) := by blk_ext [iblk, idx t]
theorem blk_9 (b : Fin 2) (q : Fin 8192) (k : Fin 256) : iblk m c 9 (pointOf b q) (ix4 0 0 (rowOf q) k) = V m c main_arg7 (ix4 1 b q k) := by
  have hb := b.isLt
  have hq := q.isLt
  have h := pointOf_val b q
  blk_ext [iblk, idx (pointOf b q)]
theorem blk_10 (t : Fin cfg0.N) (i : Fin 1024) (j : Fin 1024) : iblk m c 10 t (ix2 i j) = V m c main_v2 (ix2 i j) := by blk_ext [iblk, idx t]
theorem blk_11 (t : Fin cfg0.N) (i : Fin 256) (j : Fin 1024) : iblk m c 11 t (ix2 i j) = V m c main_v3 (ix2 i j) := by blk_ext [iblk, idx t]

/-- An element of the output array is in its block. -/
theorem blk_out (X : Buf (Elt Ideal) ((c.tc : Thread nD τ).loc main_v7)) (b : Fin 2) (q : Fin 8192) (e : Fin 1024) :
    ((cfg0.win 12).blk (pointOf b q)).view.read (Elt Ideal) X (ix3 0 (rowOf q) e) = X (ix3 b q e) := by
  have hb := b.isLt
  have hq := q.isLt
  have h := pointOf_val b q
  blk_ext [idx (pointOf b q)]

theorem V_v0 (k : Fin 1024) (j : Fin 5632) : V m c main_v0 (ix2 k j) = m ((c : Thread nD τ).loc main_arg2) (ix2 k j) := by
  unfold V
  after_reads_at
theorem V_v1 (k : Fin 2816) (j : Fin 1024) : V m c main_v1 (ix2 k j) = m ((c : Thread nD τ).loc main_arg5) (ix2 k j) := by
  unfold V
  after_reads_at
theorem V_v2 (k : Fin 1024) (j : Fin 1024) : V m c main_v2 (ix2 k j) = m ((c : Thread nD τ).loc main_arg8) (ix2 k j) := by
  unfold V
  after_reads_at
theorem V_v3 (k : Fin 256) (j : Fin 1024) : V m c main_v3 (ix2 k j) = m ((c : Thread nD τ).loc main_arg9) (ix2 k j) := by
  unfold V
  after_reads_at
theorem V_v4 (j : Fin 1024) : V m c main_v4 (ix2 0 j) = m ((c : Thread nD τ).loc main_arg1) (ix1 j) := by
  unfold V
  after_reads_at
theorem V_v5 (j : Fin 5632) : V m c main_v5 (ix2 0 j) = m ((c : Thread nD τ).loc main_arg4) (ix1 j) := by
  unfold V
  after_reads_at
theorem V_v6 (j : Fin 1024) : V m c main_v6 (ix2 0 j) = m ((c : Thread nD τ).loc main_arg6) (ix1 j) := by
  unfold V
  after_reads_at

/-! ## The two agree -/

/-- The kernel's arguments, by coordinates. -/
abbrev xK (b : Fin 2) : Fin 8192 → Fin 1024 → EReal := fun q k => m ((c : Thread nD τ).loc main_arg0) (ix3 b q k)
abbrev gK : Fin 1024 → EReal := fun k => m ((c : Thread nD τ).loc main_arg1) (ix1 k)
abbrev wuK : Fin 1024 → Fin 5632 → EReal := fun k j => m ((c : Thread nD τ).loc main_arg2) (ix2 k j)
abbrev cwK : Fin 3 → Fin 5632 → EReal := fun k j => m ((c : Thread nD τ).loc main_arg3) (ix2 k j)
abbrev cbK : Fin 5632 → EReal := fun j => m ((c : Thread nD τ).loc main_arg4) (ix1 j)
abbrev wdK : Fin 2816 → Fin 1024 → EReal := fun k j => m ((c : Thread nD τ).loc main_arg5) (ix2 k j)
abbrev gpK : Fin 1024 → EReal := fun k => m ((c : Thread nD τ).loc main_arg6) (ix1 k)
abbrev pK (b : Fin 2) (q : Fin 8192) : Fin 256 → EReal := fun k => m ((c : Thread nD τ).loc main_arg7) (ix4 1 b q k)
abbrev wgK : Fin 1024 → Fin 1024 → EReal := fun k j => m ((c : Thread nD τ).loc main_arg8) (ix2 k j)
abbrev wpK : Fin 256 → Fin 1024 → EReal := fun k j => m ((c : Thread nD τ).loc main_arg9) (ix2 k j)

/-- A block's normalised rows. -/
abbrev lhs (t : Fin cfg0.N) : FVec Ideal S528x1024 .bf16 := normV (lift (grid0.coords t)) (iblk m c 0 t) (iblk m c 1 t) (iblk m c 2 t) (iblk m c 3 t)

theorem gain (t : Fin cfg0.N) : (fun k => (iblk m c 3 t : Vec Ideal S1x1024 .f32) (ix2 0 k)) = gK m c :=
  funext fun k => (blk_3 m c t 0 k).trans (V_v4 m c k)

/-- A row of the block's own is the array's row, normalised. -/
theorem lhs_own (b : Fin 2) (q : Fin 8192) (r : Fin 512) (n : ℕ) (hn : n = q.val / 512 * 512 + r.val + 1) (k : Fin 1024) :
    lhs m c (pointOf b q) (ix2 ⟨r.val, by have := r.isLt; omega⟩ k) = uRow (xK m c b) (gK m c) n k := by
  have hq := q.isLt
  have hr := r.isLt
  refine (norm_own _ _ _ _ _ r k).trans ?_
  have hx : (fun k => (iblk m c 0 (pointOf b q) : Vec Ideal S1x512x1024 .f32) (ix3 0 r k)) = xK m c b ⟨n - 1, by omega⟩ :=
    funext fun k => (blk_x m c b q ⟨n - 1, by omega⟩ r k (by show n - 1 = _; omega)).trans (congrFun (V_main_arg0 m c) _)
  rw [gain, hx, uRow, dif_pos ⟨by omega, by omega⟩]

/-- The row after the block is the array's next row, normalised, or zero at the sequence's end. -/
theorem lhs_next (b : Fin 2) (q : Fin 8192) (k : Fin 1024) :
    lhs m c (pointOf b q) (ix2 ⟨512, by norm_num⟩ k) = uRow (xK m c b) (gK m c) (q.val / 512 * 512 + 513) k := by
  have hb := b.isLt
  have hq := q.isLt
  refine (norm_next _ _ _ _ _ k).trans ?_
  have hs : (lift (grid0.coords (pointOf b q)) 1).val = q.val / 512 := by
    show (grid0.coords (pointOf b q) 1).val = _
    rw [(idx (pointOf b q)).2.2.2.2.2.2.2.2.2.2.2.2.2, pointOf_val]; omega
  rw [hs, gain]
  by_cases h : q.val / 512 < 15
  · have hx : (fun k => (iblk m c 1 (pointOf b q) : Vec Ideal S1x8x1024 .f32) (ix3 0 0 k)) = xK m c b ⟨q.val / 512 * 512 + 513 - 1, by omega⟩ :=
      funext fun k => (blk_n m c b q ⟨q.val / 512 * 512 + 513 - 1, by omega⟩ k (by show q.val / 512 * 512 + 513 - 1 = _; omega)).trans (congrFun (V_main_arg0 m c) _)
    rw [if_pos h, mul_one, hx, uRow, dif_pos ⟨by omega, by omega⟩]
  · rw [if_neg h, mul_zero, uRow, dif_neg (by omega)]

/-- The row before the block is the array's previous row, normalised, or zero at the sequence's start. -/
theorem lhs_prev (b : Fin 2) (q : Fin 8192) (k : Fin 1024) :
    lhs m c (pointOf b q) (ix2 ⟨527, by norm_num⟩ k) = uRow (xK m c b) (gK m c) (q.val / 512 * 512) k := by
  have hb := b.isLt
  have hq := q.isLt
  refine (norm_prev _ _ _ _ _ k).trans ?_
  have hs : (lift (grid0.coords (pointOf b q)) 1).val = q.val / 512 := by
    show (grid0.coords (pointOf b q) 1).val = _
    rw [(idx (pointOf b q)).2.2.2.2.2.2.2.2.2.2.2.2.2, pointOf_val]; omega
  rw [hs, gain]
  by_cases h : 0 < q.val / 512
  · have hx : (fun k => (iblk m c 2 (pointOf b q) : Vec Ideal S1x8x1024 .f32) (ix3 0 7 k)) = xK m c b ⟨q.val / 512 * 512 - 1, by omega⟩ :=
      funext fun k => (blk_p m c b q ⟨q.val / 512 * 512 - 1, by omega⟩ k (by show q.val / 512 * 512 - 1 + 1 = _; omega)).trans (congrFun (V_main_arg0 m c) _)
    rw [if_pos h, mul_one, hx, uRow, dif_pos ⟨by omega, by omega⟩]
  · rw [if_neg h, mul_zero, uRow, dif_neg (by omega)]

/-- What the kernel leaves at a row is the finished row. -/
theorem out_at (b : Fin 2) (q : Fin 8192) (e : Fin 1024) :
    out m c (pointOf b q) (ix3 0 (rowOf q) e)
      = fin (mid (xK m c b q) (down (uRow (xK m c b) (gK m c) q.val) (uRow (xK m c b) (gK m c) (q.val + 1)) (uRow (xK m c b) (gK m c) (q.val + 2)) (wuK m c) (cwK m c) (cbK m c) (wdK m c)) (gpK m c))
        (pK m c b q) (wpK m c) (wgK m c) e := by
  have hq := q.isLt
  refine (outV_at _ _ _ _ _ _ _ _ _ _ _ _ _ (rowOf q) e (uRow (xK m c b) (gK m c) q.val) (uRow (xK m c b) (gK m c) (q.val + 1)) (uRow (xK m c b) (gK m c) (q.val + 2)) ?_ ?_ ?_).trans ?_
  · intro k
    by_cases h : q.val % 512 = 0
    · have e : (⟨((rowOf q).val + 527) % 528, Nat.mod_lt _ (by norm_num)⟩ : Fin 528) = ⟨527, by norm_num⟩ := Fin.ext (by show (q.val % 512 + 527) % 528 = 527; omega)
      rw [e]
      refine (lhs_prev m c b q k).trans ?_
      rw [show q.val / 512 * 512 = q.val by omega]
    · have e : (⟨((rowOf q).val + 527) % 528, Nat.mod_lt _ (by norm_num)⟩ : Fin 528) = ⟨(⟨q.val % 512 - 1, by omega⟩ : Fin 512).val, by show q.val % 512 - 1 < 528; omega⟩ :=
        Fin.ext (by show (q.val % 512 + 527) % 528 = q.val % 512 - 1; omega)
      rw [e]
      exact lhs_own m c b q ⟨q.val % 512 - 1, by omega⟩ _ (by show q.val = q.val / 512 * 512 + (q.val % 512 - 1) + 1; omega) k
  · intro k
    exact lhs_own m c b q (rowOf q) _ (by show q.val + 1 = q.val / 512 * 512 + q.val % 512 + 1; omega) k
  · intro k
    by_cases h : q.val % 512 = 511
    · have e : (⟨((rowOf q).val + 1) % 528, Nat.mod_lt _ (by norm_num)⟩ : Fin 528) = ⟨512, by norm_num⟩ := Fin.ext (by show (q.val % 512 + 1) % 528 = 512; omega)
      rw [e]
      refine (lhs_next m c b q k).trans ?_
      rw [show q.val / 512 * 512 + 513 = q.val + 2 by omega]
    · have e : (⟨((rowOf q).val + 1) % 528, Nat.mod_lt _ (by norm_num)⟩ : Fin 528) = ⟨(⟨q.val % 512 + 1, by omega⟩ : Fin 512).val, by show q.val % 512 + 1 < 528; omega⟩ :=
        Fin.ext (by show (q.val % 512 + 1) % 528 = q.val % 512 + 1; omega)
      rw [e]
      exact lhs_own m c b q ⟨q.val % 512 + 1, by omega⟩ _ (by show q.val + 2 = q.val / 512 * 512 + (q.val % 512 + 1) + 1; omega) k
  · have h0 : (fun e => (iblk m c 0 (pointOf b q) : Vec Ideal S1x512x1024 .f32) (ix3 0 (rowOf q) e)) = xK m c b q :=
      funext fun k => (blk_x m c b q q (rowOf q) k (by show q.val = q.val / 512 * 512 + q.val % 512; omega)).trans (congrFun (V_main_arg0 m c) _)
    have h4 : (fun k j => (iblk m c 4 (pointOf b q) : Vec Ideal S1024x5632 .bf16) (ix2 k j)) = wuK m c := funext fun k => funext fun j => (blk_4 m c _ k j).trans (V_v0 m c k j)
    have h5 : (fun k j => (iblk m c 5 (pointOf b q) : Vec Ideal S3x5632 .f32) (ix2 k j)) = cwK m c := funext fun k => funext fun j => (blk_5 m c _ k j).trans (congrFun (V_main_arg3 m c) _)
    have h6 : (fun j => (iblk m c 6 (pointOf b q) : Vec Ideal S1x5632 .f32) (ix2 0 j)) = cbK m c := funext fun j => (blk_6 m c _ 0 j).trans (V_v5 m c j)
    have h7 : (fun k j => (iblk m c 7 (pointOf b q) : Vec Ideal S2816x1024 .bf16) (ix2 k j)) = wdK m c := funext fun k => funext fun j => (blk_7 m c _ k j).trans (V_v1 m c k j)
    have h8 : (fun j => (iblk m c 8 (pointOf b q) : Vec Ideal S1x1024 .f32) (ix2 0 j)) = gpK m c := funext fun j => (blk_8 m c _ 0 j).trans (V_v6 m c j)
    have h9 : (fun k => (iblk m c 9 (pointOf b q) : Vec Ideal S1x1x512x256 .f32) (ix4 0 0 (rowOf q) k)) = pK m c b q := funext fun k => (blk_9 m c b q k).trans (congrFun (V_main_arg7 m c) _)
    have h10 : (fun k j => (iblk m c 10 (pointOf b q) : Vec Ideal S1024x1024 .bf16) (ix2 k j)) = wgK m c := funext fun k => funext fun j => (blk_10 m c _ k j).trans (V_v2 m c k j)
    have h11 : (fun k j => (iblk m c 11 (pointOf b q) : Vec Ideal S256x1024 .bf16) (ix2 k j)) = wpK m c := funext fun k => funext fun j => (blk_11 m c _ k j).trans (V_v3 m c k j)
    rw [h0, h4, h5, h6, h7, h8, h9, h10, h11]

/-- The output array, its blocks what the grid points leave, is the reference's result on the same arguments. -/
theorem array_eq (X : Buf (Elt Ideal) ((c.tc : Thread nD τ).loc main_v7))
    (h : ∀ t : Fin cfg0.N, ((cfg0.win 12).blk t).view.read (Elt Ideal) X = out m c t)
    (V0 : Valuation Cert.Reference6Ideal.τ Cert.Reference6Ideal.sig (Elt Ideal))
    (h0 : V0 (Proc.devRef .tc Cert.Reference6Ideal.main_arg0) = m ((c.tc : Thread nD τ).loc main_arg0))
    (h1 : V0 (Proc.devRef .tc Cert.Reference6Ideal.main_arg1) = m ((c.tc : Thread nD τ).loc main_arg1))
    (h2 : V0 (Proc.devRef .tc Cert.Reference6Ideal.main_arg2) = m ((c.tc : Thread nD τ).loc main_arg2))
    (h3 : V0 (Proc.devRef .tc Cert.Reference6Ideal.main_arg3) = m ((c.tc : Thread nD τ).loc main_arg3))
    (h4 : V0 (Proc.devRef .tc Cert.Reference6Ideal.main_arg4) = m ((c.tc : Thread nD τ).loc main_arg4))
    (h5 : V0 (Proc.devRef .tc Cert.Reference6Ideal.main_arg5) = m ((c.tc : Thread nD τ).loc main_arg5))
    (h6 : V0 (Proc.devRef .tc Cert.Reference6Ideal.main_arg6) = m ((c.tc : Thread nD τ).loc main_arg6))
    (h7 : V0 (Proc.devRef .tc Cert.Reference6Ideal.main_arg7) = m ((c.tc : Thread nD τ).loc main_arg7))
    (h8 : V0 (Proc.devRef .tc Cert.Reference6Ideal.main_arg8) = m ((c.tc : Thread nD τ).loc main_arg8))
    (h9 : V0 (Proc.devRef .tc Cert.Reference6Ideal.main_arg9) = m ((c.tc : Thread nD τ).loc main_arg9)) :
    X = res (Cert.Reference6Ideal.Value.res_main_v68 V0) (V0 (Proc.devRef .tc Cert.Reference6Ideal.main_arg7)) (V0 (Proc.devRef .tc Cert.Reference6Ideal.main_arg8)) (V0 (Proc.devRef .tc Cert.Reference6Ideal.main_arg9)) := by
  funext i
  obtain ⟨b, q, e, rfl⟩ : ∃ (b : Fin 2) (q : Fin 8192) (e : Fin 1024), i = ix3 b q e := ⟨i 0, i 1, i 2, by funext k; fin_cases k <;> rfl⟩
  refine ((blk_out c X b q e).symm.trans (congrFun (h (pointOf b q)) _)).trans ((out_at m c b q e).trans (Eq.trans ?_ (res_at V0 b q e).symm))
  have e0 : xA V0 = xK m c := by unfold xA xK; rw [h0]
  have e1 : gA V0 = gK m c := by unfold gA gK; rw [h1]
  have e2 : wuA V0 = wuK m c := by unfold wuA wuK; rw [h2]
  have e3 : cwA V0 = cwK m c := by unfold cwA cwK; rw [h3]
  have e4 : cbA V0 = cbK m c := by unfold cbA cbK; rw [h4]
  have e5 : wdA V0 = wdK m c := by unfold wdA wdK; rw [h5]
  have e6 : gpA V0 = gpK m c := by unfold gpA gpK; rw [h6]
  have e7 : pA V0 = pK m c := by unfold pA pK; rw [h7]
  have e8 : wgA V0 = wgK m c := by unfold wgA wgK; rw [h8]
  have e9 : wpA V0 = wpK m c := by unfold wpA wpK; rw [h9]
  rw [e0, e1, e2, e3, e4, e5, e6, e7, e8, e9]
end
end Cert.FfnSample

end
-- ==== Proof.SampleWords.lean ====
/-
  The feed-forward kernel of the sample's rows at the machine's words: with each named constant read as the word it was
  printed from, its program and the ideal reading's are one.
-/
module

public import proofs.«01_k».proof.Defs
public import proofs.«01_k».proof.Proof.Gen.Kernel6
public import proofs.«01_k».proof.Proof.SampleRun
public import proofs.«01_k».proof.Proof.FfnWords

@[expose] public section

set_option maxRecDepth 16384

noncomputable section

namespace Cert.FfnSample

open Idealize.ShloMosaic Idealize.ShloMosaic.TcCoe Idealize.SL.Sem

attribute [local instance] Ffn.words

/-- The two bodies are one. -/
theorem body_words : Cert.Kernel6.cc0_ffn (F := Bits) = Cert.Kernel6Ideal.cc0_ffn (F := Bits) := rfl

/-- The two body tables are one. -/
theorem bodies_words : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => rfl
  | ⟨n + 1, h⟩, _ => exact absurd h (Nat.not_lt.2 (Nat.le_add_left _ _))

/-- The two programs' definitions are one. -/
theorem defs_words : Cert.Kernel6.defs (F := Bits) = Cert.Kernel6Ideal.defs (F := Bits) := by
  unfold Cert.Kernel6.defs Cert.Kernel6Ideal.defs
  exact congrArg (Pipeline.defs (Cert.Kernel6.pcfgs (F := Bits))) bodies_words

/-- The kernel at the machine's words terminates, its arguments unchanged and every counter at zero. -/
theorem frame_words : Cert.quiescent_Kernel6 := fun m ρ _ =>
  (congrArg (fun d => θ_run d (onTc (τ := Cert.Kernel6.τ) (Cert.Kernel6.main (F := Bits))) ⟨m, fun _ => 0, ρ⟩ _) defs_words).mpr (frame (F := Bits) m ρ)

end Cert.FfnSample

end
-- ==== Proof.lean ====
/-
  The claim. For the odd layer's output: both readings of the kernel run as Proof/Launch.lean has it (the two programs have one text, so one run serves
  both); the reference runs as its generated run has it; the values agree by Proof/Value.lean.
  For the feed-forward part: the same, by Proof/FfnRun.lean, Proof/FfnWords.lean and Proof/FfnValue.lean; at the sample's
  rows by Proof/SampleRun.lean, Proof/SampleWords.lean and Proof/SampleValue.lean.
  For the two input projections: the generated runs, Proof/InWords.lean for the machine's words, and Proof/InOdd.lean and
  Proof/InEven.lean for the values.
  For the even layer's output projection: the generated run, and Proof/Even.lean for the machine's words and the value.
-/
module

public import proofs.«01_k».proof.Defs
public import proofs.«01_k».proof.Proof.Gen.Kernel
public import proofs.«01_k».proof.Proof.Gen.KernelIdeal
public import proofs.«01_k».proof.Proof.Gen.KernelIdeal.Loops
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.FfnValue
public import proofs.«01_k».proof.Proof.FfnWords
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.InOdd
public import proofs.«01_k».proof.Proof.InEven
public import proofs.«01_k».proof.Proof.InWords
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Even
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.SampleValue
public import proofs.«01_k».proof.Proof.SampleWords

@[expose] public section

noncomputable section

namespace Cert.Proof

open Idealize.ShloMosaic Idealize.ShloMosaic.TcCoe Idealize.ShloMosaic.StableHlo Idealize.SL.Sem

/-- The kernel at the machine's words: the ideal reading's run, at the words. -/
theorem frame_kernel : Cert.quiescent_Kernel := fun m ρ _ =>
  (θ_run Cert.KernelIdeal.defs _ _).mono (fun _ h => ⟨fun c => (h.1 c).2, h.2⟩) (OddOut.run_main (F := Bits) m ρ)

/-- The kernel at the extended reals. -/
theorem frame_kernelIdeal : Cert.quiescent_KernelIdeal := fun m ρ _ =>
  (θ_run Cert.KernelIdeal.defs _ _).mono (fun _ h => ⟨fun c => (h.1 c).2, h.2⟩) (OddOut.run_main (F := Ideal) m ρ)

/-- The reference at the extended reals; it declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From memories agreeing on the arguments the kernel and the reference end with the same array. -/
theorem value : Cert.algebraic_KernelIdeal_ReferenceIdeal := fun m g m' g' _ hag =>
  ⟨OddOut.out m,
   (θ_run Cert.KernelIdeal.defs _ _).mono (fun _ h c => h.1 c) (OddOut.run_main (F := Ideal) m g),
   (θ_run Cert.ReferenceIdeal.defs _ _).mono
     (fun _ h c => ⟨(h c).1.trans (OddOut.out_eq m c m' (hag c).1 (hag c).2.1 (hag c).2.2.1 (hag c).2.2.2.1 (hag c).2.2.2.2.1
       (hag c).2.2.2.2.2.1 (hag c).2.2.2.2.2.2), (h c).2⟩)
     (Cert.ReferenceIdeal.Value.run (F := Ideal) m' g')⟩

/-- The feed-forward kernel at the machine's words. -/
theorem frame_kernel2 : Cert.quiescent_Kernel2 := Ffn.frame_words

/-- The feed-forward kernel at the extended reals. -/
theorem frame_kernel2Ideal : Cert.quiescent_Kernel2Ideal := fun m ρ _ => Ffn.frame (F := Ideal) m ρ

/-- The feed-forward reference at the extended reals; it declares no semaphore. -/
theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The two named constants of the feed-forward kernel stand for the reals the claim gives. -/
theorem names : Cert.preserves_Kernel2_Kernel2Ideal :=
  ⟨IdealRules.named_const.statement Cert.Kernel2Ideal.κ "gelu_cubic" .f32 0xBDD2D3E8#32 _ rfl,
   IdealRules.named_const.statement Cert.Kernel2Ideal.κ "gelu_linear" .f32 0xC0135761#32 _ rfl⟩

/-- From memories agreeing on the arguments the feed-forward kernel and its reference end with the same array. -/
theorem value2 : Cert.algebraic_Kernel2Ideal_Reference2Ideal := fun m g m' g' _ hag =>
  ⟨fun c => Ffn.res (Cert.Reference2Ideal.Value.res_main_v68 (launchContents m' c)) (launchContents m' c (Proc.devRef .tc Cert.Reference2Ideal.main_arg7))
      (launchContents m' c (Proc.devRef .tc Cert.Reference2Ideal.main_arg8)) (launchContents m' c (Proc.devRef .tc Cert.Reference2Ideal.main_arg9)),
   (θ_run Cert.Kernel2Ideal.defs _ _).mono
     (fun _ h c => ⟨Ffn.array_eq m c _ (h.1.1 c) (launchContents m' c) (hag c).1 (hag c).2.1 (hag c).2.2.1 (hag c).2.2.2.1 (hag c).2.2.2.2.1
       (hag c).2.2.2.2.2.1 (hag c).2.2.2.2.2.2.1 (hag c).2.2.2.2.2.2.2.1 (hag c).2.2.2.2.2.2.2.2.1 (hag c).2.2.2.2.2.2.2.2.2, h.2.1 c⟩)
     (θ_run_and (Ffn.blocks (F := Ideal) m g) (Ffn.frame (F := Ideal) m g)),
   (θ_run Cert.Reference2Ideal.defs _ _).mono (fun _ h c => h c) (Cert.Reference2Ideal.Value.run (F := Ideal) m' g')⟩

/-- The odd layer's input projection at the machine's words. -/
theorem frame_kernel3 : Cert.quiescent_Kernel3 := InOdd.frame_words

/-- The odd layer's input projection at the extended reals. -/
theorem frame_kernel3Ideal : Cert.quiescent_Kernel3Ideal := fun m ρ _ => Cert.Kernel3Ideal.Gen.frame (F := Ideal) m ρ

/-- Its reference at the extended reals; it declares no semaphore. -/
theorem frame_reference3Ideal : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

/-- From memories agreeing on the arguments the odd layer's input projection and its reference end with the same arrays. -/
theorem value3 : Cert.algebraic_Kernel3Ideal_Reference3Ideal := fun m g m' g' _ hag =>
  ⟨fun c => InOdd.Ref.qk (InOdd.X m c) (InOdd.G m c) (InOdd.W m c), fun c => InOdd.Ref.val (InOdd.X m c) (InOdd.G m c) (InOdd.W m c), fun c => InOdd.Ref.gate (InOdd.X m c) (InOdd.G m c) (InOdd.W m c), fun c => InOdd.Ref.low (InOdd.X m c) (InOdd.G m c) (InOdd.W m c),
   (θ_run Cert.Kernel3Ideal.defs _ _).mono
     (fun _ h c => ⟨(h c).1.trans (InOdd.final3 m c), (h c).2.1.trans (InOdd.final4 m c), (h c).2.2.1.trans (InOdd.final5 m c), (h c).2.2.2.1.trans (InOdd.final6 m c), (h c).2.2.2.2⟩)
     (Cert.Kernel3Ideal.Value.run_blocks (F := Ideal) m g),
   (θ_run Cert.Reference3Ideal.defs _ _).mono
     (fun _ h c => ⟨(h c).1.trans (InOdd.Ref.qk_congr (hag c).1 (hag c).2.1 (hag c).2.2), (h c).2.1.trans (InOdd.Ref.val_congr (hag c).1 (hag c).2.1 (hag c).2.2), (h c).2.2.1.trans (InOdd.Ref.gate_congr (hag c).1 (hag c).2.1 (hag c).2.2), (h c).2.2.2.1.trans (InOdd.Ref.low_congr (hag c).1 (hag c).2.1 (hag c).2.2), (h c).2.2.2.2⟩)
     (Cert.Reference3Ideal.Value.run (F := Ideal) m' g')⟩

/-- The even layer's input projection at the machine's words. -/
theorem frame_kernel4 : Cert.quiescent_Kernel4 := InEven.frame_words

/-- The even layer's input projection at the extended reals. -/
theorem frame_kernel4Ideal : Cert.quiescent_Kernel4Ideal := fun m ρ _ => Cert.Kernel4Ideal.Gen.frame (F := Ideal) m ρ

/-- Its reference at the extended reals; it declares no semaphore. -/
theorem frame_reference4Ideal : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- From memories agreeing on the arguments the even layer's input projection and its reference end with the same arrays. -/
theorem value4 : Cert.algebraic_Kernel4Ideal_Reference4Ideal := fun m g m' g' _ hag =>
  ⟨fun c => InEven.Ref.att (InEven.X m c) (InEven.G m c) (InEven.W m c), fun c => InEven.Ref.mem (InEven.X m c) (InEven.G m c) (InEven.W m c), fun c => InEven.Ref.gates (InEven.X m c) (InEven.G m c) (InEven.W m c),
   (θ_run Cert.Kernel4Ideal.defs _ _).mono
     (fun _ h c => ⟨(h c).1.trans (InEven.final4 m c), (h c).2.1.trans (InEven.final5 m c), (h c).2.2.1.trans (InEven.final6 m c), (h c).2.2.2⟩)
     (Cert.Kernel4Ideal.Value.run_blocks (F := Ideal) m g),
   (θ_run Cert.Reference4Ideal.defs _ _).mono
     (fun _ h c => ⟨(h c).1.trans (InEven.Ref.att_congr (hag c).1 (hag c).2.1 (hag c).2.2), (h c).2.1.trans (InEven.Ref.mem_congr (hag c).1 (hag c).2.1 (hag c).2.2), (h c).2.2.1.trans (InEven.Ref.gates_congr (hag c).1 (hag c).2.1 (hag c).2.2), (h c).2.2.2⟩)
     (Cert.Reference4Ideal.Value.run (F := Ideal) m' g')⟩

/-- The even layer's output projection at the machine's words. -/
theorem frame_kernel5 : Cert.quiescent_Kernel5 := EvenOut.frame_words

/-- The even layer's output projection at the extended reals. -/
theorem frame_kernel5Ideal : Cert.quiescent_Kernel5Ideal := fun m ρ _ => Cert.Kernel5Ideal.Gen.frame (F := Ideal) m ρ

/-- Its reference at the extended reals; it declares no semaphore. -/
theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- From memories agreeing on the arguments the even layer's output projection and its reference end with the same array. -/
theorem value5 : Cert.algebraic_Kernel5Ideal_Reference5Ideal := fun m g m' g' _ hag =>
  ⟨fun c => EvenOut.res m c,
   (θ_run Cert.Kernel5Ideal.defs _ _).mono (fun _ h c => ⟨(h c).1.trans (EvenOut.final m c), (h c).2⟩) (Cert.Kernel5Ideal.Value.run_blocks (F := Ideal) m g),
   (θ_run Cert.Reference5Ideal.defs _ _).mono
     (fun _ h c => ⟨(h c).1.trans (EvenOut.ref_eq m' c (hag c).1 (hag c).2.1 (hag c).2.2.1 (hag c).2.2.2.1 (hag c).2.2.2.2.1 (hag c).2.2.2.2.2.1
       (hag c).2.2.2.2.2.2.1 (hag c).2.2.2.2.2.2.2), (h c).2⟩)
     (Cert.Reference5Ideal.Value.run (F := Ideal) m' g')⟩

/-- The feed-forward kernel of the sample's rows at the machine's words. -/
theorem frame_kernel6 : Cert.quiescent_Kernel6 := FfnSample.frame_words

/-- The feed-forward kernel of the sample's rows at the extended reals. -/
theorem frame_kernel6Ideal : Cert.quiescent_Kernel6Ideal := fun m ρ _ => FfnSample.frame (F := Ideal) m ρ

/-- The feed-forward reference of the sample's rows at the extended reals; it declares no semaphore. -/
theorem frame_reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The two named constants of that kernel stand for the reals the claim gives. -/
theorem names6 : Cert.preserves_Kernel6_Kernel6Ideal :=
  ⟨IdealRules.named_const.statement Cert.Kernel6Ideal.κ "gelu_cubic" .f32 0xBDD2D3E8#32 _ rfl,
   IdealRules.named_const.statement Cert.Kernel6Ideal.κ "gelu_linear" .f32 0xC0135761#32 _ rfl⟩

/-- From memories agreeing on the arguments the feed-forward kernel of the sample's rows and its reference end with the same array. -/
theorem value6 : Cert.algebraic_Kernel6Ideal_Reference6Ideal := fun m g m' g' _ hag =>
  ⟨fun c => FfnSample.res (Cert.Reference6Ideal.Value.res_main_v68 (launchContents m' c)) (launchContents m' c (Proc.devRef .tc Cert.Reference6Ideal.main_arg7))
      (launchContents m' c (Proc.devRef .tc Cert.Reference6Ideal.main_arg8)) (launchContents m' c (Proc.devRef .tc Cert.Reference6Ideal.main_arg9)),
   (θ_run Cert.Kernel6Ideal.defs _ _).mono
     (fun _ h c => ⟨FfnSample.array_eq m c _ (h.1.1 c) (launchContents m' c) (hag c).1 (hag c).2.1 (hag c).2.2.1 (hag c).2.2.2.1 (hag c).2.2.2.2.1
       (hag c).2.2.2.2.2.1 (hag c).2.2.2.2.2.2.1 (hag c).2.2.2.2.2.2.2.1 (hag c).2.2.2.2.2.2.2.2.1 (hag c).2.2.2.2.2.2.2.2.2, h.2.1 c⟩)
     (θ_run_and (FfnSample.blocks (F := Ideal) m g) (FfnSample.frame (F := Ideal) m g)),
   (θ_run Cert.Reference6Ideal.defs _ _).mono (fun _ h c => h c) (Cert.Reference6Ideal.Value.run (F := Ideal) m' g')⟩

/-- All the claims together. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
   Cert.Kernel3.Gen.facts, Cert.Kernel3Ideal.Gen.facts, Cert.Reference3Ideal.Gen.facts, Cert.Kernel4.Gen.facts, Cert.Kernel4Ideal.Gen.facts, Cert.Reference4Ideal.Gen.facts,
   Cert.Kernel5.Gen.facts, Cert.Kernel5Ideal.Gen.facts, Cert.Reference5Ideal.Gen.facts, Cert.Kernel6.Gen.facts, Cert.Kernel6Ideal.Gen.facts, Cert.Reference6Ideal.Gen.facts,
   frame_kernel, frame_kernelIdeal, frame_referenceIdeal, frame_kernel2, frame_kernel2Ideal, frame_reference2Ideal,
   frame_kernel3, frame_kernel3Ideal, frame_reference3Ideal, frame_kernel4, frame_kernel4Ideal, frame_reference4Ideal,
   frame_kernel5, frame_kernel5Ideal, frame_reference5Ideal, frame_kernel6, frame_kernel6Ideal, frame_reference6Ideal,
   trivial, value, names, value2, trivial, value3, trivial, value4, trivial, value5, names6, value6⟩

end Cert.Proof

end
